-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseRefIdeal (m : (ℓ : Loc Cert.QuantiseRefIdeal.nD Cert.QuantiseRefIdeal.τ Cert.QuantiseRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2)
      ∧ r.2.mem ((c.tc : Thread Cert.Quantise.nD Cert.Quantise.τ).loc Cert.Quantise.main_arg3) = m ((c.tc : Thread Cert.Quantise.nD Cert.Quantise.τ).loc Cert.Quantise.main_arg3)
      ∧ r.2.mem ((c.tc : Thread Cert.Quantise.nD Cert.Quantise.τ).loc Cert.Quantise.main_arg4) = m ((c.tc : Thread Cert.Quantise.nD Cert.Quantise.τ).loc Cert.Quantise.main_arg4))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3)
      ∧ r.2.mem ((c.tc : Thread Cert.QuantiseIdeal.nD Cert.QuantiseIdeal.τ).loc Cert.QuantiseIdeal.main_arg4) = m ((c.tc : Thread Cert.QuantiseIdeal.nD Cert.QuantiseIdeal.τ).loc Cert.QuantiseIdeal.main_arg4))
      ∧ r.2.sem = fun _ => 0)

def quiescent_QuantiseRefIdeal [hQuantiseRefIdeal : Cert.QuantiseRefIdeal.Facts] : Prop :=
  ∀ (m : (ℓ : Loc Cert.QuantiseRefIdeal.nD Cert.QuantiseRefIdeal.τ Cert.QuantiseRefIdeal.sig) → Buf (Elt Ideal) ℓ) (g : Dev Cert.QuantiseRefIdeal.nD → PrngReg), Pre_QuantiseRefIdeal m →
    θ_run (Cert.QuantiseRefIdeal.defs (F := Ideal)) (onTc (τ := Cert.QuantiseRefIdeal.τ) (Cert.QuantiseRefIdeal.main (F := Ideal))) ⟨m, fun _ => 0, g⟩ (fun r => (∀ c : Dev Cert.QuantiseRefIdeal.nD,
      r.2.mem ((c.tc : Thread Cert.QuantiseRefIdeal.nD Cert.QuantiseRefIdeal.τ).loc Cert.QuantiseRefIdeal.main_arg0) = m ((c.tc : Thread Cert.QuantiseRefIdeal.nD Cert.QuantiseRefIdeal.τ).loc Cert.QuantiseRefIdeal.main_arg0)
      ∧ r.2.mem ((c.tc : Thread Cert.QuantiseRefIdeal.nD Cert.QuantiseRefIdeal.τ).loc Cert.QuantiseRefIdeal.main_arg1) = m ((c.tc : Thread Cert.QuantiseRefIdeal.nD Cert.QuantiseRefIdeal.τ).loc Cert.QuantiseRefIdeal.main_arg1)
      ∧ r.2.mem ((c.tc : Thread Cert.QuantiseRefIdeal.nD Cert.QuantiseRefIdeal.τ).loc Cert.QuantiseRefIdeal.main_arg2) = m ((c.tc : Thread Cert.QuantiseRefIdeal.nD Cert.QuantiseRefIdeal.τ).loc Cert.QuantiseRefIdeal.main_arg2)
      ∧ r.2.mem ((c.tc : Thread Cert.QuantiseRefIdeal.nD Cert.QuantiseRefIdeal.τ).loc Cert.QuantiseRefIdeal.main_arg3) = m ((c.tc : Thread Cert.QuantiseRefIdeal.nD Cert.QuantiseRefIdeal.τ).loc Cert.QuantiseRefIdeal.main_arg3)
      ∧ r.2.mem ((c.tc : Thread Cert.QuantiseRefIdeal.nD Cert.QuantiseRefIdeal.τ).loc Cert.QuantiseRefIdeal.main_arg4) = m ((c.tc : Thread Cert.QuantiseRefIdeal.nD Cert.QuantiseRefIdeal.τ).loc Cert.QuantiseRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseRefIdeal [hQuantiseIdeal : Cert.QuantiseIdeal.Facts] [hQuantiseRefIdeal : Cert.QuantiseRefIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseRefIdeal.nD Cert.QuantiseRefIdeal.τ Cert.QuantiseRefIdeal.sig) → Buf (Elt Ideal) ℓ) (g' : Dev Cert.QuantiseRefIdeal.nD → PrngReg), Pre_QuantiseIdeal m →
    (∀ c : Dev Cert.QuantiseIdeal.nD,
      m' ((c.tc : Thread Cert.QuantiseRefIdeal.nD Cert.QuantiseRefIdeal.τ).loc Cert.QuantiseRefIdeal.main_arg0) = m ((c.tc : Thread Cert.QuantiseIdeal.nD Cert.QuantiseIdeal.τ).loc Cert.QuantiseIdeal.main_arg0)
      ∧ m' ((c.tc : Thread Cert.QuantiseRefIdeal.nD Cert.QuantiseRefIdeal.τ).loc Cert.QuantiseRefIdeal.main_arg1) = m ((c.tc : Thread Cert.QuantiseIdeal.nD Cert.QuantiseIdeal.τ).loc Cert.QuantiseIdeal.main_arg1)
      ∧ m' ((c.tc : Thread Cert.QuantiseRefIdeal.nD Cert.QuantiseRefIdeal.τ).loc Cert.QuantiseRefIdeal.main_arg2) = m ((c.tc : Thread Cert.QuantiseIdeal.nD Cert.QuantiseIdeal.τ).loc Cert.QuantiseIdeal.main_arg2)
      ∧ m' ((c.tc : Thread Cert.QuantiseRefIdeal.nD Cert.QuantiseRefIdeal.τ).loc Cert.QuantiseRefIdeal.main_arg3) = m ((c.tc : Thread Cert.QuantiseIdeal.nD Cert.QuantiseIdeal.τ).loc Cert.QuantiseIdeal.main_arg3)
      ∧ m' ((c.tc : Thread Cert.QuantiseRefIdeal.nD Cert.QuantiseRefIdeal.τ).loc Cert.QuantiseRefIdeal.main_arg4) = m ((c.tc : Thread Cert.QuantiseIdeal.nD Cert.QuantiseIdeal.τ).loc Cert.QuantiseIdeal.main_arg4)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)) (v3 : (c : Dev Cert.QuantiseIdeal.nD) → Buf (Elt Ideal) ((c.tc : Thread Cert.QuantiseIdeal.nD Cert.QuantiseIdeal.τ).loc Cert.QuantiseIdeal.main_v0_3)) (v4 : (c : Dev Cert.QuantiseIdeal.nD) → Buf (Elt Ideal) ((c.tc : Thread Cert.QuantiseIdeal.nD Cert.QuantiseIdeal.τ).loc Cert.QuantiseIdeal.main_v0_4)) (v5 : (c : Dev Cert.QuantiseIdeal.nD) → Buf (Elt Ideal) ((c.tc : Thread Cert.QuantiseIdeal.nD Cert.QuantiseIdeal.τ).loc Cert.QuantiseIdeal.main_v0_5)) (v6 : (c : Dev Cert.QuantiseIdeal.nD) → Buf (Elt Ideal) ((c.tc : Thread Cert.QuantiseIdeal.nD Cert.QuantiseIdeal.τ).loc Cert.QuantiseIdeal.main_v0_6)) (v7 : (c : Dev Cert.QuantiseIdeal.nD) → Buf (Elt Ideal) ((c.tc : Thread Cert.QuantiseIdeal.nD Cert.QuantiseIdeal.τ).loc Cert.QuantiseIdeal.main_v0_7)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_v0_3) = v3 c
          ∧ r.2.mem ((c.tc : Thread Cert.QuantiseIdeal.nD Cert.QuantiseIdeal.τ).loc Cert.QuantiseIdeal.main_v0_4) = v4 c
          ∧ r.2.mem ((c.tc : Thread Cert.QuantiseIdeal.nD Cert.QuantiseIdeal.τ).loc Cert.QuantiseIdeal.main_v0_5) = v5 c
          ∧ r.2.mem ((c.tc : Thread Cert.QuantiseIdeal.nD Cert.QuantiseIdeal.τ).loc Cert.QuantiseIdeal.main_v0_6) = v6 c
          ∧ r.2.mem ((c.tc : Thread Cert.QuantiseIdeal.nD Cert.QuantiseIdeal.τ).loc Cert.QuantiseIdeal.main_v0_7) = v7 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
          ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3)
          ∧ r.2.mem ((c.tc : Thread Cert.QuantiseIdeal.nD Cert.QuantiseIdeal.τ).loc Cert.QuantiseIdeal.main_arg4) = m ((c.tc : Thread Cert.QuantiseIdeal.nD Cert.QuantiseIdeal.τ).loc Cert.QuantiseIdeal.main_arg4))
      ∧ θ_run (Cert.QuantiseRefIdeal.defs (F := Ideal)) (onTc (τ := Cert.QuantiseRefIdeal.τ) (Cert.QuantiseRefIdeal.main (F := Ideal))) ⟨m', fun _ => 0, g'⟩ (fun r => ∀ c : Dev Cert.QuantiseRefIdeal.nD,
          r.2.mem ((c.tc : Thread Cert.QuantiseRefIdeal.nD Cert.QuantiseRefIdeal.τ).loc Cert.QuantiseRefIdeal.main_v0_0) = v0 c
          ∧ r.2.mem ((c.tc : Thread Cert.QuantiseRefIdeal.nD Cert.QuantiseRefIdeal.τ).loc Cert.QuantiseRefIdeal.main_v0_1) = v1 c
          ∧ r.2.mem ((c.tc : Thread Cert.QuantiseRefIdeal.nD Cert.QuantiseRefIdeal.τ).loc Cert.QuantiseRefIdeal.main_v0_2) = v2 c
          ∧ r.2.mem ((c.tc : Thread Cert.QuantiseRefIdeal.nD Cert.QuantiseRefIdeal.τ).loc Cert.QuantiseRefIdeal.main_v0_3) = v3 c
          ∧ r.2.mem ((c.tc : Thread Cert.QuantiseRefIdeal.nD Cert.QuantiseRefIdeal.τ).loc Cert.QuantiseRefIdeal.main_v0_4) = v4 c
          ∧ r.2.mem ((c.tc : Thread Cert.QuantiseRefIdeal.nD Cert.QuantiseRefIdeal.τ).loc Cert.QuantiseRefIdeal.main_v0_5) = v5 c
          ∧ r.2.mem ((c.tc : Thread Cert.QuantiseRefIdeal.nD Cert.QuantiseRefIdeal.τ).loc Cert.QuantiseRefIdeal.main_v0_6) = v6 c
          ∧ r.2.mem ((c.tc : Thread Cert.QuantiseRefIdeal.nD Cert.QuantiseRefIdeal.τ).loc Cert.QuantiseRefIdeal.main_v0_7) = v7 c
          ∧ r.2.mem ((c.tc : Thread Cert.QuantiseRefIdeal.nD Cert.QuantiseRefIdeal.τ).loc Cert.QuantiseRefIdeal.main_arg0) = m' ((c.tc : Thread Cert.QuantiseRefIdeal.nD Cert.QuantiseRefIdeal.τ).loc Cert.QuantiseRefIdeal.main_arg0)
          ∧ r.2.mem ((c.tc : Thread Cert.QuantiseRefIdeal.nD Cert.QuantiseRefIdeal.τ).loc Cert.QuantiseRefIdeal.main_arg1) = m' ((c.tc : Thread Cert.QuantiseRefIdeal.nD Cert.QuantiseRefIdeal.τ).loc Cert.QuantiseRefIdeal.main_arg1)
          ∧ r.2.mem ((c.tc : Thread Cert.QuantiseRefIdeal.nD Cert.QuantiseRefIdeal.τ).loc Cert.QuantiseRefIdeal.main_arg2) = m' ((c.tc : Thread Cert.QuantiseRefIdeal.nD Cert.QuantiseRefIdeal.τ).loc Cert.QuantiseRefIdeal.main_arg2)
          ∧ r.2.mem ((c.tc : Thread Cert.QuantiseRefIdeal.nD Cert.QuantiseRefIdeal.τ).loc Cert.QuantiseRefIdeal.main_arg3) = m' ((c.tc : Thread Cert.QuantiseRefIdeal.nD Cert.QuantiseRefIdeal.τ).loc Cert.QuantiseRefIdeal.main_arg3)
          ∧ r.2.mem ((c.tc : Thread Cert.QuantiseRefIdeal.nD Cert.QuantiseRefIdeal.τ).loc Cert.QuantiseRefIdeal.main_arg4) = m' ((c.tc : Thread Cert.QuantiseRefIdeal.nD Cert.QuantiseRefIdeal.τ).loc Cert.QuantiseRefIdeal.main_arg4))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseRefIdeal : Cert.QuantiseRefIdeal.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseRefIdeal (hQuantiseRefIdeal := hQuantiseRefIdeal)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseRefIdeal (hQuantiseIdeal := hQuantiseIdeal) (hQuantiseRefIdeal := hQuantiseRefIdeal)
-- ==== Kernel.lean ====
abbrev S1x4096 : Shape := ⟨2, ![1, 4096]⟩
abbrev S4096x2048 : Shape := ⟨2, ![4096, 2048]⟩
abbrev S2048x16384 : Shape := ⟨2, ![2048, 16384]⟩
abbrev S16x16384 : Shape := ⟨2, ![16, 16384]⟩
abbrev S2048x4096 : Shape := ⟨2, ![2048, 4096]⟩
abbrev S4096x16384 : Shape := ⟨2, ![4096, 16384]⟩
abbrev S8x4096 : Shape := ⟨2, ![8, 4096]⟩
abbrev S2048x512 : Shape := ⟨2, ![2048, 512]⟩
abbrev S16x512 : Shape := ⟨2, ![16, 512]⟩
abbrev S64x4096 : Shape := ⟨2, ![64, 4096]⟩
abbrev S4096x512 : Shape := ⟨2, ![4096, 512]⟩
abbrev S1x512 : Shape := ⟨2, ![1, 512]⟩
abbrev S128x512 : Shape := ⟨2, ![128, 512]⟩
abbrev S1024x2048 : Shape := ⟨2, ![1024, 2048]⟩
abbrev S1024x512 : Shape := ⟨2, ![1024, 512]⟩
abbrev S64x128 : Shape := ⟨2, ![64, 128]⟩
abbrev S64 : Shape := ⟨1, ![64]⟩
abbrev S64x1 : Shape := ⟨2, ![64, 1]⟩
abbrev S1x128 : Shape := ⟨2, ![1, 128]⟩
abbrev S8x128 : Shape := ⟨2, ![8, 128]⟩
abbrev S4096 : Shape := ⟨1, ![4096]⟩

abbrev nBuf : Space → Nat
  | .hbm => 9
  | .vmem => 16
  | .smem => 0
  | _ => 0

abbrev bufTy : (tb : Table) → Fin (tcTables nBuf tb) → BufTy
  | .hbm, ⟨0, _⟩ => ⟨S1x4096, .f32⟩
  | .hbm, ⟨1, _⟩ => ⟨S4096x2048, .bf16⟩
  | .hbm, ⟨2, _⟩ => ⟨S2048x16384, .fp8e5m2⟩
  | .hbm, ⟨3, _⟩ => ⟨S16x16384, .f32⟩
  | .hbm, ⟨4, _⟩ => ⟨S2048x4096, .f32⟩
  | .hbm, ⟨5, _⟩ => ⟨S2048x4096, .bf16⟩
  | .hbm, ⟨6, _⟩ => ⟨S4096x16384, .f32⟩
  | .hbm, ⟨7, _⟩ => ⟨S2048x4096, .bf16⟩
  | .hbm, ⟨8, _⟩ => ⟨S8x4096, .f32⟩
  | .local _ .vmem, ⟨0, _⟩ => ⟨S1x4096, .f32⟩
  | .local _ .vmem, ⟨1, _⟩ => ⟨S4096x2048, .bf16⟩
  | .local _ .vmem, ⟨2, _⟩ => ⟨S2048x512, .fp8e5m2⟩
  | .local _ .vmem, ⟨3, _⟩ => ⟨S2048x512, .fp8e5m2⟩
  | .local _ .vmem, ⟨4, _⟩ => ⟨S16x512, .f32⟩
  | .local _ .vmem, ⟨5, _⟩ => ⟨S16x512, .f32⟩
  | .local _ .vmem, ⟨6, _⟩ => ⟨S64x4096, .f32⟩
  | .local _ .vmem, ⟨7, _⟩ => ⟨S64x4096, .f32⟩
  | .local _ .vmem, ⟨8, _⟩ => ⟨S64x4096, .bf16⟩
  | .local _ .vmem, ⟨9, _⟩ => ⟨S64x4096, .bf16⟩
  | .local _ .vmem, ⟨10, _⟩ => ⟨S4096x512, .f32⟩
  | .local _ .vmem, ⟨11, _⟩ => ⟨S4096x512, .f32⟩
  | .local _ .vmem, ⟨12, _⟩ => ⟨S64x4096, .bf16⟩
  | .local _ .vmem, ⟨13, _⟩ => ⟨S64x4096, .bf16⟩
  | .local _ .vmem, ⟨14, _⟩ => ⟨S8x4096, .f32⟩
  | .local _ .vmem, ⟨15, _⟩ => ⟨S2048x512, .bf16⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x4096 : Shape := ⟨2, ![1, 4096]⟩
abbrev S4096x2048 : Shape := ⟨2, ![4096, 2048]⟩
abbrev S2048x16384 : Shape := ⟨2, ![2048, 16384]⟩
abbrev S16x16384 : Shape := ⟨2, ![16, 16384]⟩
abbrev S2048x4096 : Shape := ⟨2, ![2048, 4096]⟩
abbrev S4096x16384 : Shape := ⟨2, ![4096, 16384]⟩
abbrev S8x4096 : Shape := ⟨2, ![8, 4096]⟩
abbrev S16x128x16384 : Shape := ⟨3, ![16, 128, 16384]⟩
abbrev S16x1x16384 : Shape := ⟨3, ![16, 1, 16384]⟩
abbrev S2048 : Shape := ⟨1, ![2048]⟩
abbrev S2048x1 : Shape := ⟨2, ![2048, 1]⟩
abbrev S4096 : Shape := ⟨1, ![4096]⟩

abbrev nBuf : Space → Nat
  | .hbm => 9
  | .vmem => 9
  | .smem => 0
  | _ => 0

abbrev bufTy : (tb : Table) → Fin (tcTables nBuf tb) → BufTy
  | .hbm, ⟨0, _⟩ => ⟨S1x4096, .f32⟩
  | .hbm, ⟨1, _⟩ => ⟨S4096x2048, .bf16⟩
  | .hbm, ⟨2, _⟩ => ⟨S2048x16384, .fp8e5m2⟩
  | .hbm, ⟨3, _⟩ => ⟨S16x16384, .f32⟩
  | .hbm, ⟨4, _⟩ => ⟨S2048x4096, .f32⟩
  | .hbm, ⟨5, _⟩ => ⟨S2048x4096, .bf16⟩
  | .hbm, ⟨6, _⟩ => ⟨S4096x16384, .f32⟩
  | .hbm, ⟨7, _⟩ => ⟨S2048x4096, .bf16⟩
  | .hbm, ⟨8, _⟩ => ⟨S8x4096, .f32⟩
  | .local _ .vmem, ⟨0, _⟩ => ⟨S1x4096, .f32⟩
  | .local _ .vmem, ⟨1, _⟩ => ⟨S4096x2048, .bf16⟩
  | .local _ .vmem, ⟨2, _⟩ => ⟨S2048x16384, .fp8e5m2⟩
  | .local _ .vmem, ⟨3, _⟩ => ⟨S16x16384, .f32⟩
  | .local _ .vmem, ⟨4, _⟩ => ⟨S2048x4096, .f32⟩
  | .local _ .vmem, ⟨5, _⟩ => ⟨S2048x4096, .bf16⟩
  | .local _ .vmem, ⟨6, _⟩ => ⟨S4096x16384, .f32⟩
  | .local _ .vmem, ⟨7, _⟩ => ⟨S2048x4096, .bf16⟩
  | .local _ .vmem, ⟨8, _⟩ => ⟨S8x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Quantise.lean ====
abbrev S32x128 : Shape := ⟨2, ![32, 128]⟩
abbrev S2048x4096 : Shape := ⟨2, ![2048, 4096]⟩
abbrev S1x4096 : Shape := ⟨2, ![1, 4096]⟩
abbrev S4096x16384 : Shape := ⟨2, ![4096, 16384]⟩
abbrev S2048x16384 : Shape := ⟨2, ![2048, 16384]⟩
abbrev S2048x128 : Shape := ⟨2, ![2048, 128]⟩
abbrev S16x16384 : Shape := ⟨2, ![16, 16384]⟩
abbrev S16x1x4096 : Shape := ⟨3, ![16, 1, 4096]⟩
abbrev S4096x2048 : Shape := ⟨2, ![4096, 2048]⟩
abbrev S128x4096 : Shape := ⟨2, ![128, 4096]⟩
abbrev S4096x512 : Shape := ⟨2, ![4096, 512]⟩
abbrev S2048x512 : Shape := ⟨2, ![2048, 512]⟩
abbrev S16x512 : Shape := ⟨2, ![16, 512]⟩
abbrev S128x2048 : Shape := ⟨2, ![128, 2048]⟩
abbrev S1x1x2048 : Shape := ⟨3, ![1, 1, 2048]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S128x1 : Shape := ⟨2, ![128, 1]⟩
abbrev S128x256 : Shape := ⟨2, ![128, 256]⟩
abbrev S1x1x128 : Shape := ⟨3, ![1, 1, 128]⟩
abbrev S1x1 : Shape := ⟨2, ![1, 1]⟩
abbrev S128x512 : Shape := ⟨2, ![128, 512]⟩
abbrev S512x512 : Shape := ⟨2, ![512, 512]⟩

abbrev nBuf : Space → Nat
  | .hbm => 13
  | .vmem => 23
  | .smem => 1
  | _ => 0

abbrev bufTy : (tb : Table) → Fin (tcTables nBuf tb) → BufTy
  | .hbm, ⟨0, _⟩ => ⟨S32x128, .f32⟩
  | .hbm, ⟨1, _⟩ => ⟨S2048x4096, .bf16⟩
  | .hbm, ⟨2, _⟩ => ⟨S1x4096, .f32⟩
  | .hbm, ⟨3, _⟩ => ⟨S4096x16384, .fp8e4m3⟩
  | .hbm, ⟨4, _⟩ => ⟨S2048x16384, .bf16⟩
  | .hbm, ⟨5, _⟩ => ⟨S2048x16384, .fp8e5m2⟩
  | .hbm, ⟨6, _⟩ => ⟨S2048x128, .f32⟩
  | .hbm, ⟨7, _⟩ => ⟨S2048x16384, .fp8e5m2⟩
  | .hbm, ⟨8, _⟩ => ⟨S16x16384, .f32⟩
  | .hbm, ⟨9, _⟩ => ⟨S2048x4096, .fp8e4m3⟩
  | .hbm, ⟨10, _⟩ => ⟨S16x1x4096, .f32⟩
  | .hbm, ⟨11, _⟩ => ⟨S4096x2048, .bf16⟩
  | .hbm, ⟨12, _⟩ => ⟨S2048x4096, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S4096x512, .fp8e4m3⟩
  | .local _ .vmem, ⟨4, _⟩ => ⟨S4096x512, .fp8e4m3⟩
  | .local _ .vmem, ⟨5, _⟩ => ⟨S2048x512, .bf16⟩
  | .local _ .vmem, ⟨6, _⟩ => ⟨S2048x512, .bf16⟩
  | .local _ .vmem, ⟨7, _⟩ => ⟨S2048x512, .fp8e5m2⟩
  | .local _ .vmem, ⟨8, _⟩ => ⟨S2048x512, .fp8e5m2⟩
  | .local _ .vmem, ⟨9, _⟩ => ⟨S2048x128, .f32⟩
  | .local _ .vmem, ⟨10, _⟩ => ⟨S2048x512, .fp8e5m2⟩
  | .local _ .vmem, ⟨11, _⟩ => ⟨S2048x512, .fp8e5m2⟩
  | .local _ .vmem, ⟨12, _⟩ => ⟨S16x512, .f32⟩
  | .local _ .vmem, ⟨13, _⟩ => ⟨S16x512, .f32⟩
  | .local _ .vmem, ⟨14, _⟩ => ⟨S128x2048, .fp8e4m3⟩
  | .local _ .vmem, ⟨15, _⟩ => ⟨S128x2048, .fp8e4m3⟩
  | .local _ .vmem, ⟨16, _⟩ => ⟨S1x1x2048, .f32⟩
  | .local _ .vmem, ⟨17, _⟩ => ⟨S1x1x2048, .f32⟩
  | .local _ .vmem, ⟨18, _⟩ => ⟨S2048x128, .bf16⟩
  | .local _ .vmem, ⟨19, _⟩ => ⟨S2048x128, .bf16⟩
  | .local _ .vmem, ⟨20, _⟩ => ⟨S2048x4096, .f32⟩
  | .local _ .vmem, ⟨21, _⟩ => ⟨S2048x512, .bf16⟩
  | .local _ .vmem, ⟨22, _⟩ => ⟨S2048x512, .bf16⟩
  | .local _ .smem, ⟨0, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32 : BitVec 32 := 2048#32
  let v5647 : BitVec 32 := Scalar.muli v5510 c2048_i32
  let c0_i32_2331 : BitVec 32 := 0#32
  let v5648 : BitVec 32 := Scalar.addi v5647 c0_i32_2331
  v5648
def k0_off1 (i : grid0.Coords) (c0_i32_2331 : BitVec 32) : Fin 2 → Nat :=
  let c0_2332 : Index := 0#32
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32 : BitVec 32 := 2048#32
  let v5647 : BitVec 32 := Scalar.muli v5510 c2048_i32
  let v5648 : BitVec 32 := Scalar.addi v5647 c0_i32_2331
  let v5649 : BitVec 32 := v5648
  let v5650 : Index := Scalar.indexCast v5649
  ![0, v5650.toNat]
def k0_off2 (i : grid0.Coords) (c0_i32_2331 : BitVec 32) : Fin 2 → Nat :=
  let c0_2333 : Index := 0#32
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32 : BitVec 32 := 2048#32
  let v5647 : BitVec 32 := Scalar.muli v5510 c2048_i32
  let v5648 : BitVec 32 := Scalar.addi v5647 c0_i32_2331
  let v5649 : BitVec 32 := v5648
  let v5655 : Index := Scalar.indexCast v5649
  ![0, v5655.toNat]
def k0_mult2 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2353 : BitVec 32 := 2048#32
  let v5703 : BitVec 32 := Scalar.muli v5510 c2048_i32_2353
  let c128_i32 : BitVec 32 := 128#32
  let v5704 : BitVec 32 := Scalar.addi v5703 c128_i32
  v5704
def k0_mult3 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2375 : BitVec 32 := 2048#32
  let v5759 : BitVec 32 := Scalar.muli v5510 c2048_i32_2375
  let c256_i32 : BitVec 32 := 256#32
  let v5760 : BitVec 32 := Scalar.addi v5759 c256_i32
  v5760
def k0_mult4 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2397 : BitVec 32 := 2048#32
  let v5815 : BitVec 32 := Scalar.muli v5510 c2048_i32_2397
  let c384_i32 : BitVec 32 := 384#32
  let v5816 : BitVec 32 := Scalar.addi v5815 c384_i32
  v5816
def k0_mult5 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2419 : BitVec 32 := 2048#32
  let v5871 : BitVec 32 := Scalar.muli v5510 c2048_i32_2419
  let c512_i32 : BitVec 32 := 512#32
  let v5872 : BitVec 32 := Scalar.addi v5871 c512_i32
  v5872
def k0_mult6 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2441 : BitVec 32 := 2048#32
  let v5927 : BitVec 32 := Scalar.muli v5510 c2048_i32_2441
  let c640_i32 : BitVec 32 := 640#32
  let v5928 : BitVec 32 := Scalar.addi v5927 c640_i32
  v5928
def k0_mult7 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2463 : BitVec 32 := 2048#32
  let v5983 : BitVec 32 := Scalar.muli v5510 c2048_i32_2463
  let c768_i32 : BitVec 32 := 768#32
  let v5984 : BitVec 32 := Scalar.addi v5983 c768_i32
  v5984
def k0_mult8 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2485 : BitVec 32 := 2048#32
  let v6039 : BitVec 32 := Scalar.muli v5510 c2048_i32_2485
  let c896_i32 : BitVec 32 := 896#32
  let v6040 : BitVec 32 := Scalar.addi v6039 c896_i32
  v6040
def k0_mult9 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2507 : BitVec 32 := 2048#32
  let v6095 : BitVec 32 := Scalar.muli v5510 c2048_i32_2507
  let c1024_i32 : BitVec 32 := 1024#32
  let v6096 : BitVec 32 := Scalar.addi v6095 c1024_i32
  v6096
def k0_mult10 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2529 : BitVec 32 := 2048#32
  let v6151 : BitVec 32 := Scalar.muli v5510 c2048_i32_2529
  let c1152_i32 : BitVec 32 := 1152#32
  let v6152 : BitVec 32 := Scalar.addi v6151 c1152_i32
  v6152
def k0_mult11 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2551 : BitVec 32 := 2048#32
  let v6207 : BitVec 32 := Scalar.muli v5510 c2048_i32_2551
  let c1280_i32 : BitVec 32 := 1280#32
  let v6208 : BitVec 32 := Scalar.addi v6207 c1280_i32
  v6208
def k0_mult12 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2573 : BitVec 32 := 2048#32
  let v6263 : BitVec 32 := Scalar.muli v5510 c2048_i32_2573
  let c1408_i32 : BitVec 32 := 1408#32
  let v6264 : BitVec 32 := Scalar.addi v6263 c1408_i32
  v6264
def k0_mult13 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2595 : BitVec 32 := 2048#32
  let v6319 : BitVec 32 := Scalar.muli v5510 c2048_i32_2595
  let c1536_i32 : BitVec 32 := 1536#32
  let v6320 : BitVec 32 := Scalar.addi v6319 c1536_i32
  v6320
def k0_mult14 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2617 : BitVec 32 := 2048#32
  let v6375 : BitVec 32 := Scalar.muli v5510 c2048_i32_2617
  let c1664_i32 : BitVec 32 := 1664#32
  let v6376 : BitVec 32 := Scalar.addi v6375 c1664_i32
  v6376
def k0_mult15 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2639 : BitVec 32 := 2048#32
  let v6431 : BitVec 32 := Scalar.muli v5510 c2048_i32_2639
  let c1792_i32 : BitVec 32 := 1792#32
  let v6432 : BitVec 32 := Scalar.addi v6431 c1792_i32
  v6432
def k0_mult16 (i : grid0.Coords) : BitVec 32 :=
  let arg0 : BitVec 32 := BitVec.ofNat 32 (i 0).val
  let c31_i32 : BitVec 32 := 31#32
  let v0 : BitVec 32 := Scalar.minsi arg0 c31_i32
  let c2_i32_2273 : BitVec 32 := 2#32
  let c0_i32_2274 : BitVec 32 := 0#32
  let v5501 : BitVec 1 := Scalar.cmpi .eq c2_i32_2273 c0_i32_2274
  let c1_i32_2275 : BitVec 32 := 1#32
  let v5502 : BitVec 32 := Scalar.select v5501 c1_i32_2275 c2_i32_2273
  let v5503 : BitVec 32 := Scalar.remsi v0 v5502
  let c0_i32_2277 : BitVec 32 := 0#32
  let v5505 : BitVec 1 := Scalar.cmpi .slt v5503 c0_i32_2277
  let c0_i32_2278 : BitVec 32 := 0#32
  let v5506 : BitVec 1 := Scalar.cmpi .slt v5502 c0_i32_2278
  let v5507 : BitVec 1 := Scalar.xori v5505 v5506
  let c0_i32_2276 : BitVec 32 := 0#32
  let v5504 : BitVec 1 := Scalar.cmpi .ne v5503 c0_i32_2276
  let v5508 : BitVec 1 := Scalar.andi v5507 v5504
  let v5509 : BitVec 32 := Scalar.addi v5503 v5502
  let v5510 : BitVec 32 := Scalar.select v5508 v5509 v5503
  let c2048_i32_2661 : BitVec 32 := 2048#32
  let v6487 : BitVec 32 := Scalar.muli v5510 c2048_i32_2661
  let c1920_i32 : BitVec 32 := 1920#32
  let v6488 : BitVec 32 := Scalar.addi v6487 c1920_i32
  v6488
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k0_off3 (i : grid0.Coords) (c0_i32_6 : BitVec 32) : Fin 2 → Nat :=
  let c0_7 : Index := 0#32
  let arg0 : BitVec 32 := BitVec.ofNat 32 (i 0).val
  let c1_i32 : BitVec 32 := 1#32
  let v11 : BitVec 32 := Scalar.subi arg0 c1_i32
  let c4_i32 : BitVec 32 := 4#32
  let v12 : BitVec 32 := Scalar.muli v11 c4_i32
  let v13 : BitVec 32 := Scalar.addi v12 c0_i32_6
  let v14 : Index := Scalar.indexCast v13
  ![0, v14.toNat]
def k0_off4 (i : grid0.Coords) (c0_i32_25 : BitVec 32) : Fin 2 → Nat :=
  let c1 : Index := 1#32
  let arg0 : BitVec 32 := BitVec.ofNat 32 (i 0).val
  let c1_i32_23 : BitVec 32 := 1#32
  let v52 : BitVec 32 := Scalar.subi arg0 c1_i32_23
  let c4_i32_24 : BitVec 32 := 4#32
  let v53 : BitVec 32 := Scalar.muli v52 c4_i32_24
  let v54 : BitVec 32 := Scalar.addi v53 c0_i32_25
  let v55 : Index := Scalar.indexCast v54
  ![1, v55.toNat]
def k0_off5 (i : grid0.Coords) (c0_i32_48 : BitVec 32) : Fin 2 → Nat :=
  let c2 : Index := 2#32
  let arg0 : BitVec 32 := BitVec.ofNat 32 (i 0).val
  let c1_i32_46 : BitVec 32 := 1#32
  let v93 : BitVec 32 := Scalar.subi arg0 c1_i32_46
  let c4_i32_47 : BitVec 32 := 4#32
  let v94 : BitVec 32 := Scalar.muli v93 c4_i32_47
  let v95 : BitVec 32 := Scalar.addi v94 c0_i32_48
  let v96 : Index := Scalar.indexCast v95
  ![2, v96.toNat]
def k0_off6 (i : grid0.Coords) (c0_i32_71 : BitVec 32) : Fin 2 → Nat :=
  let c3 : Index := 3#32
  let arg0 : BitVec 32 := BitVec.ofNat 32 (i 0).val
  let c1_i32_69 : BitVec 32 := 1#32
  let v134 : BitVec 32 := Scalar.subi arg0 c1_i32_69
  let c4_i32_70 : BitVec 32 := 4#32
  let v135 : BitVec 32 := Scalar.muli v134 c4_i32_70
  let v136 : BitVec 32 := Scalar.addi v135 c0_i32_71
  let v137 : Index := Scalar.indexCast v136
  ![3, v137.toNat]
def k0_off7 (i : grid0.Coords) (c0_i32_100 : BitVec 32) : Fin 2 → Nat :=
  let c4 : Index := 4#32
  let arg0 : BitVec 32 := BitVec.ofNat 32 (i 0).val
  let c1_i32_98 : BitVec 32 := 1#32
  let v182 : BitVec 32 := Scalar.subi arg0 c1_i32_98
  let c4_i32_99 : BitVec 32 := 4#32
  let v183 : BitVec 32 := Scalar.muli v182 c4_i32_99
  let v184 : BitVec 32 := Scalar.addi v183 c0_i32_100
  let v185 : Index := Scalar.indexCast v184
  ![4, v185.toNat]
def k0_off8 (i : grid0.Coords) (c0_i32_122 : BitVec 32) : Fin 2 → Nat :=
  let c5 : Index := 5#32
  let arg0 : BitVec 32 := BitVec.ofNat 32 (i 0).val
  let c1_i32_120 : BitVec 32 := 1#32
  let v223 : BitVec 32 := Scalar.subi arg0 c1_i32_120
  let c4_i32_121 : BitVec 32 := 4#32
  let v224 : BitVec 32 := Scalar.muli v223 c4_i32_121
  let v225 : BitVec 32 := Scalar.addi v224 c0_i32_122
  let v226 : Index := Scalar.indexCast v225
  ![5, v226.toNat]
def k0_off9 (i : grid0.Coords) (c0_i32_144 : BitVec 32) : Fin 2 → Nat :=
  let c6 : Index := 6#32
  let arg0 : BitVec 32 := BitVec.ofNat 32 (i 0).val
  let c1_i32_142 : BitVec 32 := 1#32
  let v264 : BitVec 32 := Scalar.subi arg0 c1_i32_142
  let c4_i32_143 : BitVec 32 := 4#32
  let v265 : BitVec 32 := Scalar.muli v264 c4_i32_143
  let v266 : BitVec 32 := Scalar.addi v265 c0_i32_144
  let v267 : Index := Scalar.indexCast v266
  ![6, v267.toNat]
def k0_off10 (i : grid0.Coords) (c0_i32_166 : BitVec 32) : Fin 2 → Nat :=
  let c7 : Index := 7#32
  let arg0 : BitVec 32 := BitVec.ofNat 32 (i 0).val
  let c1_i32_164 : BitVec 32 := 1#32
  let v305 : BitVec 32 := Scalar.subi arg0 c1_i32_164
  let c4_i32_165 : BitVec 32 := 4#32
  let v306 : BitVec 32 := Scalar.muli v305 c4_i32_165
  let v307 : BitVec 32 := Scalar.addi v306 c0_i32_166
  let v308 : Index := Scalar.indexCast v307
  ![7, v308.toNat]
def k0_off11 (i : grid0.Coords) (c0_i32_195 : BitVec 32) : Fin 2 → Nat :=
  let c8 : Index := 8#32
  let arg0 : BitVec 32 := BitVec.ofNat 32 (i 0).val
  let c1_i32_193 : BitVec 32 := 1#32
  let v353 : BitVec 32 := Scalar.subi arg0 c1_i32_193
  let c4_i32_194 : BitVec 32 := 4#32
  let v354 : BitVec 32 := Scalar.muli v353 c4_i32_194
  let v355 : BitVec 32 := Scalar.addi v354 c0_i32_195
  let v356 : Index := Scalar.indexCast v355
  ![8, v356.toNat]
def k0_off12 (i : grid0.Coords) (c0_i32_217 : BitVec 32) : Fin 2 → Nat :=
  let c9 : Index := 9#32
  let arg0 : BitVec 32 := BitVec.ofNat 32 (i 0).val
  let c1_i32_215 : BitVec 32 := 1#32
  let v394 : BitVec 32 := Scalar.subi arg0 c1_i32_215
  let c4_i32_216 : BitVec 32 := 4#32
  let v395 : BitVec 32 := Scalar.muli v394 c4_i32_216
  let v396 : BitVec 32 := Scalar.addi v395 c0_i32_217
  let v397 : Index := Scalar.indexCast v396
  ![9, v397.toNat]
def k0_off13 (i : grid0.Coords) (c0_i32_239 : BitVec 32) : Fin 2 → Nat :=
  let c10 : Index := 10#32
  let arg0 : BitVec 32 := BitVec.ofNat 32 (i 0).val
  let c1_i32_237 : BitVec 32 := 1#32
  let v435 : BitVec 32 := Scalar.subi arg0 c1_i32_237
  let c4_i32_238 : BitVec 32 := 4#32
  let v436 : BitVec 32 := Scalar.muli v435 c4_i32_238
  let v437 : BitVec 32 := Scalar.addi v436 c0_i32_239
  let v438 : Index := Scalar.indexCast v437
  ![10, v438.toNat]
def k0_off14 (i : grid0.Coords) (c0_i32_261 : BitVec 32) : Fin 2 → Nat :=
  let c11 : Index := 11#32
  let arg0 : BitVec 32 := BitVec.ofNat 32 (i 0).val
  let c1_i32_259 : BitVec 32 := 1#32
  let v476 : BitVec 32 := Scalar.subi arg0 c1_i32_259
  let c4_i32_260 : BitVec 32 := 4#32
  let v477 : BitVec 32 := Scalar.muli v476 c4_i32_260
  let v478 : BitVec 32 := Scalar.addi v477 c0_i32_261
  let v479 : Index := Scalar.indexCast v478
  ![11, v479.toNat]
def k0_off15 (i : grid0.Coords) (c0_i32_290 : BitVec 32) : Fin 2 → Nat :=
  let c12 : Index := 12#32
  let arg0 : BitVec 32 := BitVec.ofNat 32 (i 0).val
  let c1_i32_288 : BitVec 32 := 1#32
  let v524 : BitVec 32 := Scalar.subi arg0 c1_i32_288
  let c4_i32_289 : BitVec 32 := 4#32
  let v525 : BitVec 32 := Scalar.muli v524 c4_i32_289
  let v526 : BitVec 32 := Scalar.addi v525 c0_i32_290
  let v527 : Index := Scalar.indexCast v526
  ![12, v527.toNat]
def k0_off16 (i : grid0.Coords) (c0_i32_312 : BitVec 32) : Fin 2 → Nat :=
  let c13 : Index := 13#32
  let arg0 : BitVec 32 := BitVec.ofNat 32 (i 0).val
  let c1_i32_310 : BitVec 32 := 1#32
  let v565 : BitVec 32 := Scalar.subi arg0 c1_i32_310
  let c4_i32_311 : BitVec 32 := 4#32
  let v566 : BitVec 32 := Scalar.muli v565 c4_i32_311
  let v567 : BitVec 32 := Scalar.addi v566 c0_i32_312
  let v568 : Index := Scalar.indexCast v567
  ![13, v568.toNat]
def k0_off17 (i : grid0.Coords) (c0_i32_334 : BitVec 32) : Fin 2 → Nat :=
  let c14 : Index := 14#32
  let arg0 : BitVec 32 := BitVec.ofNat 32 (i 0).val
  let c1_i32_332 : BitVec 32 := 1#32
  let v606 : BitVec 32 := Scalar.subi arg0 c1_i32_332
  let c4_i32_333 : BitVec 32 := 4#32
  let v607 : BitVec 32 := Scalar.muli v606 c4_i32_333
  let v608 : BitVec 32 := Scalar.addi v607 c0_i32_334
  let v609 : Index := Scalar.indexCast v608
  ![14, v609.toNat]
def k0_off18 (i : grid0.Coords) (c0_i32_356 : BitVec 32) : Fin 2 → Nat :=
  let c15 : Index := 15#32
  let arg0 : BitVec 32 := BitVec.ofNat 32 (i 0).val
  let c1_i32_354 : BitVec 32 := 1#32
  let v647 : BitVec 32 := Scalar.subi arg0 c1_i32_354
  let c4_i32_355 : BitVec 32 := 4#32
  let v648 : BitVec 32 := Scalar.muli v647 c4_i32_355
  let v649 : BitVec 32 := Scalar.addi v648 c0_i32_356
  let v650 : Index := Scalar.indexCast v649
  ![15, v650.toNat]
def k0_off19 (i : grid0.Coords) (c0_i32_385 : BitVec 32) : Fin 2 → Nat :=
  let c16 : Index := 16#32
  let arg0 : BitVec 32 := BitVec.ofNat 32 (i 0).val
  let c1_i32_383 : BitVec 32 := 1#32
  let v695 : BitVec 32 := Scalar.subi arg0 c1_i32_383
  let c4_i32_384 : BitVec 32 := 4#32
  let v696 : BitVec 32 := Scalar.muli v695 c4_i32_384
  let v697 : BitVec 32 := Scalar.addi v696 c0_i32_385
  let v698 : Index := Scalar.indexCast v697
  ![16, v698.toNat]
def k0_off20 (i : grid0.Coords) (c0_i32_407 : BitVec 32) : Fin 2 → Nat :=
  let c17 : Index := 17#32
  let arg0 : BitVec 32 := BitVec.ofNat 32 (i 0).val
  let c1_i32_405 : BitVec 32 := 1#32
  let v736 : BitVec 32 := Scalar.subi arg0 c1_i32_405
  let c4_i32_406 : BitVec 32 := 4#32
  let v737 : BitVec 32 := Scalar.muli v736 c4_i32_406
  let v738 : BitVec 32 := Scalar.addi v737 c0_i32_407
  let v739 : Index := Scalar.indexCast v738
  ![17, v739.toNat]
def k0_off21 (i : grid0.Coords) (c0_i32_429 : BitVec 32) : Fin 2 → Nat :=
  let c18 : Index := 18#32
  let arg0 : BitVec 32 := BitVec.ofNat 32 (i 0).val
  let c1_i32_427 : BitVec 32 := 1#32
  let v777 : BitVec 32 := Scalar.subi arg0 c1_i32_427
  let c4_i32_428 : BitVec 32 := 4#32
  let v778 : BitVec 32 := Scalar.muli v777 c4_i32_428
  let v779 : BitVec 32 := Scalar.addi v778 c0_i32_429
  let v780 : Index := Scalar.indexCast v779
  ![18, v780.toNat]
def k0_off22 (i : grid0.Coords) (c0_i32_451 : BitVec 32) : Fin 2 → Nat :=
  let c19 : Index := 19#32
  let arg0 : BitVec 32 := BitVec.ofNat 32 (i 0).val
  let c1_i32_449 : BitVec 32 := 1#32
  let v818 : BitVec 32 := Scalar.subi arg0 c1_i32_449
  let c4_i32_450 : BitVec 32 := 4#32
  let v819 : BitVec 32 := Scalar.muli v818 c4_i32_450
  let v820 : BitVec 32 := Scalar.addi v819 c0_i32_451
  let v821 : Index := Scalar.indexCast v820
  ![19, v821.toNat]
def k0_off23 (i : grid0.Coords) (c0_i32_480 : BitVec 32) : Fin 2 → Nat :=
  let c20 : Index := 20#32
  let arg0 : BitVec 32 := BitVec.ofNat 32 (i 0).val
  let c1_i32_478 : BitVec 32 := 1#32
  let v866 : BitVec 32 := Scalar.subi arg0 c1_i32_478
  let c4_i32_479 : BitVec 32 := 4#32
  let v867 : BitVec 32 := Scalar.muli v866 c4_i32_479
  let v868 : BitVec 32 := Scalar.addi v867 c0_i32_480
  let v869 : Index := Scalar.indexCast v868
  ![20, v869.toNat]
def k0_off24 (i : grid0.Coords) (c0_i32_502 : BitVec 32) : Fin 2 → Nat :=
  let c21 : Index := 21#32
  let arg0 : BitVec 32 := BitVec.ofNat 32 (i 0).val
  let c1_i32_500 : BitVec 32 := 1#32
  let v907 : BitVec 32 := Scalar.subi arg0 c1_i32_500
  let c4_i32_501 : BitVec 32 := 4#32
  let v908 : BitVec 32 := Scalar.muli v907 c4_i32_501
  let v909 : BitVec 32 := Scalar.addi v908 c0_i32_502
  let v910 : Index := Scalar.indexCast v909
  ![21, v910.toNat]
def k0_off25 (i : grid0.Coords) (c0_i32_524 : BitVec 32) : Fin 2 → Nat :=
  let c22 : Index := 22#32
  let arg0 : BitVec 32 := BitVec.ofNat 32 (i 0).val
  let c1_i32_522 : BitVec 32 := 1#32
  let v948 : BitVec 32 := Scalar.subi arg0 c1_i32_522
  let c4_i32_523 : BitVec 32 := 4#32
  let v949 : BitVec 32 := Scalar.muli v948 c4_i32_523
  let v950 : BitVec 32 := Scalar.addi v949 c0_i32_524
  let v951 : Index := Scalar.indexCast v950
  ![22, v951.toNat]
def k0_off26 (i : grid0.Coords) (c0_i32_546 : BitVec 32) : Fin 2 → Nat :=
  let c23 : Index := 23#32
  let arg0 : BitVec 32 := BitVec.ofNat 32 (i 0).val
  let c1_i32_544 : BitVec 32 := 1#32
  let v989 : BitVec 32 := Scalar.subi arg0 c1_i32_544
  let c4_i32_545 : BitVec 32 := 4#32
  let v990 : BitVec 32 := Scalar.muli v989 c4_i32_545
  let v991 : BitVec 32 := Scalar.addi v990 c0_i32_546
  let v992 : Index := Scalar.indexCast v991
  ![23, v992.toNat]
def k0_off27 (i : grid0.Coords) (c0_i32_575 : BitVec 32) : Fin 2 → Nat :=
  let c24 : Index := 24#32
  let arg0 : BitVec 32 := BitVec.ofNat 32 (i 0).val
  let c1_i32_573 : BitVec 32 := 1#32
  let v1037 : BitVec 32 := Scalar.subi arg0 c1_i32_573
  let c4_i32_574 : BitVec 32 := 4#32
  let v1038 : BitVec 32 := Scalar.muli v1037 c4_i32_574
  let v1039 : BitVec 32 := Scalar.addi v1038 c0_i32_575
  let v1040 : Index := Scalar.indexCast v1039
  ![24, v1040.toNat]
def k0_off28 (i : grid0.Coords) (c0_i32_597 : BitVec 32) : Fin 2 → Nat :=
  let c25 : Index := 25#32
  let arg0 : BitVec 32 := BitVec.ofNat 32 (i 0).val
  let c1_i32_595 : BitVec 32 := 1#32
  let v1078 : BitVec 32 := Scalar.subi arg0 c1_i32_595
  let c4_i32_596 : BitVec 32 := 4#32
  let v1079 : BitVec 32 := Scalar.muli v1078 c4_i32_596
  let v1080 : BitVec 32 := Scalar.addi v1079 c0_i32_597
  let v1081 : Index := Scalar.indexCast v1080
  ![25, v1081.toNat]
def k0_off29 (i : grid0.Coords) (c0_i32_619 : BitVec 32) : Fin 2 → Nat :=
  let c26 : Index := 26#32
  let arg0 : BitVec 32 := BitVec.ofNat 32 (i 0).val
  let c1_i32_617 : BitVec 32 := 1#32
  let v1119 : BitVec 32 := Scalar.subi arg0 c1_i32_617
  let c4_i32_618 : BitVec 32 := 4#32
  let v1120 : BitVec 32 := Scalar.muli v1119 c4_i32_618
  let v1121 : BitVec 32 := Scalar.addi v1120 c0_i32_619
  let v1122 : Index := Scalar.indexCast v1121
  ![26, v1122.toNat]
def k0_off30 (i : grid0.Coords) (c0_i32_641 : BitVec 32) : Fin 2 → Nat :=
  let c27 : Index := 27#32
  let arg0 : BitVec 32 := BitVec.ofNat 32 (i 0).val
  let c1_i32_639 : BitVec 32 := 1#32
  let v1160 : BitVec 32 := Scalar.subi arg0 c1_i32_639
  let c4_i32_640 : BitVec 32 := 4#32
  let v1161 : BitVec 32 := Scalar.muli v1160 c4_i32_640
  let v1162 : BitVec 32 := Scalar.addi v1161 c0_i32_641
  let v1163 : Index := Scalar.indexCast v1162
  ![27, v1163.toNat]
def k0_off31 (i : grid0.Coords) (c0_i32_670 : BitVec 32) : Fin 2 → Nat :=
  let c28 : Index := 28#32
  let arg0 : BitVec 32 := BitVec.ofNat 32 (i 0).val
  let c1_i32_668 : BitVec 32 := 1#32
  let v1208 : BitVec 32 := Scalar.subi arg0 c1_i32_668
  let c4_i32_669 : BitVec 32 := 4#32
  let v1209 : BitVec 32 := Scalar.muli v1208 c4_i32_669
  let v1210 : BitVec 32 := Scalar.addi v1209 c0_i32_670
  let v1211 : Index := Scalar.indexCast v1210
  ![28, v1211.toNat]
def k0_off32 (i : grid0.Coords) (c0_i32_692 : BitVec 32) : Fin 2 → Nat :=
  let c29 : Index := 29#32
  let arg0 : BitVec 32 := BitVec.ofNat 32 (i 0).val
  let c1_i32_690 : BitVec 32 := 1#32
  let v1249 : BitVec 32 := Scalar.subi arg0 c1_i32_690
  let c4_i32_691 : BitVec 32 := 4#32
  let v1250 : BitVec 32 := Scalar.muli v1249 c4_i32_691
  let v1251 : BitVec 32 := Scalar.addi v1250 c0_i32_692
  let v1252 : Index := Scalar.indexCast v1251
  ![29, v1252.toNat]
def k0_off33 (i : grid0.Coords) (c0_i32_714 : BitVec 32) : Fin 2 → Nat :=
  let c30 : Index := 30#32
  let arg0 : BitVec 32 := BitVec.ofNat 32 (i 0).val
  let c1_i32_712 : BitVec 32 := 1#32
  let v1290 : BitVec 32 := Scalar.subi arg0 c1_i32_712
  let c4_i32_713 : BitVec 32 := 4#32
  let v1291 : BitVec 32 := Scalar.muli v1290 c4_i32_713
  let v1292 : BitVec 32 := Scalar.addi v1291 c0_i32_714
  let v1293 : Index := Scalar.indexCast v1292
  ![30, v1293.toNat]
def k0_off34 (i : grid0.Coords) (c0_i32_736 : BitVec 32) : Fin 2 → Nat :=
  let c31 : Index := 31#32
  let arg0 : BitVec 32 := BitVec.ofNat 32 (i 0).val
  let c1_i32_734 : BitVec 32 := 1#32
  let v1331 : BitVec 32 := Scalar.subi arg0 c1_i32_734
  let c4_i32_735 : BitVec 32 := 4#32
  let v1332 : BitVec 32 := Scalar.muli v1331 c4_i32_735
  let v1333 : BitVec 32 := Scalar.addi v1332 c0_i32_736
  let v1334 : Index := Scalar.indexCast v1333
  ![31, v1334.toNat]
def k0_mult17 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32 : BitVec 32 := 2048#32
  let v7015 : BitVec 32 := Scalar.muli v6878 c2048_i32
  let c0_i32_3137 : BitVec 32 := 0#32
  let v7016 : BitVec 32 := Scalar.addi v7015 c0_i32_3137
  v7016
def k0_off35 (i : grid0.Coords) (c0_i32_3137 : BitVec 32) : Fin 2 → Nat :=
  let c0_3138 : Index := 0#32
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32 : BitVec 32 := 2048#32
  let v7015 : BitVec 32 := Scalar.muli v6878 c2048_i32
  let v7016 : BitVec 32 := Scalar.addi v7015 c0_i32_3137
  let v7017 : BitVec 32 := v7016
  let v7018 : Index := Scalar.indexCast v7017
  ![0, v7018.toNat]
def k0_off36 (i : grid0.Coords) (c0_i32_3137 : BitVec 32) : Fin 2 → Nat :=
  let c0_3139 : Index := 0#32
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32 : BitVec 32 := 2048#32
  let v7015 : BitVec 32 := Scalar.muli v6878 c2048_i32
  let v7016 : BitVec 32 := Scalar.addi v7015 c0_i32_3137
  let v7017 : BitVec 32 := v7016
  let v7023 : Index := Scalar.indexCast v7017
  ![0, v7023.toNat]
def k0_mult18 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3159 : BitVec 32 := 2048#32
  let v7071 : BitVec 32 := Scalar.muli v6878 c2048_i32_3159
  let c128_i32 : BitVec 32 := 128#32
  let v7072 : BitVec 32 := Scalar.addi v7071 c128_i32
  v7072
def k0_mult19 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3181 : BitVec 32 := 2048#32
  let v7127 : BitVec 32 := Scalar.muli v6878 c2048_i32_3181
  let c256_i32 : BitVec 32 := 256#32
  let v7128 : BitVec 32 := Scalar.addi v7127 c256_i32
  v7128
def k0_mult20 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3203 : BitVec 32 := 2048#32
  let v7183 : BitVec 32 := Scalar.muli v6878 c2048_i32_3203
  let c384_i32 : BitVec 32 := 384#32
  let v7184 : BitVec 32 := Scalar.addi v7183 c384_i32
  v7184
def k0_mult21 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3225 : BitVec 32 := 2048#32
  let v7239 : BitVec 32 := Scalar.muli v6878 c2048_i32_3225
  let c512_i32 : BitVec 32 := 512#32
  let v7240 : BitVec 32 := Scalar.addi v7239 c512_i32
  v7240
def k0_mult22 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3247 : BitVec 32 := 2048#32
  let v7295 : BitVec 32 := Scalar.muli v6878 c2048_i32_3247
  let c640_i32 : BitVec 32 := 640#32
  let v7296 : BitVec 32 := Scalar.addi v7295 c640_i32
  v7296
def k0_mult23 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3269 : BitVec 32 := 2048#32
  let v7351 : BitVec 32 := Scalar.muli v6878 c2048_i32_3269
  let c768_i32 : BitVec 32 := 768#32
  let v7352 : BitVec 32 := Scalar.addi v7351 c768_i32
  v7352
def k0_mult24 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3291 : BitVec 32 := 2048#32
  let v7407 : BitVec 32 := Scalar.muli v6878 c2048_i32_3291
  let c896_i32 : BitVec 32 := 896#32
  let v7408 : BitVec 32 := Scalar.addi v7407 c896_i32
  v7408
def k0_mult25 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3313 : BitVec 32 := 2048#32
  let v7463 : BitVec 32 := Scalar.muli v6878 c2048_i32_3313
  let c1024_i32 : BitVec 32 := 1024#32
  let v7464 : BitVec 32 := Scalar.addi v7463 c1024_i32
  v7464
def k0_mult26 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3335 : BitVec 32 := 2048#32
  let v7519 : BitVec 32 := Scalar.muli v6878 c2048_i32_3335
  let c1152_i32 : BitVec 32 := 1152#32
  let v7520 : BitVec 32 := Scalar.addi v7519 c1152_i32
  v7520
def k0_mult27 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3357 : BitVec 32 := 2048#32
  let v7575 : BitVec 32 := Scalar.muli v6878 c2048_i32_3357
  let c1280_i32 : BitVec 32 := 1280#32
  let v7576 : BitVec 32 := Scalar.addi v7575 c1280_i32
  v7576
def k0_mult28 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3379 : BitVec 32 := 2048#32
  let v7631 : BitVec 32 := Scalar.muli v6878 c2048_i32_3379
  let c1408_i32 : BitVec 32 := 1408#32
  let v7632 : BitVec 32 := Scalar.addi v7631 c1408_i32
  v7632
def k0_mult29 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3401 : BitVec 32 := 2048#32
  let v7687 : BitVec 32 := Scalar.muli v6878 c2048_i32_3401
  let c1536_i32 : BitVec 32 := 1536#32
  let v7688 : BitVec 32 := Scalar.addi v7687 c1536_i32
  v7688
def k0_mult30 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3423 : BitVec 32 := 2048#32
  let v7743 : BitVec 32 := Scalar.muli v6878 c2048_i32_3423
  let c1664_i32 : BitVec 32 := 1664#32
  let v7744 : BitVec 32 := Scalar.addi v7743 c1664_i32
  v7744
def k0_mult31 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3445 : BitVec 32 := 2048#32
  let v7799 : BitVec 32 := Scalar.muli v6878 c2048_i32_3445
  let c1792_i32 : BitVec 32 := 1792#32
  let v7800 : BitVec 32 := Scalar.addi v7799 c1792_i32
  v7800
def k0_mult32 (i : grid0.Coords) : BitVec 32 :=
  let arg0 : BitVec 32 := BitVec.ofNat 32 (i 0).val
  let c31_i32 : BitVec 32 := 31#32
  let v0 : BitVec 32 := Scalar.minsi arg0 c31_i32
  let c2_i32_3063 : BitVec 32 := 2#32
  let c0_i32_3064 : BitVec 32 := 0#32
  let v6869 : BitVec 1 := Scalar.cmpi .eq c2_i32_3063 c0_i32_3064
  let c1_i32_3065 : BitVec 32 := 1#32
  let v6870 : BitVec 32 := Scalar.select v6869 c1_i32_3065 c2_i32_3063
  let v6871 : BitVec 32 := Scalar.remsi v0 v6870
  let c0_i32_3067 : BitVec 32 := 0#32
  let v6873 : BitVec 1 := Scalar.cmpi .slt v6871 c0_i32_3067
  let c0_i32_3068 : BitVec 32 := 0#32
  let v6874 : BitVec 1 := Scalar.cmpi .slt v6870 c0_i32_3068
  let v6875 : BitVec 1 := Scalar.xori v6873 v6874
  let c0_i32_3066 : BitVec 32 := 0#32
  let v6872 : BitVec 1 := Scalar.cmpi .ne v6871 c0_i32_3066
  let v6876 : BitVec 1 := Scalar.andi v6875 v6872
  let v6877 : BitVec 32 := Scalar.addi v6871 v6870
  let v6878 : BitVec 32 := Scalar.select v6876 v6877 v6871
  let c2048_i32_3467 : BitVec 32 := 2048#32
  let v7855 : BitVec 32 := Scalar.muli v6878 c2048_i32_3467
  let c1920_i32 : BitVec 32 := 1920#32
  let v7856 : BitVec 32 := Scalar.addi v7855 c1920_i32
  v7856
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, v28.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg0 c31_i32_3
  let c2_i32_4 : BitVec 32 := 2#32
  let v12 : BitVec 32 := Scalar.divsi v11 c2_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v11 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v10.toNat, v28.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== QuantiseRefIdeal.lean ====
abbrev S32x128 : Shape := ⟨2, ![32, 128]⟩
abbrev S2048x4096 : Shape := ⟨2, ![2048, 4096]⟩
abbrev S1x4096 : Shape := ⟨2, ![1, 4096]⟩
abbrev S4096x16384 : Shape := ⟨2, ![4096, 16384]⟩
abbrev S2048x16384 : Shape := ⟨2, ![2048, 16384]⟩
abbrev S2048x128 : Shape := ⟨2, ![2048, 128]⟩
abbrev S16x16384 : Shape := ⟨2, ![16, 16384]⟩
abbrev S16x1x4096 : Shape := ⟨3, ![16, 1, 4096]⟩
abbrev S4096x2048 : Shape := ⟨2, ![4096, 2048]⟩
abbrev S2048x128x128 : Shape := ⟨3, ![2048, 128, 128]⟩
abbrev S253x2048x128 : Shape := ⟨3, ![253, 2048, 128]⟩
abbrev S1x2048x128 : Shape := ⟨3, ![1, 2048, 128]⟩
abbrev S2048x128x1 : Shape := ⟨3, ![2048, 128, 1]⟩
abbrev S16x128x16384 : Shape := ⟨3, ![16, 128, 16384]⟩
abbrev S253x16x16384 : Shape := ⟨3, ![253, 16, 16384]⟩
abbrev S1x16x16384 : Shape := ⟨3, ![1, 16, 16384]⟩
abbrev S16x1x16384 : Shape := ⟨3, ![16, 1, 16384]⟩
abbrev S32x128x128x128 : Shape := ⟨4, ![32, 128, 128, 128]⟩
abbrev S32x1x128x1 : Shape := ⟨4, ![32, 1, 128, 1]⟩
abbrev S2048 : Shape := ⟨1, ![2048]⟩
abbrev S2048x1 : Shape := ⟨2, ![2048, 1]⟩
abbrev S16x128x4096 : Shape := ⟨3, ![16, 128, 4096]⟩
abbrev S16x4096 : Shape := ⟨2, ![16, 4096]⟩
abbrev S253x16x4096 : Shape := ⟨3, ![253, 16, 4096]⟩
abbrev S1x16x4096 : Shape := ⟨3, ![1, 16, 4096]⟩

abbrev nBuf : Space → Nat
  | .hbm => 13
  | .vmem => 13
  | .smem => 0
  | _ => 0

abbrev bufTy : (tb : Table) → Fin (tcTables nBuf tb) → BufTy
  | .hbm, ⟨0, _⟩ => ⟨S32x128, .f32⟩
  | .hbm, ⟨1, _⟩ => ⟨S2048x4096, .bf16⟩
  | .hbm, ⟨2, _⟩ => ⟨S1x4096, .f32⟩
  | .hbm, ⟨3, _⟩ => ⟨S4096x16384, .fp8e4m3⟩
  | .hbm, ⟨4, _⟩ => ⟨S2048x16384, .bf16⟩
  | .hbm, ⟨5, _⟩ => ⟨S2048x16384, .fp8e5m2⟩
  | .hbm, ⟨6, _⟩ => ⟨S2048x128, .f32⟩
  | .hbm, ⟨7, _⟩ => ⟨S2048x16384, .fp8e5m2⟩
  | .hbm, ⟨8, _⟩ => ⟨S16x16384, .f32⟩
  | .hbm, ⟨9, _⟩ => ⟨S2048x4096, .fp8e4m3⟩
  | .hbm, ⟨10, _⟩ => ⟨S16x1x4096, .f32⟩
  | .hbm, ⟨11, _⟩ => ⟨S4096x2048, .bf16⟩
  | .hbm, ⟨12, _⟩ => ⟨S2048x4096, .f32⟩
  | .local _ .vmem, ⟨0, _⟩ => ⟨S32x128, .f32⟩
  | .local _ .vmem, ⟨1, _⟩ => ⟨S2048x4096, .bf16⟩
  | .local _ .vmem, ⟨2, _⟩ => ⟨S1x4096, .f32⟩
  | .local _ .vmem, ⟨3, _⟩ => ⟨S4096x16384, .fp8e4m3⟩
  | .local _ .vmem, ⟨4, _⟩ => ⟨S2048x16384, .bf16⟩
  | .local _ .vmem, ⟨5, _⟩ => ⟨S2048x16384, .fp8e5m2⟩
  | .local _ .vmem, ⟨6, _⟩ => ⟨S2048x128, .f32⟩
  | .local _ .vmem, ⟨7, _⟩ => ⟨S2048x16384, .fp8e5m2⟩
  | .local _ .vmem, ⟨8, _⟩ => ⟨S16x16384, .f32⟩
  | .local _ .vmem, ⟨9, _⟩ => ⟨S2048x4096, .fp8e4m3⟩
  | .local _ .vmem, ⟨10, _⟩ => ⟨S16x1x4096, .f32⟩
  | .local _ .vmem, ⟨11, _⟩ => ⟨S4096x2048, .bf16⟩
  | .local _ .vmem, ⟨12, _⟩ => ⟨S2048x4096, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16384 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16384 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.QuantiseRun.lean ====
module

public import proofs.«01_k».proof.Proof.Gen.Quantise.Frame.RunA

@[expose] public section

set_option maxRecDepth 16384

noncomputable section

/-! The run of the quantiser's body at the points after the first. The text is the printed one, but for the option of one `simp` call: its equations by `rfl` are used as proofs, which is quick where looking for them by unfolding does not end. -/

namespace Cert.Quantise.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 9908000 in

noncomputable def kernelRun0_B (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) :
    Σ' (L5 : List (View.Piece (Elt F) S2048x512 .fp8e5m2)), Σ' (L6 : List (View.Piece (Elt F) S2048x128 .f32)), Σ' (L7 : List (View.Piece (Elt F) S2048x512 .fp8e5m2)), Σ' (L8 : List (View.Piece (Elt F) S16x512 .f32)), Σ' (L9 : List (View.Piece (Elt F) S128x2048 .fp8e4m3)), Σ' (L10 : List (View.Piece (Elt F) S1x1x2048 .f32)), Σ' (L11 : List (View.Piece (Elt F) S2048x128 .bf16)), Σ' (L12 : List (View.Piece (Elt F) S2048x4096 .f32)), Σ' (LS0 : List (View.Piece (Elt F) S2048x512 .bf16)), { LT1 : List (View.Piece (Elt F) S2048x512 .bf16) //
      ∀ (E : Set ℕ) (K : PUnit → sProp (MT nD τ sig Unit (Elt F) ℕ (UR sig nD τ) ℕ)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare xo6 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ owns (c : Thread nD τ) a13 fullShare xo12 ∗ owns (c : Thread nD τ) a14 fullShare xs0 ∗ (∃ d, owns (c : Thread nD τ) a15 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ f, a14.view.loc (c : Thread nD τ) ↦[a14.view.set]{fullShare} a14.view.writes (Elt F) f LS0) ∗ (∃ f, a15.view.loc (c : Thread nD τ) ↦[a15.view.set]{fullShare} a15.view.writes (Elt F) f LT1)) -∗ K ⟨⟩))
          ⊢ wp frame (wpE (defs₀ (F := F)) Variants.none c none) E (cc0_quantise_dgrad i a1 w1 a2 w2 a3 w3 a4 w4 a5 w5 a6 w6 a7 w7 a8 w8 a9 w9 a10 w10 a11 w11 a12 w12 a13 w13 a14 w14 a15 w15) K } := by
  refine ⟨?_, ?_, ?_, ?_, ?_, ?_, ?_, ?_, ?_, ?_, fun E K => ?run⟩
  case run =>
    simp only [cc0_quantise_dgrad_eq_skeleton]; unfold cc0_quantise_dgrad_skel
    simp (implicitDefEqProofs := false) only [k0_part359_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part360_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part361_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part362_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%fs0, %hfs0, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4; obtain rfl := w7.eq_unread hf6; obtain rfl := w13.eq_unread hf12; obtain rfl := w14.eq_unread hfs0
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

end Cert.Quantise.Gen

end
-- ==== Proof.QuantiseFrame.lean ====
module

public import proofs.«01_k».proof.Proof.QuantiseRun
public import Idealize.ShloMosaic.Lib.Claim

@[expose] public section

set_option maxRecDepth 16384

noncomputable section

/-! What the outputs hold case by case and point by point, and the frame: the printed text over the run of the module before. -/

namespace Cert.Quantise.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem cover0_A_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).1 S128x128.size (by sl_kernel_rfl) y

def out0_A_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x512 .fp8e5m2 :=
  VO0_5.read (Elt F) (VO0_5.writes (Elt F) VO0_5.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).1)

theorem cover0_A_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x128.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.1, y ∈ pc.1.set :=
  View.cover_of_tiledBy (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.1 ![128, 128] (by sl_kernel_rfl) y

def out0_A_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x128 .f32 :=
  VO0_6.read (Elt F) (VO0_6.writes (Elt F) VO0_6.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.1)

theorem cover0_A_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.1 S128x128.size (by sl_kernel_rfl) y

def out0_A_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x512 .fp8e5m2 :=
  VO0_7.read (Elt F) (VO0_7.writes (Elt F) VO0_7.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.1)

theorem cover0_A_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S16x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.1 S1x128.size (by sl_kernel_rfl) y

def out0_A_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S16x512 .f32 :=
  VO0_8.read (Elt F) (VO0_8.writes (Elt F) VO0_8.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.1)

theorem cover0_A_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S128x2048.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.1 S128x128.size (by sl_kernel_rfl) y

def out0_A_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S128x2048 .fp8e4m3 :=
  VO0_9.read (Elt F) (VO0_9.writes (Elt F) VO0_9.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.1)

theorem cover0_A_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S1x1x2048.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.1 S1x1x128.size (by sl_kernel_rfl) y

def out0_A_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S1x1x2048 .f32 :=
  VO0_10.read (Elt F) (VO0_10.writes (Elt F) VO0_10.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.1)

theorem cover0_A_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x128.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.1 S128x128.size (by sl_kernel_rfl) y

def out0_A_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x128 .bf16 :=
  VO0_11.read (Elt F) (VO0_11.writes (Elt F) VO0_11.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.1)

theorem cover0_A_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x4096.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.1 S2048x4096.size (by sl_kernel_rfl) y

def out0_A_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x4096 .f32 :=
  VO0_12.read (Elt F) (VO0_12.writes (Elt F) VO0_12.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.1)

theorem scover0_A_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.2.1 S128x128.size (by sl_kernel_rfl) y

def sout0_A_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x512 .bf16 :=
  VS0_0.read (Elt F) (VS0_0.writes (Elt F) VS0_0.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.2.1)

theorem cover0_B_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).1 S128x128.size (by sl_kernel_rfl) y

def out0_B_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x512 .fp8e5m2 :=
  VO0_5.read (Elt F) (VO0_5.writes (Elt F) VO0_5.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).1)

theorem cover0_B_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x128.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.1 S128x128.size (by sl_kernel_rfl) y

def out0_B_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x128 .f32 :=
  VO0_6.read (Elt F) (VO0_6.writes (Elt F) VO0_6.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.1)

theorem cover0_B_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.1 S128x128.size (by sl_kernel_rfl) y

def out0_B_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x512 .fp8e5m2 :=
  VO0_7.read (Elt F) (VO0_7.writes (Elt F) VO0_7.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.1)

theorem cover0_B_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S16x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.1 S1x128.size (by sl_kernel_rfl) y

def out0_B_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S16x512 .f32 :=
  VO0_8.read (Elt F) (VO0_8.writes (Elt F) VO0_8.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.1)

theorem cover0_B_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S128x2048.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.1 S128x128.size (by sl_kernel_rfl) y

def out0_B_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S128x2048 .fp8e4m3 :=
  VO0_9.read (Elt F) (VO0_9.writes (Elt F) VO0_9.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.1)

theorem cover0_B_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S1x1x2048.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.1 S1x1x128.size (by sl_kernel_rfl) y

def out0_B_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S1x1x2048 .f32 :=
  VO0_10.read (Elt F) (VO0_10.writes (Elt F) VO0_10.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.1)

theorem cover0_B_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x128.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.1 S128x128.size (by sl_kernel_rfl) y

def out0_B_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x128 .bf16 :=
  VO0_11.read (Elt F) (VO0_11.writes (Elt F) VO0_11.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.1)

theorem cover0_B_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x4096.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.1 S2048x512.size (by sl_kernel_rfl) y

def out0_B_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x4096 .f32 :=
  VO0_12.read (Elt F) (VO0_12.writes (Elt F) VO0_12.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.1)

theorem scover0_B_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.2.1 S128x128.size (by sl_kernel_rfl) y

def sout0_B_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x512 .bf16 :=
  VS0_0.read (Elt F) (VS0_0.writes (Elt F) VS0_0.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.2.1)

def outsAt0 (c : Dev nD) : (n : ℕ) → n < cfg0.N → Vec F S2048x512 .fp8e5m2 × Vec F S2048x128 .f32 × Vec F S2048x512 .fp8e5m2 × Vec F S16x512 .f32 × Vec F S128x2048 .fp8e4m3 × Vec F S1x1x2048 .f32 × Vec F S2048x128 .bf16 × Vec F S2048x4096 .f32 × Vec F S2048x512 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 33 = 0 then
      if h1 : 1 ≤ (n + 1) then
        False.elim (by have hN : n + 1 < 33 := lt_of_lt_of_eq hn (show cfg0.N = 33 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 1 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2)
      else
        False.elim (by have hN : n + 1 < 33 := lt_of_lt_of_eq hn (show cfg0.N = 33 from N_0); omega)

theorem outsAt0_A (c : Dev nD) (t : Fin cfg0.N) (h0 : t.val % 33 = 0) (h1 : ¬1 ≤ t.val) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 33 = 0) (h1 : 1 ≤ t.val) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2) ∗ (∃ d, owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
    | ⟨11, _⟩ => (outsAt0 m c t.val t.isLt).2.2.2.2.2.2.1
    | ⟨12, _⟩ => (outsAt0 m c t.val t.isLt).2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]
theorem after0_11 (c : Dev nD) (t : Fin cfg0.N) : (dats m 0 c).after 11 t = (outsAt0 m c t.val t.isLt).2.2.2.2.2.2.1 := by dsimp only [dats]
theorem after0_12 (c : Dev nD) (t : Fin cfg0.N) : (dats m 0 c).after 12 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 33 := lt_of_lt_of_eq t.isLt (show cfg0.N = 33 from N_0)
  rw [after0_6, after0_6]
  by_cases h0 : t.val % 33 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 33 := lt_of_lt_of_eq t.isLt (show cfg0.N = 33 from N_0)
  rw [after0_12, after0_12]
  by_cases h0 : t.val % 33 = 0
  · by_cases h1 : 1 ≤ t.val
    · exfalso; omega
    · rw [liveAt0_12_A t ((hcond0_0 t).mpr h0) (fun h => h1 ((hcond0_1 t).mp h))] at hi
      exact absurd hi Bool.false_ne_true
  · by_cases h1 : 1 ≤ t.val
    · rw [liveAt0_12_B t (fun h => h0 ((hcond0_0 t).mp h)) ((hcond0_1 t).mpr h1)] at hi
      exact absurd hi Bool.false_ne_true
    · exfalso; omega

theorem before0_6_B (c : Dev nD) (t : Fin cfg0.N) (h0 : ¬t.val % 33 = 0) (h1 : 1 ≤ t.val) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_B t (fun h => h0 ((hcond0_0 t).mp h)) ((hcond0_1 t).mpr h1)]; exact Bool.false_ne_true)]
  dsimp only [dats]

theorem before0_12_B (c : Dev nD) (t : Fin cfg0.N) (h0 : ¬t.val % 33 = 0) (h1 : 1 ≤ t.val) (d) :
    (dats m 0 c).before 12 t d = (outsAt0 m c (t.val - 1) (Nat.lt_of_le_of_lt (Nat.sub_le _ _) t.isLt)).2.2.2.2.2.2.2.1 := by
  rw [Dat.before_out_traj _ 12 rfl (fun _ _ => rfl) (hcarry0_12 m c) t.val t rfl d,
    if_neg (by rw [notFresh0_12_B t (fun h => h0 ((hcond0_0 t).mp h)) ((hcond0_1 t).mpr h1)]; exact Bool.false_ne_true)]
  dsimp only [dats]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 9600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h))], after0_12]
      by_cases hz : t.val = 0
      · rw [PhiS_castSucc m c t, PhiS_zero m c _ _ hz, PhiA0_eq]
        rw [outsAt0_A m c t h0 h1]
        unfold out0_A_5 out0_A_6 out0_A_7 out0_A_8 out0_A_9 out0_A_10 out0_A_11 out0_A_12 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexact HS0
        isplitl [HS1]; · iexact HS1
        iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _)
      · exfalso; have hN : t.val < 33 := lt_of_lt_of_eq t.isLt (show cfg0.N = 33 from N_0); omega
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1)], after0_12]
      by_cases hz : t.val = 0
      · exfalso; have hN : t.val < 33 := lt_of_lt_of_eq t.isLt (show cfg0.N = 33 from N_0); omega
      · rw [PhiS_castSucc m c t, PhiS_pos m c _ _ hz]
        rw [outsAt0_B m c t h0 h1]
        simp only [before0_6_B m c t h0 h1, before0_12_B m c t h0 h1]
        unfold out0_B_5 out0_B_6 out0_B_7 out0_B_8 out0_B_9 out0_B_10 out0_B_11 out0_B_12 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexact H12
        isplitl [HS0]; · iexact HS0
        isplitl [HS1]; · iexact HS1
        iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 33 := N_0; omega)

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Quantise.Gen

end
-- ==== Proof.QuantiseIdealRun.lean ====
module

public import proofs.«01_k».proof.Proof.Gen.QuantiseIdeal.Frame.RunA

@[expose] public section

set_option maxRecDepth 16384

noncomputable section

/-! The run of the quantiser's body at the points after the first. The text is the printed one, but for the option of one `simp` call: its equations by `rfl` are used as proofs, which is quick where looking for them by unfolding does not end. -/

namespace Cert.QuantiseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 9908000 in

noncomputable def kernelRun0_B (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) :
    Σ' (L5 : List (View.Piece (Elt F) S2048x512 .fp8e5m2)), Σ' (L6 : List (View.Piece (Elt F) S2048x128 .f32)), Σ' (L7 : List (View.Piece (Elt F) S2048x512 .fp8e5m2)), Σ' (L8 : List (View.Piece (Elt F) S16x512 .f32)), Σ' (L9 : List (View.Piece (Elt F) S128x2048 .fp8e4m3)), Σ' (L10 : List (View.Piece (Elt F) S1x1x2048 .f32)), Σ' (L11 : List (View.Piece (Elt F) S2048x128 .bf16)), Σ' (L12 : List (View.Piece (Elt F) S2048x4096 .f32)), Σ' (LS0 : List (View.Piece (Elt F) S2048x512 .bf16)), { LT1 : List (View.Piece (Elt F) S2048x512 .bf16) //
      ∀ (E : Set ℕ) (K : PUnit → sProp (MT nD τ sig Unit (Elt F) ℕ (UR sig nD τ) ℕ)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare xo6 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ owns (c : Thread nD τ) a13 fullShare xo12 ∗ owns (c : Thread nD τ) a14 fullShare xs0 ∗ (∃ d, owns (c : Thread nD τ) a15 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ f, a14.view.loc (c : Thread nD τ) ↦[a14.view.set]{fullShare} a14.view.writes (Elt F) f LS0) ∗ (∃ f, a15.view.loc (c : Thread nD τ) ↦[a15.view.set]{fullShare} a15.view.writes (Elt F) f LT1)) -∗ K ⟨⟩))
          ⊢ wp frame (wpE (defs₀ (F := F)) Variants.none c none) E (cc0_quantise_dgrad i a1 w1 a2 w2 a3 w3 a4 w4 a5 w5 a6 w6 a7 w7 a8 w8 a9 w9 a10 w10 a11 w11 a12 w12 a13 w13 a14 w14 a15 w15) K } := by
  refine ⟨?_, ?_, ?_, ?_, ?_, ?_, ?_, ?_, ?_, ?_, fun E K => ?run⟩
  case run =>
    simp only [cc0_quantise_dgrad_eq_skeleton]; unfold cc0_quantise_dgrad_skel
    simp (implicitDefEqProofs := false) only [k0_part359_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part360_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part361_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part362_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%fs0, %hfs0, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4; obtain rfl := w7.eq_unread hf6; obtain rfl := w13.eq_unread hf12; obtain rfl := w14.eq_unread hfs0
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

end Cert.QuantiseIdeal.Gen

end
-- ==== Proof.QuantiseIdealFrame.lean ====
module

public import proofs.«01_k».proof.Proof.QuantiseIdealRun
public import Idealize.ShloMosaic.Lib.Claim

@[expose] public section

set_option maxRecDepth 16384

noncomputable section

/-! What the outputs hold case by case and point by point, and the frame: the printed text over the run of the module before. -/

namespace Cert.QuantiseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem cover0_A_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).1 S128x128.size (by sl_kernel_rfl) y

def out0_A_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x512 .fp8e5m2 :=
  VO0_5.read (Elt F) (VO0_5.writes (Elt F) VO0_5.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).1)

theorem cover0_A_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x128.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.1, y ∈ pc.1.set :=
  View.cover_of_tiledBy (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.1 ![128, 128] (by sl_kernel_rfl) y

def out0_A_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x128 .f32 :=
  VO0_6.read (Elt F) (VO0_6.writes (Elt F) VO0_6.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.1)

theorem cover0_A_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.1 S128x128.size (by sl_kernel_rfl) y

def out0_A_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x512 .fp8e5m2 :=
  VO0_7.read (Elt F) (VO0_7.writes (Elt F) VO0_7.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.1)

theorem cover0_A_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S16x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.1 S1x128.size (by sl_kernel_rfl) y

def out0_A_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S16x512 .f32 :=
  VO0_8.read (Elt F) (VO0_8.writes (Elt F) VO0_8.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.1)

theorem cover0_A_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S128x2048.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.1 S128x128.size (by sl_kernel_rfl) y

def out0_A_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S128x2048 .fp8e4m3 :=
  VO0_9.read (Elt F) (VO0_9.writes (Elt F) VO0_9.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.1)

theorem cover0_A_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S1x1x2048.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.1 S1x1x128.size (by sl_kernel_rfl) y

def out0_A_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S1x1x2048 .f32 :=
  VO0_10.read (Elt F) (VO0_10.writes (Elt F) VO0_10.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.1)

theorem cover0_A_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x128.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.1 S128x128.size (by sl_kernel_rfl) y

def out0_A_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x128 .bf16 :=
  VO0_11.read (Elt F) (VO0_11.writes (Elt F) VO0_11.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.1)

theorem cover0_A_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x4096.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.1 S2048x4096.size (by sl_kernel_rfl) y

def out0_A_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x4096 .f32 :=
  VO0_12.read (Elt F) (VO0_12.writes (Elt F) VO0_12.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.1)

theorem scover0_A_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) (y : S2048x512.Idx) :
    ∃ pc ∈ (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.2.1, y ∈ pc.1.set :=
  View.cover_of_tiledL (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.2.1 S128x128.size (by sl_kernel_rfl) y

def sout0_A_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : cond0_0 i) (hc1 : ¬cond0_1 i)
    (x0 : Vec F S32x128 .f32) (x1 : Vec F S128x4096 .bf16) (x2 : Vec F S1x4096 .f32) (x3 : Vec F S4096x512 .fp8e4m3) (x4 : Vec F S2048x512 .bf16) : Vec F S2048x512 .bf16 :=
  VS0_0.read (Elt F) (VS0_0.writes (Elt F) VS0_0.junk (kernelRun0_A c i a1 w1 a2 w2 a3 w3 a4 w4 a5 w5 a6 w6 a7 w7 a8 w8 a9 w9 a10 w10 a11 w11 a12 w12 a13 w13 a14 w14 a15 w15 hc0 hc1 x0 x1 x2 x3 x4).2.2.2.2.2.2.2.2.1)

theorem cover0_B_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).1 S128x128.size (by sl_kernel_rfl) y

def out0_B_5 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x512 .fp8e5m2 :=
  VO0_5.read (Elt F) (VO0_5.writes (Elt F) VO0_5.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).1)

theorem cover0_B_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x128.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.1 S128x128.size (by sl_kernel_rfl) y

def out0_B_6 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x128 .f32 :=
  VO0_6.read (Elt F) (VO0_6.writes (Elt F) VO0_6.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.1)

theorem cover0_B_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.1 S128x128.size (by sl_kernel_rfl) y

def out0_B_7 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x512 .fp8e5m2 :=
  VO0_7.read (Elt F) (VO0_7.writes (Elt F) VO0_7.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.1)

theorem cover0_B_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S16x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.1 S1x128.size (by sl_kernel_rfl) y

def out0_B_8 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S16x512 .f32 :=
  VO0_8.read (Elt F) (VO0_8.writes (Elt F) VO0_8.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.1)

theorem cover0_B_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S128x2048.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.1 S128x128.size (by sl_kernel_rfl) y

def out0_B_9 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S128x2048 .fp8e4m3 :=
  VO0_9.read (Elt F) (VO0_9.writes (Elt F) VO0_9.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.1)

theorem cover0_B_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S1x1x2048.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.1 S1x1x128.size (by sl_kernel_rfl) y

def out0_B_10 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S1x1x2048 .f32 :=
  VO0_10.read (Elt F) (VO0_10.writes (Elt F) VO0_10.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.1)

theorem cover0_B_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x128.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.1 S128x128.size (by sl_kernel_rfl) y

def out0_B_11 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x128 .bf16 :=
  VO0_11.read (Elt F) (VO0_11.writes (Elt F) VO0_11.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.1)

theorem cover0_B_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x4096.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.1 S2048x512.size (by sl_kernel_rfl) y

def out0_B_12 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x4096 .f32 :=
  VO0_12.read (Elt F) (VO0_12.writes (Elt F) VO0_12.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.1)

theorem scover0_B_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) (y : S2048x512.Idx) :
    ∃ pc ∈ (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.2.1, y ∈ pc.1.set :=
  View.cover_of_tiledL (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.2.1 S128x128.size (by sl_kernel_rfl) y

def sout0_B_0 (c : Dev nD) (i : grid0.Coords) (a1 : Memref sig .tc .smem S32x128 .f32) (w1 : a1.IsWhole) (a2 : Memref sig .tc .vmem S128x4096 .bf16) (w2 : a2.IsWhole) (a3 : Memref sig .tc .vmem S1x4096 .f32) (w3 : a3.IsWhole) (a4 : Memref sig .tc .vmem S4096x512 .fp8e4m3) (w4 : a4.IsWhole) (a5 : Memref sig .tc .vmem S2048x512 .bf16) (w5 : a5.IsWhole) (a6 : Memref sig .tc .vmem S2048x512 .fp8e5m2) (w6 : a6.IsWhole) (a7 : Memref sig .tc .vmem S2048x128 .f32) (w7 : a7.IsWhole) (a8 : Memref sig .tc .vmem S2048x512 .fp8e5m2) (w8 : a8.IsWhole) (a9 : Memref sig .tc .vmem S16x512 .f32) (w9 : a9.IsWhole) (a10 : Memref sig .tc .vmem S128x2048 .fp8e4m3) (w10 : a10.IsWhole) (a11 : Memref sig .tc .vmem S1x1x2048 .f32) (w11 : a11.IsWhole) (a12 : Memref sig .tc .vmem S2048x128 .bf16) (w12 : a12.IsWhole) (a13 : Memref sig .tc .vmem S2048x4096 .f32) (w13 : a13.IsWhole) (a14 : Memref sig .tc .vmem S2048x512 .bf16) (w14 : a14.IsWhole) (a15 : Memref sig .tc .vmem S2048x512 .bf16) (w15 : a15.IsWhole) (hc0 : ¬cond0_0 i) (hc1 : cond0_1 i)
    (x0 : Vec F S32x128 .f32) (x1 : Vec F S128x4096 .bf16) (x2 : Vec F S1x4096 .f32) (x3 : Vec F S4096x512 .fp8e4m3) (x4 : Vec F S2048x512 .bf16) (xo6 : Vec F S2048x128 .f32) (xo12 : Vec F S2048x4096 .f32) (xs0 : Vec F S2048x512 .bf16) : Vec F S2048x512 .bf16 :=
  VS0_0.read (Elt F) (VS0_0.writes (Elt F) VS0_0.junk (kernelRun0_B c i a1 w1 a2 w2 a3 w3 a4 w4 a5 w5 a6 w6 a7 w7 a8 w8 a9 w9 a10 w10 a11 w11 a12 w12 a13 w13 a14 w14 a15 w15 hc0 hc1 x0 x1 x2 x3 x4 xo6 xo12 xs0).2.2.2.2.2.2.2.2.1)

def outsAt0 (c : Dev nD) : (n : ℕ) → n < cfg0.N → Vec F S2048x512 .fp8e5m2 × Vec F S2048x128 .f32 × Vec F S2048x512 .fp8e5m2 × Vec F S16x512 .f32 × Vec F S128x2048 .fp8e4m3 × Vec F S1x1x2048 .f32 × Vec F S2048x128 .bf16 × Vec F S2048x4096 .f32 × Vec F S2048x512 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 33 = 0 then
      if h1 : 1 ≤ (n + 1) then
        False.elim (by have hN : n + 1 < 33 := lt_of_lt_of_eq hn (show cfg0.N = 33 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 1 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2.2.2.2.1 (outsAt0 c n (Nat.lt_of_succ_lt hn)).2.2.2.2.2.2.2.2)
      else
        False.elim (by have hN : n + 1 < 33 := lt_of_lt_of_eq hn (show cfg0.N = 33 from N_0); omega)

theorem outsAt0_A (c : Dev nD) (t : Fin cfg0.N) (h0 : t.val % 33 = 0) (h1 : ¬1 ≤ t.val) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 33 = 0) (h1 : 1 ≤ t.val) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2) ∗ (∃ d, owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
    | ⟨11, _⟩ => (outsAt0 m c t.val t.isLt).2.2.2.2.2.2.1
    | ⟨12, _⟩ => (outsAt0 m c t.val t.isLt).2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]
theorem after0_11 (c : Dev nD) (t : Fin cfg0.N) : (dats m 0 c).after 11 t = (outsAt0 m c t.val t.isLt).2.2.2.2.2.2.1 := by dsimp only [dats]
theorem after0_12 (c : Dev nD) (t : Fin cfg0.N) : (dats m 0 c).after 12 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 33 := lt_of_lt_of_eq t.isLt (show cfg0.N = 33 from N_0)
  rw [after0_6, after0_6]
  by_cases h0 : t.val % 33 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 33 := lt_of_lt_of_eq t.isLt (show cfg0.N = 33 from N_0)
  rw [after0_12, after0_12]
  by_cases h0 : t.val % 33 = 0
  · by_cases h1 : 1 ≤ t.val
    · exfalso; omega
    · rw [liveAt0_12_A t ((hcond0_0 t).mpr h0) (fun h => h1 ((hcond0_1 t).mp h))] at hi
      exact absurd hi Bool.false_ne_true
  · by_cases h1 : 1 ≤ t.val
    · rw [liveAt0_12_B t (fun h => h0 ((hcond0_0 t).mp h)) ((hcond0_1 t).mpr h1)] at hi
      exact absurd hi Bool.false_ne_true
    · exfalso; omega

theorem before0_6_B (c : Dev nD) (t : Fin cfg0.N) (h0 : ¬t.val % 33 = 0) (h1 : 1 ≤ t.val) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_B t (fun h => h0 ((hcond0_0 t).mp h)) ((hcond0_1 t).mpr h1)]; exact Bool.false_ne_true)]
  dsimp only [dats]

theorem before0_12_B (c : Dev nD) (t : Fin cfg0.N) (h0 : ¬t.val % 33 = 0) (h1 : 1 ≤ t.val) (d) :
    (dats m 0 c).before 12 t d = (outsAt0 m c (t.val - 1) (Nat.lt_of_le_of_lt (Nat.sub_le _ _) t.isLt)).2.2.2.2.2.2.2.1 := by
  rw [Dat.before_out_traj _ 12 rfl (fun _ _ => rfl) (hcarry0_12 m c) t.val t rfl d,
    if_neg (by rw [notFresh0_12_B t (fun h => h0 ((hcond0_0 t).mp h)) ((hcond0_1 t).mpr h1)]; exact Bool.false_ne_true)]
  dsimp only [dats]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 9600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h))], after0_12]
      by_cases hz : t.val = 0
      · rw [PhiS_castSucc m c t, PhiS_zero m c _ _ hz, PhiA0_eq]
        rw [outsAt0_A m c t h0 h1]
        unfold out0_A_5 out0_A_6 out0_A_7 out0_A_8 out0_A_9 out0_A_10 out0_A_11 out0_A_12 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexact HS0
        isplitl [HS1]; · iexact HS1
        iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _)
      · exfalso; have hN : t.val < 33 := lt_of_lt_of_eq t.isLt (show cfg0.N = 33 from N_0); omega
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1)], after0_12]
      by_cases hz : t.val = 0
      · exfalso; have hN : t.val < 33 := lt_of_lt_of_eq t.isLt (show cfg0.N = 33 from N_0); omega
      · rw [PhiS_castSucc m c t, PhiS_pos m c _ _ hz]
        rw [outsAt0_B m c t h0 h1]
        simp only [before0_6_B m c t h0 h1, before0_12_B m c t h0 h1]
        unfold out0_B_5 out0_B_6 out0_B_7 out0_B_8 out0_B_9 out0_B_10 out0_B_11 out0_B_12 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexact H12
        isplitl [HS0]; · iexact HS0
        isplitl [HS1]; · iexact HS1
        iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 33 := N_0; omega)

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.QuantiseIdeal.Gen

end
-- ==== Proof.QuantiseIdealValue.lean ====
module

public import proofs.«01_k».proof.Proof.QuantiseIdealFrame
public import Idealize.ShloMosaic.Lib.Pipeline.Value

@[expose] public section

noncomputable section

/-! The outputs as arrays, from what they hold point by point: the printed text over the frame of the module before. -/

namespace Cert.QuantiseIdeal.Value

open Cert.QuantiseIdeal Cert.QuantiseIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem flushed5_A (c : Dev nD) (t : Fin cfg0.N) (h0 : t.val % 33 = 0) (h1 : ¬1 ≤ t.val) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

theorem flushed5_B (c : Dev nD) (t : Fin cfg0.N) (h0 : ¬t.val % 33 = 0) (h1 : 1 ≤ t.val) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed5, outsAt0_B m c t h0 h1]

theorem entry5 (c : Dev nD) (i : S2048x16384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem flushed6_A (c : Dev nD) (t : Fin cfg0.N) (h0 : t.val % 33 = 0) (h1 : ¬1 ≤ t.val) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed6, outsAt0_A m c t h0 h1]

theorem flushed6_B (c : Dev nD) (t : Fin cfg0.N) (h0 : ¬t.val % 33 = 0) (h1 : 1 ≤ t.val) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed6, outsAt0_B m c t h0 h1]

theorem entry6 (c : Dev nD) (i : S2048x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

theorem flushed7_A (c : Dev nD) (t : Fin cfg0.N) (h0 : t.val % 33 = 0) (h1 : ¬1 ≤ t.val) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed7, outsAt0_A m c t h0 h1]

theorem flushed7_B (c : Dev nD) (t : Fin cfg0.N) (h0 : ¬t.val % 33 = 0) (h1 : 1 ≤ t.val) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed7, outsAt0_B m c t h0 h1]

theorem entry7 (c : Dev nD) (i : S2048x16384.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

theorem flushed8_A (c : Dev nD) (t : Fin cfg0.N) (h0 : t.val % 33 = 0) (h1 : ¬1 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed8, outsAt0_A m c t h0 h1]

theorem flushed8_B (c : Dev nD) (t : Fin cfg0.N) (h0 : ¬t.val % 33 = 0) (h1 : 1 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed8, outsAt0_B m c t h0 h1]

theorem entry8 (c : Dev nD) (i : S16x16384.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

theorem flushed9_A (c : Dev nD) (t : Fin cfg0.N) (h0 : t.val % 33 = 0) (h1 : ¬1 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed9, outsAt0_A m c t h0 h1]

theorem flushed9_B (c : Dev nD) (t : Fin cfg0.N) (h0 : ¬t.val % 33 = 0) (h1 : 1 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed9, outsAt0_B m c t h0 h1]

theorem entry9 (c : Dev nD) (i : S2048x4096.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

theorem flushed10 (c : Dev nD) (t : Fin cfg0.N) :
    (dats m 0 c).flushed 10 t = (cfg0.win 10).cut (grid0.coords t) ((outsAt0 m c t.val t.isLt).2.2.2.2.2.1) := by
  show (cfg0.win 10).cut (grid0.coords t) ((dats m 0 c).after 10 t) = _
  rw [after0_10]

theorem flushed10_A (c : Dev nD) (t : Fin cfg0.N) (h0 : t.val % 33 = 0) (h1 : ¬1 ≤ t.val) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed10, outsAt0_A m c t h0 h1]

theorem flushed10_B (c : Dev nD) (t : Fin cfg0.N) (h0 : ¬t.val % 33 = 0) (h1 : 1 ≤ t.val) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed10, outsAt0_B m c t h0 h1]

theorem entry10 (c : Dev nD) (i : S16x1x4096.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

theorem flushed11 (c : Dev nD) (t : Fin cfg0.N) :
    (dats m 0 c).flushed 11 t = (cfg0.win 11).cut (grid0.coords t) ((outsAt0 m c t.val t.isLt).2.2.2.2.2.2.1) := by
  show (cfg0.win 11).cut (grid0.coords t) ((dats m 0 c).after 11 t) = _
  rw [after0_11]

theorem flushed11_A (c : Dev nD) (t : Fin cfg0.N) (h0 : t.val % 33 = 0) (h1 : ¬1 ≤ t.val) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed11, outsAt0_A m c t h0 h1]

theorem flushed11_B (c : Dev nD) (t : Fin cfg0.N) (h0 : ¬t.val % 33 = 0) (h1 : 1 ≤ t.val) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed11, outsAt0_B m c t h0 h1]

theorem entry11 (c : Dev nD) (i : S4096x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

theorem flushed12 (c : Dev nD) (t : Fin cfg0.N) :
    (dats m 0 c).flushed 12 t = (cfg0.win 12).cut (grid0.coords t) ((outsAt0 m c t.val t.isLt).2.2.2.2.2.2.2.1) := by
  show (cfg0.win 12).cut (grid0.coords t) ((dats m 0 c).after 12 t) = _
  rw [after0_12]

theorem flushed12_A (c : Dev nD) (t : Fin cfg0.N) (h0 : t.val % 33 = 0) (h1 : ¬1 ≤ t.val) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed12, outsAt0_A m c t h0 h1]

theorem flushed12_B (c : Dev nD) (t : Fin cfg0.N) (h0 : ¬t.val % 33 = 0) (h1 : 1 ≤ t.val) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed12, outsAt0_B m c t h0 h1]

theorem entry12 (c : Dev nD) (i : S2048x4096.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v0_5) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v0_6) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v0_7) = (dats m 0 c).arrAt 12 cfg0.N :=
  (h c).1 12

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_v0_5) = (dats m 0 c).arrAt 10 cfg0.N
      ∧ r.2.mem ((c : Thread nD τ).loc main_v0_6) = (dats m 0 c).arrAt 11 cfg0.N
      ∧ r.2.mem ((c : Thread nD τ).loc main_v0_7) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c⟩)
    (run_main m ρ)

def scAt0_0 (c : Dev nD) (n : ℕ) (hb : n < cfg0.N) (acc : Vec F S2048x512 .bf16) : Vec F S2048x512 .bf16 :=
  if h0 : n % 33 = 0 then
    if h1 : 1 ≤ n then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : 1 ≤ n then
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.2.2.2.2.2.1 acc
    else
      acc

theorem soutsAt0_0_eq (c : Dev nD) (t : Fin cfg0.N) :
    (outsAt0 m c t.val t.isLt).2.2.2.2.2.2.2.2 = Pipeline.accAt (fun n h => scAt0_0 m c n h (VS0_0.read (Elt F) VS0_0.junk)) (scAt0_0 m c) (33 * (t.val / 33)) (t.val % 33)
      (by have h1 := t.isLt; have h2 := Nat.div_add_mod t.val 33; omega) :=
  Pipeline.eq_accAt_of_mod (fun n h => (outsAt0 m c n h).2.2.2.2.2.2.2.2) 33 (fun n h => scAt0_0 m c n h (VS0_0.read (Elt F) VS0_0.junk)) (scAt0_0 m c)
    (fun n h hn => by
      have hN := lt_of_lt_of_eq h (show cfg0.N = 33 from N_0)
      by_cases h0 : n % 33 = 0 <;> by_cases h1 : 1 ≤ n
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_pos h1] <;> try rfl))
    (fun n h hn => by
      have hN := lt_of_lt_of_eq h (show cfg0.N = 33 from N_0)
      by_cases h0 : (n + 1) % 33 = 0 <;> by_cases h1 : 1 ≤ (n + 1)
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_pos h1] <;> try rfl))
    (by decide) t.val t.isLt _

theorem soutsAt0_0_sweep (c : Dev nD) (n : ℕ) (hn : n < cfg0.N) :
    (outsAt0 m c n hn).2.2.2.2.2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 33 from N_0)
  have hd : n / 33 = 0 := Nat.div_eq_of_lt hN
  have hm : n % 33 = n := Nat.mod_eq_of_lt hN
  simpa only [hd, hm, Nat.mul_zero] using e

end Cert.QuantiseIdeal.Value

end
-- ==== Proof.Spec.lean ====
module

public import Idealize.ShloMosaic.Lib.Pointwise

@[expose] public section
set_option maxRecDepth 16384
noncomputable section

/-!
The mathematics both programs are shown to compute, entry by entry, over the extended reals and over plain matrices of
any number of rows (so that the same words describe one block of rows and the whole array), and the regrouping facts
about finite sums that the equation needs.
-/
namespace Cert.Spec
open Idealize.ShloMosaic

/-- A matrix of `r` rows and `k` columns over the extended reals. -/
abbrev Mat (r k : Nat) : Type := (⟨2, ![r, k]⟩ : Shape).Idx → EReal

/-- The number of features, 4096, as the float constant the reference divides by. -/
def width : EReal := Ideal.ofBits .f32 0x45800000#32

/-- The small constant added to the mean square. -/
def eps : EReal := Ideal.ofBits .f32 0x358637BD#32

/-- The reciprocal root mean square of row `p`. -/
def rinv {n : Nat} (X : Mat n 4096) (p : Fin n) : EReal :=
  Ideal.rsqrt (Ideal.div (∑ k, X (ix2 p k) * X (ix2 p k)) width + eps)

/-- The normalised entry `(p, k)`. -/
def xhat {n : Nat} (X : Mat n 4096) (p : Fin n) (k : Fin 4096) : EReal := X (ix2 p k) * rinv X p

/-- The mean over the features of gradient times normalised input, row `p`. -/
def cmean {n : Nat} (Γ : Mat 1 4096) (D X : Mat n 4096) (p : Fin n) : EReal :=
  Ideal.div (∑ k, D (ix2 p k) * Γ (ix2 0 k) * xhat X p k) width

/-- The input gradient of the normalisation at `(p, k)`. -/
def dxAt {n : Nat} (Γ : Mat 1 4096) (D X : Mat n 4096) (p : Fin n) (k : Fin 4096) : EReal :=
  rinv X p * (D (ix2 p k) * Γ (ix2 0 k) - xhat X p k * cmean Γ D X p)

/-- The gradient of the gain at feature `k`: the sum over the tokens. -/
def dgammaAt {n : Nat} (D X : Mat n 4096) (k : Fin 4096) : EReal := ∑ t, D (ix2 t k) * xhat X t k

/-- The dequantised entry `(t, j)`: code times the scale of its block of 128 rows. -/
def dqAt {w : Nat} (C : Mat 2048 w) (S : Mat 16 w) (t : Fin 2048) (j : Fin w) : EReal :=
  C (ix2 t j) * S (ix2 ⟨(t : Nat) / 128, by omega⟩ j)

/-- The weight gradient at `(p, q)`. -/
def dwAt {w : Nat} (A : Mat 4096 2048) (C : Mat 2048 w) (S : Mat 16 w) (p : Fin 4096) (q : Fin w) : EReal :=
  ∑ t, A (ix2 p t) * dqAt C S t q

/-- Two indices of a matrix with the same two numbers are one index. -/
theorem idx_ext {r k : Nat} {i j : (⟨2, ![r, k]⟩ : Shape).Idx} (h0 : (i 0 : Nat) = j 0) (h1 : (i 1 : Nat) = j 1) : i = j :=
  funext fun a => Fin.ext <| match a with | ⟨0, _⟩ => h0 | ⟨1, _⟩ => h1

/-- A sum over `a * b` places is the sum over `a` chunks of the sums over the `b` places of a chunk, taken the other way
    round: first over the place in the chunk, then over the chunk. -/
theorem sum_chunks {a b n : Nat} (h : a * b = n) (f : Fin n → EReal) :
    ∑ k, f k = ∑ l : Fin b, ∑ c : Fin a, f ⟨b * (c : Nat) + l, by
      have h1 := c.isLt; have h2 := l.isLt
      calc b * (c : Nat) + l < b * (c : Nat) + b := by omega
        _ = b * ((c : Nat) + 1) := by ring
        _ ≤ b * a := Nat.mul_le_mul_left _ h1
        _ = n := by rw [Nat.mul_comm]; exact h⟩ := by
  subst h
  rw [← (finProdFinEquiv (m := a) (n := b)).sum_comp, Fintype.sum_prod_type, Finset.sum_comm]
  refine Finset.sum_congr rfl fun l _ => Finset.sum_congr rfl fun c _ => congrArg f (Fin.ext ?_)
  simp [finProdFinEquiv, Nat.add_comm]

/-- The sum over 32 chunks of 128 lanes as a kernel takes it: per lane the chunks added one after the other, then the
    lanes. -/
theorem sum_lanes (f : Fin 4096 → EReal) :
    ∑ k, f k = ∑ l : Fin 128, (f ⟨l, by omega⟩ + f ⟨128 + l, by omega⟩ + f ⟨256 + l, by omega⟩ + f ⟨384 + l, by omega⟩ + f ⟨512 + l, by omega⟩
       + f ⟨640 + l, by omega⟩ + f ⟨768 + l, by omega⟩ + f ⟨896 + l, by omega⟩ + f ⟨1024 + l, by omega⟩
       + f ⟨1152 + l, by omega⟩ + f ⟨1280 + l, by omega⟩ + f ⟨1408 + l, by omega⟩ + f ⟨1536 + l, by omega⟩
       + f ⟨1664 + l, by omega⟩ + f ⟨1792 + l, by omega⟩ + f ⟨1920 + l, by omega⟩ + f ⟨2048 + l, by omega⟩
       + f ⟨2176 + l, by omega⟩ + f ⟨2304 + l, by omega⟩ + f ⟨2432 + l, by omega⟩ + f ⟨2560 + l, by omega⟩
       + f ⟨2688 + l, by omega⟩ + f ⟨2816 + l, by omega⟩ + f ⟨2944 + l, by omega⟩ + f ⟨3072 + l, by omega⟩
       + f ⟨3200 + l, by omega⟩ + f ⟨3328 + l, by omega⟩ + f ⟨3456 + l, by omega⟩ + f ⟨3584 + l, by omega⟩
       + f ⟨3712 + l, by omega⟩ + f ⟨3840 + l, by omega⟩ + f ⟨3968 + l, by omega⟩) := by
  rw [sum_chunks (a := 32) (b := 128) rfl f]
  refine Finset.sum_congr rfl fun l _ => ?_
  simp only [Fin.sum_univ_castSucc, Fin.sum_univ_zero, zero_add, Fin.val_castSucc, Fin.val_last, Nat.reduceMul, mul_zero]

/-- The constant 4096 is the number 4096. -/
theorem width_eq : width = ((4096 : ℝ) : EReal) := by
  unfold width
  simp [Ideal.ofBits, Ideal.ieee, -EReal.coe_mul]; norm_num

/-- The constant `2^-12` is the number 1/4096. -/
theorem invWidth_eq : Ideal.ofBits .f32 0x39800000#32 = ((1 / 4096 : ℝ) : EReal) := by
  simp [Ideal.ofBits, Ideal.ieee, -EReal.coe_mul]; norm_num

/-- Multiplying by `2^-12` is dividing by 4096. -/
theorem mul_invWidth (x : EReal) : x * Ideal.ofBits .f32 0x39800000#32 = Ideal.div x width := by
  rw [width_eq, Ideal.div_coe (by norm_num), invWidth_eq]

end Cert.Spec
end
-- ==== Proof.Dw.lean ====
module

public import proofs.«01_k».proof.Proof.Spec
public import proofs.«01_k».proof.Proof.Gen.KernelIdeal.Value
public import Idealize.ShloMosaic.Lib.Pipeline.ValueKit

@[expose] public section
set_option maxRecDepth 16384
noncomputable section

/-! What one grid point leaves in its block of the weight gradient: all 4096 rows, the point's own 512 columns. -/
namespace Cert.KernelIdeal.Value
open Cert.KernelIdeal Cert.KernelIdeal.Gen Cert.Spec Idealize.ShloMosaic Idealize.ShloMosaic.TcCoe Idealize.SL.Sem

/-- Some grid point is neither the first nor the last. -/
theorem middle : ∃ i : grid0.Coords, ¬cond0_0 i ∧ ¬cond0_1 i :=
  ⟨grid0.coords ⟨1, by rw [N_0]; decide⟩, by rw [hcond0_0]; decide, by rw [hcond0_1]; decide⟩

variable (c : Dev nD) (i : grid0.Coords) (arg1 : Memref sig .tc .vmem S1x4096 .f32) (harg1 : arg1.IsWhole)
  (arg2 : Memref sig .tc .vmem S4096x2048 .bf16) (harg2 : arg2.IsWhole)
  (arg3 : Memref sig .tc .vmem S2048x512 .fp8e5m2) (harg3 : arg3.IsWhole)
  (arg4 : Memref sig .tc .vmem S16x512 .f32) (harg4 : arg4.IsWhole)
  (arg5 : Memref sig .tc .vmem S64x4096 .f32) (harg5 : arg5.IsWhole)
  (arg6 : Memref sig .tc .vmem S64x4096 .bf16) (harg6 : arg6.IsWhole)
  (arg7 : Memref sig .tc .vmem S4096x512 .f32) (harg7 : arg7.IsWhole)
  (arg8 : Memref sig .tc .vmem S64x4096 .bf16) (harg8 : arg8.IsWhole)
  (arg9 : Memref sig .tc .vmem S8x4096 .f32) (harg9 : arg9.IsWhole)
  (arg10 : Memref sig .tc .vmem S2048x512 .bf16) (harg10 : arg10.IsWhole)
  (x0 : Vec Ideal S1x4096 .f32) (x1 : Vec Ideal S4096x2048 .bf16) (x2 : Vec Ideal S2048x512 .fp8e5m2)
  (x3 : Vec Ideal S16x512 .f32) (x4 : Vec Ideal S64x4096 .f32) (x5 : Vec Ideal S64x4096 .bf16) (xo8 : Vec Ideal S8x4096 .f32)

/-- The scratch the body fills with 16 stores, one per block of 128 rows, holds the dequantised gradient. -/
theorem scratch_eq : kernelRun0_B.sl.v148 c arg3 harg3 arg4 harg4 arg10 x2 x3 = fun j => dqAt x2 x3 (j 0) (j 1) := by
  have hc : View.canon (kernelRun0_B.sl.HS0_16 c arg3 harg3 arg4 harg4 x2 x3) = fun j => dqAt x2 x3 (j 0) (j 1) := by
    funext y
    sl_unfold_words
    canon_tiles x h
    all_goals simp only [View.readAt_eq_ld, harg3.read_unread, harg4.read_unread]
    all_goals unfold_payloads
    all_goals pointwise [dqAt]
    all_goals
      refine congrArg₂ (fun a b : EReal => a * b) (congrArg x2 (idx_ext ?_ ?_)) (congrArg x3 (idx_ext ?_ ?_)) <;>
        simp <;> omega
  unfold kernelRun0_B.sl.v148
  rw [View.readCov_eq_canon', hc]
  funext j
  exact congrArg₂ (dqAt x2 x3) (Fin.ext (by simp)) (Fin.ext (by simp))

/-- A middle point's block of the weight gradient: the four products of 1024 rows each are the rows of one product. -/
theorem out6_B (hc0 : ¬cond0_0 i) (hc1 : ¬cond0_1 i) (y : S4096x512.Idx) :
    out0_B_6 c i arg1 harg1 arg2 harg2 arg3 harg3 arg4 harg4 arg5 harg5 arg6 harg6 arg7 harg7 arg8 harg8 arg9 harg9 arg10 harg10
      hc0 hc1 x0 x1 x2 x3 x4 x5 xo8 y = dwAt x1 x2 x3 (y 0) (y 1) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10
      hc0 hc1 x0 x1 x2 x3 x4 x5 xo8)]
  unfold kernelRun0_B
  dsimp only
  rw [scratch_eq]
  canon_tiles x h
  all_goals simp only [View.readAt_eq_ld, harg2.read_unread]
  all_goals unfold_payloads
  all_goals pointwise [dwAt]
  all_goals
    refine Finset.sum_congr rfl fun t _ => congrArg₂ (fun a b : EReal => a * b) (congrArg x1 (idx_ext ?_ rfl))
      (congrArg (dqAt x2 x3 t) (Fin.ext h1.symm))
    simp; omega

/-- The first point's stores on this output are the same. -/
theorem out6_A (hc0 : cond0_0 i) (hc1 : ¬cond0_1 i) (y : S4096x512.Idx) :
    out0_A_6 c i arg1 harg1 arg2 harg2 arg3 harg3 arg4 harg4 arg5 harg5 arg6 harg6 arg7 harg7 arg8 harg8 arg9 harg9 arg10 harg10
      hc0 hc1 x0 x1 x2 x3 x4 x5 y = dwAt x1 x2 x3 (y 0) (y 1) := by
  obtain ⟨i', h0', h1'⟩ := middle
  exact out6_B c i' arg1 harg1 arg2 harg2 arg3 harg3 arg4 harg4 arg5 harg5 arg6 harg6 arg7 harg7 arg8 harg8 arg9 harg9 arg10 harg10 x0 x1 x2 x3 x4 x5 (fun _ => (0 : EReal)) h0' h1' y

/-- The last point's stores on this output are the same. -/
theorem out6_C (hc0 : ¬cond0_0 i) (hc1 : cond0_1 i) (y : S4096x512.Idx) :
    out0_C_6 c i arg1 harg1 arg2 harg2 arg3 harg3 arg4 harg4 arg5 harg5 arg6 harg6 arg7 harg7 arg8 harg8 arg9 harg9 arg10 harg10
      hc0 hc1 x0 x1 x2 x3 x4 x5 xo8 y = dwAt x1 x2 x3 (y 0) (y 1) := by
  obtain ⟨i', h0', h1'⟩ := middle
  exact out6_B c i' arg1 harg1 arg2 harg2 arg3 harg3 arg4 harg4 arg5 harg5 arg6 harg6 arg7 harg7 arg8 harg8 arg9 harg9 arg10 harg10 x0 x1 x2 x3 x4 x5 xo8 h0' h1' y

end Cert.KernelIdeal.Value
end
-- ==== Proof.Dx.lean ====
module

public import proofs.«01_k».proof.Proof.Dw
public import proofs.«01_k».proof.Proof.Gen.KernelIdeal.Value
public import Idealize.ShloMosaic.Lib.Pipeline.ValueKit

@[expose] public section
set_option maxRecDepth 16384
noncomputable section

/-! What one grid point leaves in its block of 64 rows of the input gradient. -/
namespace Cert.KernelIdeal.Value
open Cert.KernelIdeal Cert.KernelIdeal.Gen Cert.Spec Idealize.ShloMosaic Idealize.ShloMosaic.TcCoe Idealize.SL.Sem

/-- The input gradient's formula at row `p`, column `k`, read as its entry at the index with these coordinates. -/
theorem dx_word {n : Nat} (Γ : Mat 1 4096) (D X : Mat n 4096) (y : (⟨2, ![n, 4096]⟩ : Shape).Idx) (p : Fin n) (k : Fin 4096)
    (h0 : (y 0 : Nat) = p) (h1 : (y 1 : Nat) = k) :
    rinv X p * (D (ix2 p k) * Γ (ix2 0 k) - X (ix2 p k) * rinv X p * cmean Γ D X p) = dxAt Γ D X (y 0) (y 1) := by
  obtain rfl : y = ix2 p k := idx_ext h0 h1
  rfl

variable (c : Dev nD) (i : grid0.Coords) (arg1 : Memref sig .tc .vmem S1x4096 .f32) (harg1 : arg1.IsWhole)
  (arg2 : Memref sig .tc .vmem S4096x2048 .bf16) (harg2 : arg2.IsWhole)
  (arg3 : Memref sig .tc .vmem S2048x512 .fp8e5m2) (harg3 : arg3.IsWhole)
  (arg4 : Memref sig .tc .vmem S16x512 .f32) (harg4 : arg4.IsWhole)
  (arg5 : Memref sig .tc .vmem S64x4096 .f32) (harg5 : arg5.IsWhole)
  (arg6 : Memref sig .tc .vmem S64x4096 .bf16) (harg6 : arg6.IsWhole)
  (arg7 : Memref sig .tc .vmem S4096x512 .f32) (harg7 : arg7.IsWhole)
  (arg8 : Memref sig .tc .vmem S64x4096 .bf16) (harg8 : arg8.IsWhole)
  (arg9 : Memref sig .tc .vmem S8x4096 .f32) (harg9 : arg9.IsWhole)
  (arg10 : Memref sig .tc .vmem S2048x512 .bf16) (harg10 : arg10.IsWhole)
  (x0 : Vec Ideal S1x4096 .f32) (x1 : Vec Ideal S4096x2048 .bf16) (x2 : Vec Ideal S2048x512 .fp8e5m2)
  (x3 : Vec Ideal S16x512 .f32) (x4 : Vec Ideal S64x4096 .f32) (x5 : Vec Ideal S64x4096 .bf16) (xo8 : Vec Ideal S8x4096 .f32)

/-- The reciprocal root mean square of the block's rows: the squares summed over 32 chunks of 128 lanes, then over the
    lanes. -/
theorem rinv_eq : kernelRun0_B.sl.r_10 c arg6 harg6 x5 = fun j => rinv x5 (j 0) := by
  funext j
  sl_unfold_words
  simp only [View.readAt_eq_ld, harg6.read_unread]
  unfold_payloads
  pointwise [rinv]
  rw [← mul_invWidth, sum_lanes]
  rfl

/-- The mean over the features of gradient times normalised input, summed in the same chunks. -/
theorem cmean_eq : kernelRun0_B.sl.r_72 c arg1 harg1 arg5 harg5 arg6 harg6 x0 x4 x5 = fun j => cmean x0 x4 x5 (j 0) := by
  funext j
  have hr := rinv_eq c arg6 harg6 x5
  revert hr
  sl_unfold_words
  intro hr
  unfold k0_pay36 k0_pay35
  rw [hr]
  clear hr
  simp only [View.readAt_eq_ld, harg1.read_unread, harg5.read_unread, harg6.read_unread]
  unfold_payloads
  pointwise [cmean, xhat]
  rw [← mul_invWidth, sum_lanes]

/-- A middle point's block of the input gradient: 32 pieces of 128 columns, each the entries of one formula. -/
theorem out7_B (hc0 : ¬cond0_0 i) (hc1 : ¬cond0_1 i) (y : S64x4096.Idx) :
    out0_B_7 c i arg1 harg1 arg2 harg2 arg3 harg3 arg4 harg4 arg5 harg5 arg6 harg6 arg7 harg7 arg8 harg8 arg9 harg9 arg10 harg10
      hc0 hc1 x0 x1 x2 x3 x4 x5 xo8 y = dxAt x0 x4 x5 (y 0) (y 1) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10
      hc0 hc1 x0 x1 x2 x3 x4 x5 xo8)]
  unfold kernelRun0_B
  dsimp only
  have hr := rinv_eq c arg6 harg6 x5
  have hm := cmean_eq c arg1 harg1 arg5 harg5 arg6 harg6 x0 x4 x5
  revert hr hm
  sl_unfold_words
  intro hr hm
  unfold k0_pay148
  rw [hm, hr]
  clear hm hr
  canon_tiles x h
  all_goals simp only [View.readAt_eq_ld, harg1.read_unread, harg5.read_unread, harg6.read_unread]
  all_goals unfold_payloads
  all_goals pointwise
  all_goals exact dx_word x0 x4 x5 y (x 0) ⟨_, by omega⟩ h0 h1

/-- The first point's stores on this output are the same. -/
theorem out7_A (hc0 : cond0_0 i) (hc1 : ¬cond0_1 i) (y : S64x4096.Idx) :
    out0_A_7 c i arg1 harg1 arg2 harg2 arg3 harg3 arg4 harg4 arg5 harg5 arg6 harg6 arg7 harg7 arg8 harg8 arg9 harg9 arg10 harg10
      hc0 hc1 x0 x1 x2 x3 x4 x5 y = dxAt x0 x4 x5 (y 0) (y 1) := by
  obtain ⟨i', h0', h1'⟩ := middle
  exact out7_B c i' arg1 harg1 arg2 harg2 arg3 harg3 arg4 harg4 arg5 harg5 arg6 harg6 arg7 harg7 arg8 harg8 arg9 harg9 arg10 harg10 x0 x1 x2 x3 x4 x5 (fun _ => (0 : EReal)) h0' h1' y

/-- The last point's stores on this output are the same. -/
theorem out7_C (hc0 : ¬cond0_0 i) (hc1 : cond0_1 i) (y : S64x4096.Idx) :
    out0_C_7 c i arg1 harg1 arg2 harg2 arg3 harg3 arg4 harg4 arg5 harg5 arg6 harg6 arg7 harg7 arg8 harg8 arg9 harg9 arg10 harg10
      hc0 hc1 x0 x1 x2 x3 x4 x5 xo8 y = dxAt x0 x4 x5 (y 0) (y 1) := by
  obtain ⟨i', h0', h1'⟩ := middle
  exact out7_B c i' arg1 harg1 arg2 harg2 arg3 harg3 arg4 harg4 arg5 harg5 arg6 harg6 arg7 harg7 arg8 harg8 arg9 harg9 arg10 harg10 x0 x1 x2 x3 x4 x5 xo8 h0' h1' y

end Cert.KernelIdeal.Value
end
-- ==== Proof.Dgamma.lean ====
module

public import proofs.«01_k».proof.Proof.Dx
public import proofs.«01_k».proof.Proof.Gen.KernelIdeal.Value
public import Idealize.ShloMosaic.Lib.Pipeline.ValueKit

@[expose] public section
set_option maxRecDepth 16384
noncomputable section

/-! What one grid point adds to the gain gradient's block of 8 rows. -/
namespace Cert.KernelIdeal.Value
open Cert.KernelIdeal Cert.KernelIdeal.Gen Cert.Spec Idealize.ShloMosaic Idealize.ShloMosaic.TcCoe Idealize.SL.Sem

/-- What a block of 64 rows adds to entry (`r`, `k`) of the gain gradient's block: the 8 rows congruent to `r` modulo 8. -/
def part8 (D X : Mat 64 4096) (r : Fin 8) (k : Fin 4096) : EReal :=
  ∑ g : Fin 8, D (ix2 ⟨8 * (g : Nat) + r, by omega⟩ k) * xhat X ⟨8 * (g : Nat) + r, by omega⟩ k

/-- The eight slices of 8 rows added in order to what stood there, read as one entry. -/
theorem part_word (D X : Mat 64 4096) (v : EReal) (P : Mat 8 4096) (y : S8x4096.Idx) (r : Fin 8) (k : Fin 4096)
    (h0 : (y 0 : Nat) = r) (h1 : (y 1 : Nat) = k) (hv : v = P (ix2 r k)) :
    v + (D (ix2 ⟨r, by omega⟩ k) * (X (ix2 ⟨r, by omega⟩ k) * rinv X ⟨r, by omega⟩)
      + D (ix2 ⟨8 + r, by omega⟩ k) * (X (ix2 ⟨8 + r, by omega⟩ k) * rinv X ⟨8 + r, by omega⟩)
      + D (ix2 ⟨16 + r, by omega⟩ k) * (X (ix2 ⟨16 + r, by omega⟩ k) * rinv X ⟨16 + r, by omega⟩)
      + D (ix2 ⟨24 + r, by omega⟩ k) * (X (ix2 ⟨24 + r, by omega⟩ k) * rinv X ⟨24 + r, by omega⟩)
      + D (ix2 ⟨32 + r, by omega⟩ k) * (X (ix2 ⟨32 + r, by omega⟩ k) * rinv X ⟨32 + r, by omega⟩)
      + D (ix2 ⟨40 + r, by omega⟩ k) * (X (ix2 ⟨40 + r, by omega⟩ k) * rinv X ⟨40 + r, by omega⟩)
      + D (ix2 ⟨48 + r, by omega⟩ k) * (X (ix2 ⟨48 + r, by omega⟩ k) * rinv X ⟨48 + r, by omega⟩)
      + D (ix2 ⟨56 + r, by omega⟩ k) * (X (ix2 ⟨56 + r, by omega⟩ k) * rinv X ⟨56 + r, by omega⟩))
      = P y + part8 D X (y 0) (y 1) := by
  obtain rfl : y = ix2 r k := idx_ext h0 h1
  rw [hv]
  refine congrArg (P (ix2 r k) + ·) ?_
  unfold part8
  rw [Fin.sum_univ_eight]
  simp [xhat]

variable (c : Dev nD) (i : grid0.Coords) (arg1 : Memref sig .tc .vmem S1x4096 .f32) (harg1 : arg1.IsWhole)
  (arg2 : Memref sig .tc .vmem S4096x2048 .bf16) (harg2 : arg2.IsWhole)
  (arg3 : Memref sig .tc .vmem S2048x512 .fp8e5m2) (harg3 : arg3.IsWhole)
  (arg4 : Memref sig .tc .vmem S16x512 .f32) (harg4 : arg4.IsWhole)
  (arg5 : Memref sig .tc .vmem S64x4096 .f32) (harg5 : arg5.IsWhole)
  (arg6 : Memref sig .tc .vmem S64x4096 .bf16) (harg6 : arg6.IsWhole)
  (arg7 : Memref sig .tc .vmem S4096x512 .f32) (harg7 : arg7.IsWhole)
  (arg8 : Memref sig .tc .vmem S64x4096 .bf16) (harg8 : arg8.IsWhole)
  (arg9 : Memref sig .tc .vmem S8x4096 .f32) (harg9 : arg9.IsWhole)
  (arg10 : Memref sig .tc .vmem S2048x512 .bf16) (harg10 : arg10.IsWhole)
  (x0 : Vec Ideal S1x4096 .f32) (x1 : Vec Ideal S4096x2048 .bf16) (x2 : Vec Ideal S2048x512 .fp8e5m2)
  (x3 : Vec Ideal S16x512 .f32) (x4 : Vec Ideal S64x4096 .f32) (x5 : Vec Ideal S64x4096 .bf16) (xo8 : Vec Ideal S8x4096 .f32)

set_option maxHeartbeats 400000 in
/-- At a middle point the block of the gain gradient gains the point's part at every entry. -/
theorem out8_B (hc0 : ¬cond0_0 i) (hc1 : ¬cond0_1 i) (y : S8x4096.Idx) :
    out0_B_8 c i arg1 harg1 arg2 harg2 arg3 harg3 arg4 harg4 arg5 harg5 arg6 harg6 arg7 harg7 arg8 harg8 arg9 harg9 arg10 harg10
      hc0 hc1 x0 x1 x2 x3 x4 x5 xo8 y = xo8 y + part8 x4 x5 (y 0) (y 1) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10
      hc0 hc1 x0 x1 x2 x3 x4 x5 xo8)]
  unfold kernelRun0_B
  dsimp only
  have hr := rinv_eq c arg6 harg6 x5
  revert hr
  sl_unfold_words
  intro hr
  unfold k0_pay39 k0_pay38 k0_pay37 k0_pay35
  rw [hr]
  clear hr
  canon_tiles x h
  all_goals
    simp only [View.readAt_eq_ld, harg5.read_unread, harg6.read_unread, harg9.read_unread]
    unfold_payloads
    pointwise
    exact part_word x4 x5 _ xo8 y (x 0) ⟨_, by omega⟩ h0 h1 rfl

end Cert.KernelIdeal.Value
end
-- ==== Proof.DgammaEnds.lean ====
module

public import proofs.«01_k».proof.Proof.Dgamma
public import proofs.«01_k».proof.Proof.Gen.KernelIdeal.Value
public import Idealize.ShloMosaic.Lib.Pipeline.ValueKit

@[expose] public section
set_option maxRecDepth 16384
noncomputable section

/-! The first and the last grid point's part of the gain gradient. -/
namespace Cert.KernelIdeal.Value
open Cert.KernelIdeal Cert.KernelIdeal.Gen Cert.Spec Idealize.ShloMosaic Idealize.ShloMosaic.TcCoe Idealize.SL.Sem

/-- One store of 128 columns that adds `T` to what the columns held, when the columns from `b` on are still zero. -/
theorem store_step (v : View sig .tc .vmem S8x4096 .f32) {L : List (View.Piece (Elt Ideal) S8x4096 .f32)} {b b' : Nat}
    {T : S8x4096.Idx → EReal} {inb : ∀ a, (![0, b] : Fin 2 → Nat) a + (![8, 128] : Fin 2 → Nat) a ≤ S8x4096.size a}
    {w : (Rect.unit (s := S8x4096) ![0, b] ![8, 128] inb).shape.Idx → EReal}
    (hL : ∀ y : S8x4096.Idx, View.canon L y = if (y 1 : Nat) < b then 0 + T y else (0 : EReal))
    (hb : b' = b + 128)
    (hw : ∀ x, w x = v.readCov L (Rect.unit (s := S8x4096) ![0, b] ![8, 128] inb).toLoadRect x
      + T ((Rect.unit (s := S8x4096) ![0, b] ![8, 128] inb).emb x)) (y : S8x4096.Idx) :
    View.canon ((⟨Rect.unit ![0, b] ![8, 128] inb, w⟩ : View.Piece (Elt Ideal) S8x4096 .f32) :: L) y
      = if (y 1 : Nat) < b' then 0 + T y else (0 : EReal) := by
  subst hb
  have h0 := (y 0).isLt
  simp only [Shape.size] at h0
  by_cases hm : y ∈ (Rect.unit (s := S8x4096) ![0, b] ![8, 128] inb).set
  · obtain ⟨x, rfl⟩ := (Rect.unit (s := S8x4096) ![0, b] ![8, 128] inb).exists_idx_of_mem hm
    have h1 := (Rect.mem_set_unit.mp hm) 1
    have e : (Rect.unit (s := S8x4096) ![0, b] ![8, 128] inb).idx x = (Rect.unit (s := S8x4096) ![0, b] ![8, 128] inb).emb x := rfl
    rw [e] at h1 ⊢
    simp only [Matrix.cons_val_one, Matrix.cons_val_fin_one] at h1
    have e' := hL ((Rect.unit (s := S8x4096) ![0, b] ![8, 128] inb).emb x)
    rw [if_neg (Nat.not_lt.mpr h1.1)] at e'
    rw [View.canon_cons_emb, hw, View.readCov_eq_canon', if_pos h1.2]
    exact congrArg (fun z : EReal => z + T ((Rect.unit (s := S8x4096) ![0, b] ![8, 128] inb).emb x)) e'
  · have e' := View.canon_cons_of_not_mem (Val := Elt Ideal) ⟨Rect.unit (s := S8x4096) ![0, b] ![8, 128] inb, w⟩ L hm
    refine e'.trans ((hL y).trans ?_)
    by_cases hlt : (y 1 : Nat) < b
    · rw [if_pos hlt, if_pos (by omega)]
    rw [if_neg hlt, if_neg fun h => ?_]
    refine hm (Rect.mem_set_unit.mpr fun a => ?_)
    match a with
    | ⟨0, _⟩ => exact ⟨Nat.zero_le _, by simpa using h0⟩
    | ⟨1, _⟩ => exact ⟨Nat.not_lt.mp hlt, h⟩

variable (c : Dev nD) (i : grid0.Coords) (arg1 : Memref sig .tc .vmem S1x4096 .f32) (harg1 : arg1.IsWhole)
  (arg2 : Memref sig .tc .vmem S4096x2048 .bf16) (harg2 : arg2.IsWhole)
  (arg3 : Memref sig .tc .vmem S2048x512 .fp8e5m2) (harg3 : arg3.IsWhole)
  (arg4 : Memref sig .tc .vmem S16x512 .f32) (harg4 : arg4.IsWhole)
  (arg5 : Memref sig .tc .vmem S64x4096 .f32) (harg5 : arg5.IsWhole)
  (arg6 : Memref sig .tc .vmem S64x4096 .bf16) (harg6 : arg6.IsWhole)
  (arg7 : Memref sig .tc .vmem S4096x512 .f32) (harg7 : arg7.IsWhole)
  (arg8 : Memref sig .tc .vmem S64x4096 .bf16) (harg8 : arg8.IsWhole)
  (arg9 : Memref sig .tc .vmem S8x4096 .f32) (harg9 : arg9.IsWhole)
  (arg10 : Memref sig .tc .vmem S2048x512 .bf16) (harg10 : arg10.IsWhole)
  (x0 : Vec Ideal S1x4096 .f32) (x1 : Vec Ideal S4096x2048 .bf16) (x2 : Vec Ideal S2048x512 .fp8e5m2)
  (x3 : Vec Ideal S16x512 .f32) (x4 : Vec Ideal S64x4096 .f32) (x5 : Vec Ideal S64x4096 .bf16) (xo8 : Vec Ideal S8x4096 .f32)

set_option maxHeartbeats 8000000 in
/-- The first point stores zeros first: it leaves its own part. -/
theorem out8_A (hc0 : cond0_0 i) (hc1 : ¬cond0_1 i) (y : S8x4096.Idx) :
    out0_A_8 c i arg1 harg1 arg2 harg2 arg3 harg3 arg4 harg4 arg5 harg5 arg6 harg6 arg7 harg7 arg8 harg8 arg9 harg9 arg10 harg10
      hc0 hc1 x0 x1 x2 x3 x4 x5 y = 0 + part8 x4 x5 (y 0) (y 1) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10
      hc0 hc1 x0 x1 x2 x3 x4 x5)]
  have key : ∀ y : S8x4096.Idx, View.canon (kernelRun0_A c i arg1 harg1 arg2 harg2 arg3 harg3 arg4 harg4 arg5 harg5 arg6 harg6 arg7 harg7 arg8 harg8 arg9 harg9 arg10 harg10 hc0 hc1 x0 x1 x2 x3 x4 x5).2.2.1 y
      = if (y 1 : Nat) < 4096 then 0 + part8 x4 x5 (y 0) (y 1) else (0 : EReal) := by
    unfold kernelRun0_A
    dsimp only
    repeat' refine store_step arg9.view (T := fun y => part8 x4 x5 (y 0) (y 1)) ?_ rfl (fun x => ?_)
    · intro y
      unfold kernelRun0_A.sl.H8_1
      rw [View.canon_cons_unit_lit' _ _ _ (by decide), if_neg (Nat.not_lt_zero _)]
      unfold_payloads
      pointwise
    all_goals
      have hr := rinv_eq c arg6 harg6 x5
      revert hr
      sl_unfold_words
      intro hr
      generalize arg9.view.readCov (Val := Elt Ideal) _ _ = u
      try unfold k0_pay39 k0_pay38 k0_pay37 k0_pay35
      rw [hr]
      clear hr
      simp only [View.readAt_eq_ld, harg5.read_unread, harg6.read_unread]
      unfold_payloads
      pointwise
      exact part_word x4 x5 _ (fun _ => u x) _ (x 0) ⟨_, by have := (x 1).isLt; simp at this; omega⟩ (by simp) (by simp) rfl
  rw [key]
  exact if_pos (y 1).isLt

/-- The last point adds its part, then every row of the block becomes the sum of the 8 rows. -/
theorem out8_C (hc0 : ¬cond0_0 i) (hc1 : cond0_1 i) (y : S8x4096.Idx) :
    out0_C_8 c i arg1 harg1 arg2 harg2 arg3 harg3 arg4 harg4 arg5 harg5 arg6 harg6 arg7 harg7 arg8 harg8 arg9 harg9 arg10 harg10
      hc0 hc1 x0 x1 x2 x3 x4 x5 xo8 y = ∑ r : Fin 8, (xo8 (ix2 r (y 1)) + part8 x4 x5 r (y 1)) := by
  obtain ⟨i', h0', h1'⟩ := middle
  have hB (y) := out8_B c i' arg1 harg1 arg2 harg2 arg3 harg3 arg4 harg4 arg5 harg5 arg6 harg6 arg7 harg7 arg8 harg8 arg9 harg9 arg10 harg10 x0 x1 x2 x3 x4 x5 xo8 h0' h1' y
  unfold out0_C_8
  rw [View.read_writes_eq_canon _ _ _ (cover0_C_8 c i arg1 harg1 arg2 harg2 arg3 harg3 arg4 harg4 arg5 harg5 arg6 harg6 arg7 harg7 arg8 harg8 arg9 harg9 arg10 harg10
      hc0 hc1 x0 x1 x2 x3 x4 x5 xo8)]
  unfold kernelRun0_C
  dsimp only
  rw [View.canon_cons_unit_lit' _ _ _ (by decide)]
  unfold kernelRun0_C.sl.v1747
  rw [View.readCov_eq_canon']
  unfold k0_pay2
  pointwise
  refine Finset.sum_congr rfl fun r _ => (Eq.trans ?_ (hB (ix2 r (y 1))))
  unfold out0_B_8
  rw [View.read_writes_eq_canon _ _ _ (cover0_B_8 c i' arg1 harg1 arg2 harg2 arg3 harg3 arg4 harg4 arg5 harg5 arg6 harg6 arg7 harg7 arg8 harg8 arg9 harg9 arg10 harg10
      h0' h1' x0 x1 x2 x3 x4 x5 xo8)]
  rfl

end Cert.KernelIdeal.Value
end
-- ==== Proof.Points.lean ====
module

public import proofs.«01_k».proof.Proof.DgammaEnds

@[expose] public section
set_option maxRecDepth 16384
noncomputable section

/-! What each grid point leaves in the three output windows, in terms of the point's input blocks. -/
namespace Cert.KernelIdeal.Value
open Cert.KernelIdeal Cert.KernelIdeal.Gen Cert.Spec Idealize.ShloMosaic Idealize.ShloMosaic.TcCoe Idealize.SL.Sem

variable (m : (ℓ : Loc nD τ sig) → Buf (Elt Ideal) ℓ) (c : Dev nD)

/-- Every point leaves in window 6 the weight gradient of its column blocks. -/
theorem point6 (t : Fin cfg0.N) (y : S4096x512.Idx) :
    (outsAt0 m c t.val t.isLt).1 y = dwAt (iblk m c 1 t) (iblk m c 2 t) (iblk m c 3 t) (y 0) (y 1) := by
  by_cases h0 : t.val % 32 = 0
  · rw [outsAt0_A m c t h0 (by omega)]; dsimp only; exact out6_A c _ _ _ _ _ _ _ _ _ _ _ _ _ _ _ _ _ _ _ _ _ _ _ _ _ _ _ _ _ y
  · by_cases h1 : t.val % 32 = 31
    · rw [outsAt0_C m c t h0 h1]; dsimp only; exact out6_C c _ _ _ _ _ _ _ _ _ _ _ _ _ _ _ _ _ _ _ _ _ _ _ _ _ _ _ _ _ _ y
    · rw [outsAt0_B m c t h0 h1]; dsimp only; exact out6_B c _ _ _ _ _ _ _ _ _ _ _ _ _ _ _ _ _ _ _ _ _ _ _ _ _ _ _ _ _ _ y

/-- Every point leaves in window 7 the input gradient of its row blocks. -/
theorem point7 (t : Fin cfg0.N) (y : S64x4096.Idx) :
    (outsAt0 m c t.val t.isLt).2.1 y = dxAt (iblk m c 0 t) (iblk m c 4 t) (iblk m c 5 t) (y 0) (y 1) := by
  by_cases h0 : t.val % 32 = 0
  · rw [outsAt0_A m c t h0 (by omega)]; dsimp only; exact out7_A c _ _ _ _ _ _ _ _ _ _ _ _ _ _ _ _ _ _ _ _ _ _ _ _ _ _ _ _ _ y
  · by_cases h1 : t.val % 32 = 31
    · rw [outsAt0_C m c t h0 h1]; dsimp only; exact out7_C c _ _ _ _ _ _ _ _ _ _ _ _ _ _ _ _ _ _ _ _ _ _ _ _ _ _ _ _ _ _ y
    · rw [outsAt0_B m c t h0 h1]; dsimp only; exact out7_B c _ _ _ _ _ _ _ _ _ _ _ _ _ _ _ _ _ _ _ _ _ _ _ _ _ _ _ _ _ _ y

/-- What point `n` adds to entry (`r`, `k`) of the gain gradient's block. -/
def partAt (n : Nat) (r : Fin 8) (k : Fin 4096) : EReal :=
  if h : n < cfg0.N then part8 (iblk m c 4 ⟨n, h⟩) (iblk m c 5 ⟨n, h⟩) r k else 0

/-- At a point of the grid the part is that of the point's two row blocks. -/
theorem partAt_eq (n : Nat) (hn : n < cfg0.N) (r : Fin 8) (k : Fin 4096) :
    partAt m c n r k = part8 (iblk m c 4 ⟨n, hn⟩) (iblk m c 5 ⟨n, hn⟩) r k := dif_pos hn

/-- Before the last point, window 8 holds the parts of the points so far. -/
theorem point8 (n : Nat) (hn : n < cfg0.N) (hl : n < 31) (y : S8x4096.Idx) :
    (outsAt0 m c n hn).2.2 y = ∑ s ∈ Finset.range (n + 1), partAt m c s (y 0) (y 1) := by
  induction n with
  | zero =>
    rw [outsAt0_A m c ⟨0, hn⟩ rfl (show ¬0 % 32 = 31 by decide)]
    dsimp only
    refine (out8_A c _ _ _ _ _ _ _ _ _ _ _ _ _ _ _ _ _ _ _ _ _ _ _ _ _ _ _ _ _ y).trans ?_
    rw [Finset.sum_range_one, zero_add]
    exact (partAt_eq m c 0 hn (y 0) (y 1)).symm
  | succ n ih =>
    rw [outsAt0_B m c ⟨n + 1, hn⟩ (show ¬(n + 1) % 32 = 0 by omega) (show ¬(n + 1) % 32 = 31 by omega)]
    dsimp only
    refine (out8_B c _ _ _ _ _ _ _ _ _ _ _ _ _ _ _ _ _ _ _ _ _ _ _ _ _ _ _ _ _ _ y).trans ?_
    rw [Finset.sum_range_succ _ (n + 1)]
    refine congrArg₂ (fun a b : EReal => a + b) (ih _ (by omega)) ?_
    exact (partAt_eq m c (n + 1) hn (y 0) (y 1)).symm

/-- After the last point, every row of window 8 holds the sum of all points' parts over the 8 rows. -/
theorem point8_last (hn : 31 < cfg0.N) (y : S8x4096.Idx) :
    (outsAt0 m c 31 hn).2.2 y = ∑ r : Fin 8, ∑ s ∈ Finset.range 32, partAt m c s r (y 1) := by
  rw [outsAt0_C m c ⟨31, hn⟩ (show ¬31 % 32 = 0 by decide) rfl]
  dsimp only
  refine (out8_C c _ _ _ _ _ _ _ _ _ _ _ _ _ _ _ _ _ _ _ _ _ _ _ _ _ _ _ _ _ _ y).trans ?_
  refine Finset.sum_congr rfl fun r _ => ?_
  rw [Finset.sum_range_succ _ 31]
  refine congrArg₂ (fun a b : EReal => a + b) (point8 m c 30 _ (by decide) (ix2 r (y 1))) ?_
  exact (partAt_eq m c 31 hn r (y 1)).symm

end Cert.KernelIdeal.Value
end
-- ==== Proof.Arrays.lean ====
module

public import proofs.«01_k».proof.Proof.Points

@[expose] public section
set_option maxRecDepth 16384
noncomputable section

/-! What the three result arrays hold after the run: each point's blocks are its columns or rows of the arrays, and the
blocks written back cover the arrays. -/
namespace Cert.KernelIdeal.Value
open Cert.KernelIdeal Cert.KernelIdeal.Gen Cert.Spec Idealize.ShloMosaic Idealize.ShloMosaic.TcCoe Idealize.SL.Sem

variable (m : (ℓ : Loc nD τ sig) → Buf (Elt Ideal) ℓ) (c : Dev nD)

/-- Columns `512 t … 512 t + 511` of a matrix of 16384 columns. -/
def cols {r : Nat} (M : Mat r 16384) (t : Fin 32) : Mat r 512 :=
  fun j => M (ix2 (j 0) ⟨512 * t.val + (j 1).val, by have := t.isLt; have : (j 1).val < 512 := (j 1).isLt; omega⟩)

/-- Rows `64 t … 64 t + 63` of a matrix of 2048 rows. -/
def rows (M : Mat 2048 4096) (t : Fin 32) : Mat 64 4096 :=
  fun j => M (ix2 ⟨64 * t.val + (j 0).val, by have := t.isLt; have : (j 0).val < 64 := (j 0).isLt; omega⟩ (j 1))

/-- The gain's block is the whole gain at every point. -/
theorem idx0 : ∀ t : Fin cfg0.N, win0_0.index t (0 : Fin 2) = 0 ∧ win0_0.index t (1 : Fin 2) = 0 :=
  (by decide +kernel : ∀ t : Fin grid0.N, _)

/-- The block of the quantised, transposed input is the whole array at every point. -/
theorem idx1 : ∀ t : Fin cfg0.N, win0_1.index t (0 : Fin 2) = 0 ∧ win0_1.index t (1 : Fin 2) = 0 :=
  (by decide +kernel : ∀ t : Fin grid0.N, _)

/-- The block of the column codes moves along the columns with the point. -/
theorem idx2 : ∀ t : Fin cfg0.N, win0_2.index t (0 : Fin 2) = 0 ∧ win0_2.index t (1 : Fin 2) = t.val :=
  (by decide +kernel : ∀ t : Fin grid0.N, _)

/-- The block of the column scales moves along the columns with the point. -/
theorem idx3 : ∀ t : Fin cfg0.N, win0_3.index t (0 : Fin 2) = 0 ∧ win0_3.index t (1 : Fin 2) = t.val :=
  (by decide +kernel : ∀ t : Fin grid0.N, _)

/-- The block of the gradient of the normalised input moves along the rows with the point. -/
theorem idx4 : ∀ t : Fin cfg0.N, win0_4.index t (0 : Fin 2) = t.val ∧ win0_4.index t (1 : Fin 2) = 0 :=
  (by decide +kernel : ∀ t : Fin grid0.N, _)

/-- The block of the input moves along the rows with the point. -/
theorem idx5 : ∀ t : Fin cfg0.N, win0_5.index t (0 : Fin 2) = t.val ∧ win0_5.index t (1 : Fin 2) = 0 :=
  (by decide +kernel : ∀ t : Fin grid0.N, _)

/-- The block of the weight gradient moves along the columns with the point. -/
theorem idx6 : ∀ t : Fin cfg0.N, win0_6.index t (0 : Fin 2) = 0 ∧ win0_6.index t (1 : Fin 2) = t.val :=
  (by decide +kernel : ∀ t : Fin grid0.N, _)

/-- The block of the input gradient moves along the rows with the point. -/
theorem idx7 : ∀ t : Fin cfg0.N, win0_7.index t (0 : Fin 2) = t.val ∧ win0_7.index t (1 : Fin 2) = 0 :=
  (by decide +kernel : ∀ t : Fin grid0.N, _)

/-- The gain gradient's block is the whole array at every point. -/
theorem idx8 : ∀ t : Fin cfg0.N, win0_8.index t (0 : Fin 2) = 0 ∧ win0_8.index t (1 : Fin 2) = 0 :=
  (by decide +kernel : ∀ t : Fin grid0.N, _)

/-- Window 0 stages the gain. -/
theorem iblk0_eq (t : Fin cfg0.N) : iblk m c 0 t = V m c main_arg0 := by
  obtain ⟨e0, e1⟩ := idx0 t
  funext j; refine congrArg (V m c main_arg0) (idx_ext ?_ ?_)
  · show win0_0.index t (0 : Fin 2) * 1 + 1 * (j 0).val = (j 0).val; omega
  · show win0_0.index t (1 : Fin 2) * 4096 + 1 * (j 1).val = (j 1).val; omega

/-- Window 1 stages the quantised, transposed input. -/
theorem iblk1_eq (t : Fin cfg0.N) : iblk m c 1 t = V m c main_arg1 := by
  obtain ⟨e0, e1⟩ := idx1 t
  funext j; refine congrArg (V m c main_arg1) (idx_ext ?_ ?_)
  · show win0_1.index t (0 : Fin 2) * 4096 + 1 * (j 0).val = (j 0).val; omega
  · show win0_1.index t (1 : Fin 2) * 2048 + 1 * (j 1).val = (j 1).val; omega

/-- Window 2 stages the point's columns of the column codes. -/
theorem iblk2_eq (t : Fin cfg0.N) : iblk m c 2 t = cols (V m c main_arg2) (t.cast N_0) := by
  obtain ⟨e0, e1⟩ := idx2 t
  funext j; refine congrArg (V m c main_arg2) (idx_ext ?_ ?_)
  · show win0_2.index t (0 : Fin 2) * 2048 + 1 * (j 0).val = (j 0).val; omega
  · show win0_2.index t (1 : Fin 2) * 512 + 1 * (j 1).val = 512 * t.val + (j 1).val; omega

/-- Window 3 stages the point's columns of the column scales. -/
theorem iblk3_eq (t : Fin cfg0.N) : iblk m c 3 t = cols (V m c main_arg3) (t.cast N_0) := by
  obtain ⟨e0, e1⟩ := idx3 t
  funext j; refine congrArg (V m c main_arg3) (idx_ext ?_ ?_)
  · show win0_3.index t (0 : Fin 2) * 16 + 1 * (j 0).val = (j 0).val; omega
  · show win0_3.index t (1 : Fin 2) * 512 + 1 * (j 1).val = 512 * t.val + (j 1).val; omega

/-- Window 4 stages the point's rows of the gradient of the normalised input. -/
theorem iblk4_eq (t : Fin cfg0.N) : iblk m c 4 t = rows (V m c main_arg4) (t.cast N_0) := by
  obtain ⟨e0, e1⟩ := idx4 t
  funext j; refine congrArg (V m c main_arg4) (idx_ext ?_ ?_)
  · show win0_4.index t (0 : Fin 2) * 64 + 1 * (j 0).val = 64 * t.val + (j 0).val; omega
  · show win0_4.index t (1 : Fin 2) * 4096 + 1 * (j 1).val = (j 1).val; omega

/-- Window 5 stages the point's rows of the input. -/
theorem iblk5_eq (t : Fin cfg0.N) : iblk m c 5 t = rows (V m c main_arg5) (t.cast N_0) := by
  obtain ⟨e0, e1⟩ := idx5 t
  funext j; refine congrArg (V m c main_arg5) (idx_ext ?_ ?_)
  · show win0_5.index t (0 : Fin 2) * 64 + 1 * (j 0).val = 64 * t.val + (j 0).val; omega
  · show win0_5.index t (1 : Fin 2) * 4096 + 1 * (j 1).val = (j 1).val; omega

/-- The weight gradient of a block of columns is that of the whole at those columns. -/
theorem dwAt_cols (A : Mat 4096 2048) (C : Mat 2048 16384) (S : Mat 16 16384) (t : Fin 32) (p : Fin 4096) (q : Fin 512) (h : 512 * t.val + q.val < 16384) :
    dwAt A (cols C t) (cols S t) p q = dwAt A C S p ⟨512 * t.val + q.val, h⟩ := rfl

/-- The input gradient of a block of rows is that of the whole at those rows. -/
theorem dxAt_rows (Γ : Mat 1 4096) (D X : Mat 2048 4096) (t : Fin 32) (p : Fin 64) (q : Fin 4096) (h : 64 * t.val + p.val < 2048) :
    dxAt Γ (rows D t) (rows X t) p q = dxAt Γ D X ⟨64 * t.val + p.val, h⟩ q := rfl

/-- The array of the weight gradients. -/
def W6 : S4096x16384.Idx → EReal := fun y => dwAt (V m c main_arg1) (V m c main_arg2) (V m c main_arg3) (y 0) (y 1)

/-- The array of the input gradients. -/
def W7 : S2048x4096.Idx → EReal := fun y => dxAt (V m c main_arg0) (V m c main_arg4) (V m c main_arg5) (y 0) (y 1)

/-- The array of the gain gradient, one copy per row. -/
def W8 : S8x4096.Idx → EReal := fun y => dgammaAt (n := 2048) (V m c main_arg4) (V m c main_arg5) (y 1)

/-- Where window 6's block at a point lies in the array. -/
theorem emb6 (t : Fin cfg0.N) (j : S4096x512.Idx) (h : 512 * t.val + (j 1).val < 16384) :
    ((cfg0.win 6).blk t).view.emb j = (ix2 (j 0) ⟨512 * t.val + (j 1).val, h⟩ : S4096x16384.Idx) := by
  obtain ⟨e0, e1⟩ := idx6 t
  refine idx_ext ?_ ?_
  · show win0_6.index t (0 : Fin 2) * 4096 + 1 * (j 0).val = (j 0).val; omega
  · show win0_6.index t (1 : Fin 2) * 512 + 1 * (j 1).val = 512 * t.val + (j 1).val; omega

/-- Where window 7's block at a point lies in the array. -/
theorem emb7 (t : Fin cfg0.N) (j : S64x4096.Idx) (h : 64 * t.val + (j 0).val < 2048) :
    ((cfg0.win 7).blk t).view.emb j = (ix2 ⟨64 * t.val + (j 0).val, h⟩ (j 1) : S2048x4096.Idx) := by
  obtain ⟨e0, e1⟩ := idx7 t
  refine idx_ext ?_ ?_
  · show win0_7.index t (0 : Fin 2) * 64 + 1 * (j 0).val = 64 * t.val + (j 0).val; omega
  · show win0_7.index t (1 : Fin 2) * 4096 + 1 * (j 1).val = (j 1).val; omega

/-- Window 8's block is the whole array. -/
theorem emb8 (t : Fin cfg0.N) (j : S8x4096.Idx) : ((cfg0.win 8).blk t).view.emb j = j := by
  obtain ⟨e0, e1⟩ := idx8 t
  refine idx_ext (r := 8) (k := 4096) ?_ ?_
  · show win0_8.index t (0 : Fin 2) * 8 + 1 * (j 0).val = (j 0).val; omega
  · show win0_8.index t (1 : Fin 2) * 4096 + 1 * (j 1).val = (j 1).val; omega

/-- What a point writes back through window 6 is its block of the weight gradients. -/
theorem back6 (t : Fin cfg0.N) :
    (dats m 0 c).flushed 6 t = ((cfg0.win 6).blk t).view.read (Elt Ideal) (W6 m c) := by
  show (cfg0.win 6).cut (grid0.coords t) ((dats m 0 c).after 6 t) = _
  rw [after0_6]
  funext j
  have ht : t.val < 32 := (t.cast N_0).isLt
  have hj : (j 1).val < 512 := (j 1).isLt
  show (outsAt0 m c t.val t.isLt).1 j = W6 m c (((cfg0.win 6).blk t).view.emb j)
  rw [emb6 t j (by omega), point6, iblk1_eq, iblk2_eq, iblk3_eq]
  exact dwAt_cols _ _ _ _ _ _ _

/-- What a point writes back through window 7 is its block of the input gradients. -/
theorem back7 (t : Fin cfg0.N) :
    (dats m 0 c).flushed 7 t = ((cfg0.win 7).blk t).view.read (Elt Ideal) (W7 m c) := by
  show (cfg0.win 7).cut (grid0.coords t) ((dats m 0 c).after 7 t) = _
  rw [after0_7]
  funext j
  have ht : t.val < 32 := (t.cast N_0).isLt
  have hj : (j 0).val < 64 := (j 0).isLt
  show (outsAt0 m c t.val t.isLt).2.1 j = W7 m c (((cfg0.win 7).blk t).view.emb j)
  rw [emb7 t j (by omega), point7, iblk0_eq, iblk4_eq, iblk5_eq]
  exact dxAt_rows _ _ _ _ _ _ _

/-- Row `8 g + r` of the rows of point `s` is row `64 s + 8 g + r` of the array; the sum over points, groups and the row in
    the group is the sum over all rows. -/
theorem sum_rows (f : Fin 2048 → EReal) :
    ∑ k, f k = ∑ r : Fin 8, ∑ s : Fin 32, ∑ g : Fin 8, f ⟨64 * s.val + (8 * g.val + r.val), by omega⟩ := by
  rw [sum_chunks (a := 256) (b := 8) rfl f]
  refine Finset.sum_congr rfl fun r _ => ?_
  rw [sum_chunks (a := 32) (b := 8) rfl, Finset.sum_comm]
  refine Finset.sum_congr rfl fun s _ => Finset.sum_congr rfl fun g _ => congrArg f (Fin.ext ?_)
  show 8 * (8 * s.val + g.val) + r.val = 64 * s.val + (8 * g.val + r.val)
  omega

/-- The parts of the points, summed over the points and the 8 rows, are the gain gradient. -/
theorem parts_sum (k : Fin 4096) :
    (∑ r : Fin 8, ∑ s ∈ Finset.range 32, partAt m c s r k) = dgammaAt (n := 2048) (V m c main_arg4) (V m c main_arg5) k := by
  unfold dgammaAt
  rw [sum_rows]
  refine Finset.sum_congr rfl fun r _ => ?_
  rw [Finset.sum_range]
  refine Finset.sum_congr rfl fun s _ => ?_
  rw [partAt_eq m c s.val (by rw [show cfg0.N = 32 from N_0]; exact s.isLt), iblk4_eq, iblk5_eq]
  rfl

/-- What the last point writes back through window 8 is the gain gradient. -/
theorem back8 (t : Fin cfg0.N) (hf : (cfg0.win 8).flush t = true) :
    (dats m 0 c).flushed 8 t = ((cfg0.win 8).blk t).view.read (Elt Ideal) (W8 m c) := by
  have ht : t.val < 32 := (t.cast N_0).isLt
  have h31 : t.val = 31 := by have := (flush0_8 t).mp hf; omega
  obtain ⟨n, hn⟩ := t
  obtain rfl : n = 31 := h31
  show (cfg0.win 8).cut (grid0.coords _) ((dats m 0 c).after 8 _) = _
  rw [after0_8]
  funext j
  show (outsAt0 m c 31 hn).2.2 j = W8 m c (((cfg0.win 8).blk ⟨31, hn⟩).view.emb j)
  rw [emb8, point8_last]
  exact parts_sum m c _

/-- Every entry of the weight gradients lies in some point's block. -/
theorem covered6 (i : S4096x16384.Idx) :
    ∃ t : Fin cfg0.N, (cfg0.win 6).flush t = true ∧ i ∈ ((cfg0.win 6).blk t).view.set := by
  have hi : (i 1).val < 16384 := (i 1).isLt
  have hN : cfg0.N = 32 := N_0
  let t : Fin cfg0.N := ⟨(i 1).val / 512, by omega⟩
  let j : S4096x512.Idx := ix2 (i 0) ⟨(i 1).val % 512, by omega⟩
  have e : ((cfg0.win 6).blk t).view.emb j = i :=
    (emb6 t j (by show 512 * ((i 1).val / 512) + (i 1).val % 512 < 16384; omega)).trans
      (idx_ext rfl (by show 512 * ((i 1).val / 512) + (i 1).val % 512 = (i 1).val; omega))
  have h := ((cfg0.win 6).blk t).view.emb_mem_set j
  rw [e] at h
  exact ⟨t, flush0_6 t, h⟩

/-- Every entry of the input gradients lies in some point's block. -/
theorem covered7 (i : S2048x4096.Idx) :
    ∃ t : Fin cfg0.N, (cfg0.win 7).flush t = true ∧ i ∈ ((cfg0.win 7).blk t).view.set := by
  have hi : (i 0).val < 2048 := (i 0).isLt
  have hN : cfg0.N = 32 := N_0
  let t : Fin cfg0.N := ⟨(i 0).val / 64, by omega⟩
  let j : S64x4096.Idx := ix2 ⟨(i 0).val % 64, by omega⟩ (i 1)
  have e : ((cfg0.win 7).blk t).view.emb j = i :=
    (emb7 t j (by show 64 * ((i 0).val / 64) + (i 0).val % 64 < 2048; omega)).trans
      (idx_ext (by show 64 * ((i 0).val / 64) + (i 0).val % 64 = (i 0).val; omega) rfl)
  have h := ((cfg0.win 7).blk t).view.emb_mem_set j
  rw [e] at h
  exact ⟨t, flush0_7 t, h⟩

/-- Every entry of the gain gradient lies in the last point's block. -/
theorem covered8 (i : S8x4096.Idx) :
    ∃ t : Fin cfg0.N, (cfg0.win 8).flush t = true ∧ i ∈ ((cfg0.win 8).blk t).view.set := by
  have hN : 31 < cfg0.N := by rw [show cfg0.N = 32 from N_0]; decide
  refine ⟨⟨31, hN⟩, (flush0_8 _).mpr rfl, ?_⟩
  have h := ((cfg0.win 8).blk (⟨31, hN⟩ : Fin cfg0.N)).view.emb_mem_set i
  rwa [emb8] at h

/-- The first result array after the run: the weight gradients. -/
theorem final6 : (dats m 0 c).arrAt 6 cfg0.N = W6 m c :=
  (dats m 0 c).arrAt_eq_of_cover 6 (W6 m c) (fun t _ => back6 m c t) covered6

/-- The second result array after the run: the input gradients. -/
theorem final7 : (dats m 0 c).arrAt 7 cfg0.N = W7 m c :=
  (dats m 0 c).arrAt_eq_of_cover 7 (W7 m c) (fun t _ => back7 m c t) covered7

/-- The third result array after the run: the gain gradient in every row. -/
theorem final8 : (dats m 0 c).arrAt 8 cfg0.N = W8 m c :=
  (dats m 0 c).arrAt_eq_of_cover 8 (W8 m c) (fun t hf => back8 m c t hf) covered8

end Cert.KernelIdeal.Value
end
-- ==== Proof.Reference.lean ====
module

public import proofs.«01_k».proof.Proof.Spec
public import proofs.«01_k».proof.Proof.Gen.ReferenceIdeal.Value

@[expose] public section
set_option maxRecDepth 16384
noncomputable section

/-! What the reference program leaves in its three results, entry by entry. -/
namespace Cert.ReferenceIdeal.Value
open Cert.ReferenceIdeal Cert.ReferenceIdeal.Gen Cert.Spec Idealize.ShloMosaic Idealize.ShloMosaic.TcCoe Idealize.SL.Sem

variable (a0 : Vec Ideal S1x4096 .f32) (a1 : Vec Ideal S4096x2048 .bf16) (a2 : Vec Ideal S2048x16384 .fp8e5m2)
  (a3 : Vec Ideal S16x16384 .f32) (a4 : Vec Ideal S2048x4096 .f32) (a5 : Vec Ideal S2048x4096 .bf16)

/-- The reference's first result is the weight gradient. -/
theorem G6_apply (p : Fin 4096) (q : Fin 16384) : G6 a0 a1 a2 a3 a4 a5 (ix2 p q) = dwAt a1 a2 a3 p q := by
  unfold G6
  unfold_payloads
  pointwise []
  rfl

/-- The reference's second result is the input gradient of the normalisation. -/
theorem G7_apply (p : Fin 2048) (q : Fin 4096) : G7 a0 a1 a2 a3 a4 a5 (ix2 p q) = dxAt a0 a4 a5 p q := by
  unfold G7
  unfold_payloads
  pointwise [E7]
  rfl

/-- The reference's third result holds the gradient of the gain in each of its eight rows. -/
theorem G8_apply (p : Fin 8) (q : Fin 4096) : G8 a0 a1 a2 a3 a4 a5 (ix2 p q) = dgammaAt a4 a5 q := by
  unfold G8
  unfold_payloads
  pointwise [E8]
  rfl

end Cert.ReferenceIdeal.Value
end
-- ==== Proof.Equation.lean ====
module

public import proofs.«01_k».proof.Proof.Arrays
public import proofs.«01_k».proof.Proof.Reference
public import proofs.«01_k».proof.Defs

@[expose] public section
set_option maxRecDepth 16384
noncomputable section

/-! The equation: from memories that agree on the arguments the kernel and the reference end with equal results. -/
namespace Cert.Equation
open Cert.KernelIdeal Cert.Spec Idealize.ShloMosaic Idealize.ShloMosaic.TcCoe Idealize.SL.Sem

/-- An index of a matrix is the pair of its two numbers. -/
theorem pair {r k : Nat} (y : (⟨2, ![r, k]⟩ : Shape).Idx) : ix2 (y 0) (y 1) = y := idx_ext rfl rfl

variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)

/-- The two memories hold the same arguments on device `c`. -/
def Agree : Prop :=
  m' ((c : Thread Cert.ReferenceIdeal.nD Cert.ReferenceIdeal.τ).loc Cert.ReferenceIdeal.main_arg0) = m ((c : Thread nD τ).loc main_arg0)
  ∧   m' ((c : Thread Cert.ReferenceIdeal.nD Cert.ReferenceIdeal.τ).loc Cert.ReferenceIdeal.main_arg1) = m ((c : Thread nD τ).loc main_arg1)
  ∧   m' ((c : Thread Cert.ReferenceIdeal.nD Cert.ReferenceIdeal.τ).loc Cert.ReferenceIdeal.main_arg2) = m ((c : Thread nD τ).loc main_arg2)
  ∧   m' ((c : Thread Cert.ReferenceIdeal.nD Cert.ReferenceIdeal.τ).loc Cert.ReferenceIdeal.main_arg3) = m ((c : Thread nD τ).loc main_arg3)
  ∧   m' ((c : Thread Cert.ReferenceIdeal.nD Cert.ReferenceIdeal.τ).loc Cert.ReferenceIdeal.main_arg4) = m ((c : Thread nD τ).loc main_arg4)
  ∧   m' ((c : Thread Cert.ReferenceIdeal.nD Cert.ReferenceIdeal.τ).loc Cert.ReferenceIdeal.main_arg5) = m ((c : Thread nD τ).loc main_arg5)

/-- The reference's weight gradient is the array that the kernel leaves. -/
theorem ref6 (h : Agree m c m') :
    Cert.ReferenceIdeal.Value.G6 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = Cert.KernelIdeal.Value.W6 m c := by
  obtain ⟨h0, h1, h2, h3, h4, h5⟩ := h
  funext y
  refine (congrArg (Cert.ReferenceIdeal.Value.G6 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5))) (pair y).symm).trans ((Cert.ReferenceIdeal.Value.G6_apply _ _ _ _ _ _ (y 0) (y 1)).trans ?_)
  rw [h1, h2, h3]
  unfold Cert.KernelIdeal.Value.W6
  rw [Cert.KernelIdeal.Gen.V_main_arg1, Cert.KernelIdeal.Gen.V_main_arg2, Cert.KernelIdeal.Gen.V_main_arg3]

/-- The reference's input gradient is the array that the kernel leaves. -/
theorem ref7 (h : Agree m c m') :
    Cert.ReferenceIdeal.Value.G7 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = Cert.KernelIdeal.Value.W7 m c := by
  obtain ⟨h0, h1, h2, h3, h4, h5⟩ := h
  funext y
  refine (congrArg (Cert.ReferenceIdeal.Value.G7 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5))) (pair y).symm).trans ((Cert.ReferenceIdeal.Value.G7_apply _ _ _ _ _ _ (y 0) (y 1)).trans ?_)
  rw [h0, h4, h5]
  unfold Cert.KernelIdeal.Value.W7
  rw [Cert.KernelIdeal.Gen.V_main_arg0, Cert.KernelIdeal.Gen.V_main_arg4, Cert.KernelIdeal.Gen.V_main_arg5]

/-- The reference's gain gradient is the array that the kernel leaves. -/
theorem ref8 (h : Agree m c m') :
    Cert.ReferenceIdeal.Value.G8 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = Cert.KernelIdeal.Value.W8 m c := by
  obtain ⟨h0, h1, h2, h3, h4, h5⟩ := h
  funext y
  refine (congrArg (Cert.ReferenceIdeal.Value.G8 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5))) (pair y).symm).trans ((Cert.ReferenceIdeal.Value.G8_apply _ _ _ _ _ _ (y 0) (y 1)).trans ?_)
  rw [h4, h5]
  unfold Cert.KernelIdeal.Value.W8
  rw [Cert.KernelIdeal.Gen.V_main_arg4, Cert.KernelIdeal.Gen.V_main_arg5]

end Cert.Equation
end
-- ==== Proof.QSpec.lean ====
module

public import proofs.«01_k».proof.Proof.Spec
public import Mathlib.Data.Nat.Find

@[expose] public section
set_option maxRecDepth 16384
noncomputable section

/-!
The quantiser's scale and its inverse as functions of `a`, the largest magnitude of a block divided by the largest number
of the eight-bit format: in the reference's words (the least power of two above `a`), and the proof that the kernel's
integer arithmetic on exponent fields names the same numbers for every extended real `a`.
-/
namespace Cert.Spec
open Idealize.ShloMosaic

/-- The power of two `2^(j - 125)`. -/
def pow2At (j : Fin 253) : EReal :=
  FloatOps.exp2 (F := Ideal) (φ := .f32) (FloatOps.sitofp (F := Ideal) .f32 (BitVec.ofNat 32 (j : Nat)) - Ideal.ofBits .f32 0x42FA0000#32)

/-- The scale of a block: the least power of two above `a`, and 1 below the normal range. -/
def scaleOf (a : EReal) : EReal :=
  if a < Ideal.ofBits .f32 0x00800000#32 then 1
  else Finset.univ.fold min (Ideal.ofBits .f32 0x7F800000#32) fun j : Fin 253 => if a < pow2At j then pow2At j else Ideal.ofBits .f32 0x7F800000#32

/-- The inverse of the scale, with its values beyond the normal range. -/
def invOf (a : EReal) : EReal :=
  if a < Ideal.ofBits .f32 0x7F000000#32 then
    (if a < Ideal.ofBits .f32 0x7E800000#32 then Ideal.div 1 (scaleOf a) else Ideal.ofBits .f32 0x00000000#32)
  else Ideal.ofBits .f32 0xFF800000#32

/-- The largest magnitude among finitely many numbers. -/
def amax {n : Nat} (f : Fin n → EReal) : EReal :=
  Finset.univ.fold max (Ideal.ofBits .f32 0xFF800000#32) fun k => FloatOps.absf (F := Ideal) (φ := .f32) (f k)

/-- Clipping between the numbers of two words. -/
def clipOf (lo hi : BitVec 32) (x : EReal) : EReal := min (Ideal.ofBits .f32 hi) (max (Ideal.ofBits .f32 lo) x)

/-- Place `k` of the group of 128 in which `t` lies. -/
def grp {n : Nat} (h : 128 ∣ n) (t : Fin n) (k : Fin 128) : Fin n := ⟨128 * ((t : Nat) / 128) + k, by
  obtain ⟨c, rfl⟩ := h; have := t.isLt; omega⟩

/-- The largest magnitude in the 128 rows around row `t` of column `j`, times the number of the word `f`. -/
def colA {n w : Nat} (h : 128 ∣ n) (X : Mat n w) (f : BitVec 32) (t : Fin n) (j : Fin w) : EReal :=
  amax (fun k => X (ix2 (grp h t k) j)) * Ideal.ofBits .f32 f

/-- The largest magnitude in the 128 columns around column `j` of row `t`, times the number of the word `f`. -/
def rowA {n w : Nat} (h : 128 ∣ w) (X : Mat n w) (f : BitVec 32) (t : Fin n) (j : Fin w) : EReal :=
  amax (fun k => X (ix2 t (grp h j k))) * Ideal.ofBits .f32 f

/-- The word of the power of two with exponent field `min k 254`. -/
def expWord (k : Nat) : BitVec 32 := IntOp.shli ArithUnit.vector (IntOp.minsi (BitVec.ofNat 32 k) 254#32) 23#32

/-- The largest exponent word whose power of two is at most `a`. -/
def fieldOf (a : EReal) : BitVec 32 :=
  Finset.univ.fold IntOp.maxsi 2147483648#32 fun k : Fin 256 => if Ideal.ofBits .f32 (expWord k) ≤ a then expWord k else 0#32

/-- The scale's word as the kernel computes it. -/
def wordOf (a : EReal) : BitVec 32 :=
  Scalar.select (IntOp.cmpi CmpIPredicate.eq (fieldOf a) 0#32) 1065353216#32 (IntOp.addi (fieldOf a) 8388608#32)

/-- The number an exponent word with field `e` between 1 and 254 stands for. -/
theorem ofBits_exp (e : Nat) (h1 : 1 ≤ e) (h2 : e ≤ 254) :
    Ideal.ofBits .f32 (BitVec.ofNat 32 (e * 8388608)) = (((2 : ℝ) ^ ((e : Int) - 127) : ℝ) : EReal) := by
  have key : ∀ e : Fin 255, ((BitVec.ofNat 32 ((e : Nat) * 8388608)).extractLsb' 31 1 == 1#1) = false
      ∧ ((BitVec.ofNat 32 ((e : Nat) * 8388608)).extractLsb' 23 8).toNat = (e : Nat)
      ∧ ((BitVec.ofNat 32 ((e : Nat) * 8388608)).extractLsb' 0 23).toNat = 0 := by decide +kernel
  obtain ⟨k1, k2, k3⟩ := key ⟨e, by omega⟩
  dsimp only at k1 k2 k3
  unfold Ideal.ofBits Ideal.ieee
  simp only [Nat.reduceAdd]
  rw [k1, k2, k3]
  rw [if_neg (by omega), if_neg (by omega)]
  refine congrArg (fun r : ℝ => (r : EReal)) ?_
  have : ((2 : ℝ) ^ ((e : Int) - 127)) = 2 ^ (23 : Int) * 2 ^ ((e : Int) - (2 ^ (8 - 1) - 1) - (23 : Nat)) := by
    rw [← zpow_add₀ (by norm_num : (2 : ℝ) ≠ 0)]; congr 1; norm_num
  rw [this]
  norm_num

theorem expWord_eq : ∀ k : Fin 256, expWord k = BitVec.ofNat 32 (min (k : Nat) 254 * 8388608) := by
  unfold expWord; decide +kernel

theorem expWord_toInt : ∀ k : Fin 256, (expWord k).toInt = ((min (k : Nat) 254 * 8388608 : Nat) : Int) := by
  unfold expWord; decide +kernel

theorem pow2At_eq (j : Fin 253) : pow2At j = (((2 : ℝ) ^ ((j : Int) - 125) : ℝ) : EReal) := by
  have h : (BitVec.ofNat 32 (j : Nat)).toInt = (j : Int) := by
    have : ∀ j : Fin 253, (BitVec.ofNat 32 (j : Nat)).toInt = (j : Int) := by decide +kernel
    exact this j
  have hc : Ideal.ofBits .f32 0x42FA0000#32 = ((125 : ℝ) : EReal) := by
    simp [Ideal.ofBits, Ideal.ieee, -EReal.coe_mul]; norm_num
  unfold pow2At
  rw [hc]
  show Ideal.exp2 (((BitVec.ofNat 32 (j : Nat)).toInt : ℝ) - ((125 : ℝ) : EReal)) = _
  rw [h, ← EReal.coe_sub, Ideal.exp2_coe]
  refine congrArg (fun r : ℝ => (r : EReal)) ?_
  rw [← Real.rpow_intCast]
  simp

/-- The power of two with exponent field `k`. -/
def pw (k : Nat) : EReal := (((2 : ℝ) ^ ((k : Int) - 127) : ℝ) : EReal)

theorem pw_mono {i j : Nat} (h : i ≤ j) : pw i ≤ pw j :=
  EReal.coe_le_coe_iff.mpr (zpow_le_zpow_right₀ (by norm_num) (by omega))

theorem pow2At_pw (j : Fin 253) : pow2At j = pw (j + 2) := by
  rw [pow2At_eq]; unfold pw
  rw [show ((j : Int) - 125) = (((j : Nat) + 2 : Nat) : Int) - 127 by push_cast; ring]

theorem ofBits_pw (e : Nat) (h1 : 1 ≤ e) (h2 : e ≤ 254) : Ideal.ofBits .f32 (BitVec.ofNat 32 (e * 8388608)) = pw e :=
  ofBits_exp e h1 h2

/-- The exponent field of `a`: the largest field whose power of two is at most `a`, and 0 below the normal range. -/
theorem field_exists (a : EReal) : ∃ e : Nat, e ≤ 254 ∧ (∀ k, 1 ≤ k → k ≤ e → pw k ≤ a) ∧ (∀ k, e < k → k ≤ 254 → a < pw k) := by
  classical
  refine ⟨Nat.findGreatest (fun k => 1 ≤ k ∧ pw k ≤ a) 254, Nat.findGreatest_le _, ?_, ?_⟩
  · intro k h1 hk
    have h0 : Nat.findGreatest (fun k => 1 ≤ k ∧ pw k ≤ a) 254 ≠ 0 := by omega
    exact (pw_mono hk).trans (Nat.findGreatest_of_ne_zero rfl h0).2
  · intro k hk h2
    by_contra h
    exact Nat.findGreatest_is_greatest hk h2 ⟨by omega, not_lt.mp h⟩

theorem fieldOf_eq (a : EReal) (e : Nat) (he : e ≤ 254) (h1 : ∀ k, 1 ≤ k → k ≤ e → pw k ≤ a) (h2 : ∀ k, e < k → k ≤ 254 → a < pw k) :
    fieldOf a = BitVec.ofNat 32 (e * 8388608) := by
  have hw : ∀ k : Fin 256, 1 ≤ (k : Nat) → Ideal.ofBits .f32 (expWord k) = pw (min (k : Nat) 254) := fun k hk => by
    rw [expWord_eq]; exact ofBits_pw _ (by omega) (by omega)
  apply BitVec.eq_of_toInt_eq
  have hmax : ∀ x y : BitVec 32, (IntOp.maxsi x y).toInt = max x.toInt y.toInt := fun x y => by
    unfold IntOp.maxsi
    simp only [BitVec.slt, decide_eq_true_eq]
    split <;> omega
  have he' : (BitVec.ofNat 32 (e * 8388608)).toInt = ((e * 8388608 : Nat) : Int) := by
    have := expWord_toInt ⟨e, by omega⟩
    rw [expWord_eq] at this
    simpa only [Nat.min_eq_left he] using this
  unfold fieldOf
  rw [← Finset.fold_hom (op' := max) (m := BitVec.toInt) hmax, he']
  apply le_antisymm
  · refine Finset.fold_max_le _ |>.mpr ⟨le_trans (by decide : (2147483648#32).toInt ≤ 0) (Int.natCast_nonneg _), fun k _ => ?_⟩
    split
    · rename_i hk
      rw [expWord_toInt]
      by_contra hlt
      have h3 : e < min (k : Nat) 254 := by omega
      exact absurd (hw k (by omega) ▸ hk) (not_le.mpr (h2 _ h3 (by omega)))
    · simp
  · rcases Nat.eq_zero_or_pos e with h0 | h0
    · refine Finset.le_fold_max _ |>.mpr (Or.inr ⟨0, Finset.mem_univ _, ?_⟩)
      subst h0
      have hz : expWord ((0 : Fin 256) : Nat) = 0#32 := by unfold expWord; decide
      rw [hz]; simp
    · refine Finset.le_fold_max _ |>.mpr (Or.inr ⟨⟨e, by omega⟩, Finset.mem_univ _, ?_⟩)
      rw [if_pos, expWord_toInt]
      · simp [Nat.min_eq_left he]
      · rw [hw ⟨e, by omega⟩ h0]
        exact (h1 _ (by simp only []; omega) (by simp only []; omega))

theorem scaleOf_eq (a : EReal) (e : Nat) (he : e ≤ 254) (h1 : ∀ k, 1 ≤ k → k ≤ e → pw k ≤ a) (h2 : ∀ k, e < k → k ≤ 254 → a < pw k) :
    scaleOf a = if e = 0 then 1 else if e = 254 then ⊤ else pw (e + 1) := by
  have hlow : Ideal.ofBits .f32 0x00800000#32 = pw 1 := ofBits_pw 1 (by omega) (by omega)
  have htop : Ideal.ofBits .f32 0x7F800000#32 = ⊤ := by simp [Ideal.ofBits, Ideal.ieee]
  unfold scaleOf
  rw [hlow, htop]
  split
  · rename_i h
    rw [if_pos]
    by_contra h0
    exact absurd (h1 1 le_rfl (by omega)) (not_le.mpr h)
  · rename_i h
    have h0 : e ≠ 0 := fun h0 => h (h2 1 (by omega) (by omega))
    rw [if_neg h0]
    split
    · rename_i h254
      apply top_le_iff.mp
      refine Finset.le_fold_min _ |>.mpr ⟨le_rfl, fun j _ => ?_⟩
      rw [if_neg]
      rw [pow2At_pw]
      exact not_lt.mpr (h1 _ (by omega) (by omega))
    · apply le_antisymm
      · refine Finset.fold_min_le _ |>.mpr (Or.inr ⟨⟨e - 1, by omega⟩, Finset.mem_univ _, ?_⟩)
        have hj : pow2At ⟨e - 1, by omega⟩ = pw (e + 1) := by
          rw [pow2At_pw]; congr 1; simp only []; omega
        rw [hj, if_pos (h2 _ (by omega) (by omega))]
      · refine Finset.le_fold_min _ |>.mpr ⟨le_top, fun j _ => ?_⟩
        split
        · rename_i hj
          rw [pow2At_pw] at hj ⊢
          apply pw_mono
          by_contra hlt
          exact absurd (h1 (j + 2) (by omega) (by omega)) (not_le.mpr hj)
        · exact le_top

theorem wordOf_eq (a : EReal) (e : Nat) (he : e ≤ 254) (hf : fieldOf a = BitVec.ofNat 32 (e * 8388608)) :
    wordOf a = BitVec.ofNat 32 ((if e = 0 then 127 else e + 1) * 8388608) := by
  have key : ∀ e : Fin 255, Scalar.select (IntOp.cmpi CmpIPredicate.eq (BitVec.ofNat 32 ((e : Nat) * 8388608)) 0#32) 1065353216#32
      (IntOp.addi (BitVec.ofNat 32 ((e : Nat) * 8388608)) 8388608#32)
      = BitVec.ofNat 32 ((if (e : Nat) = 0 then 127 else (e : Nat) + 1) * 8388608) := by decide +kernel
  unfold wordOf
  rw [hf]
  exact key ⟨e, by omega⟩

/-- The kernel's scale word is the scale. -/
theorem ofBits_wordOf (a : EReal) : Ideal.ofBits .f32 (wordOf a) = scaleOf a := by
  obtain ⟨e, he, h1, h2⟩ := field_exists a
  rw [wordOf_eq a e he (fieldOf_eq a e he h1 h2), scaleOf_eq a e he h1 h2]
  split
  · rw [ofBits_pw 127 (by omega) (by omega)]; simp [pw]
  · split
    · subst e
      simp [Ideal.ofBits, Ideal.ieee]
    · exact ofBits_pw _ (by omega) (by omega)

/-- The kernel's word of the inverse is the inverse. -/
theorem ofBits_invWord (a : EReal) : Ideal.ofBits .f32 (IntOp.subi 2130706432#32 (wordOf a)) = invOf a := by
  obtain ⟨e, he, h1, h2⟩ := field_exists a
  have hA : Ideal.ofBits .f32 0x7E800000#32 = pw 253 := ofBits_pw 253 (by omega) (by omega)
  have hB : Ideal.ofBits .f32 0x7F000000#32 = pw 254 := ofBits_pw 254 (by omega) (by omega)
  have key : ∀ e : Fin 254, IntOp.subi 2130706432#32 (BitVec.ofNat 32 ((if (e : Nat) = 0 then 127 else (e : Nat) + 1) * 8388608))
      = BitVec.ofNat 32 ((if (e : Nat) = 0 then 127 else 253 - (e : Nat)) * 8388608) := by decide +kernel
  unfold invOf
  rw [wordOf_eq a e he (fieldOf_eq a e he h1 h2), scaleOf_eq a e he h1 h2, hA, hB]
  by_cases ha : a < pw 253
  · rw [if_pos (ha.trans_le (pw_mono (by omega))), if_pos ha]
    have he' : e ≤ 252 := by
      by_contra h; exact absurd (h1 253 (by omega) (by omega)) (not_le.mpr ha)
    rw [key ⟨e, by omega⟩]
    dsimp only
    rw [ofBits_pw _ (by split <;> omega) (by split <;> omega)]
    split
    · rw [show (1 : EReal) = ((1 : ℝ) : EReal) from rfl, Ideal.div_coe one_ne_zero]
      simp [pw]
    · rw [if_neg (by omega)]
      unfold pw
      rw [Ideal.div_coe (zpow_ne_zero _ two_ne_zero), one_mul]
      refine congrArg (fun r : ℝ => (r : EReal)) ?_
      rw [one_div, ← zpow_neg]
      congr 1
      omega
  · have he' : 253 ≤ e := by
      by_contra h; exact ha (h2 253 (by omega) (by omega))
    by_cases hb : a < pw 254
    · rw [if_pos hb, if_neg ha]
      have : e = 253 := by
        by_contra h; exact absurd (h1 254 (by omega) (by omega)) (not_le.mpr hb)
      subst this
      simp [Ideal.ofBits, Ideal.ieee, IntOp.subi]
    · rw [if_neg hb]
      have : e = 254 := by
        by_contra h; exact hb (h2 254 (by omega) (by omega))
      subst this
      rfl

end Cert.Spec
end
-- ==== Proof.Pieces.lean ====
module

public import proofs.«01_k».proof.Proof.Gen.QuantiseIdeal
public import proofs.«01_k».proof.Proof.QSpec
public import Idealize.ShloMosaic.Lib.Pointwise

@[expose] public section
set_option maxRecDepth 16384
noncomputable section

/-!
One block of 128 rows and 128 columns as the kernel quantises it, along either axis: the words, the scales and the codes
as vectors, and their entries.
-/
namespace Cert.QuantiseIdeal.Value
open Cert.QuantiseIdeal Cert.QuantiseIdeal.Gen Cert.Spec Idealize.ShloMosaic Idealize.ShloMosaic.TcCoe Idealize.SL.Sem

/-- The exponent words compared with a row of 128 numbers, the largest word kept. -/
def colField (a : FVec Ideal S1x128 .f32) : IVec S1x128 32 :=
  have v26 : IVec S256x128 32 := shli (minsi (iota .tc S256x128 32 [0] iota_S256x128_d0_w32) (broadcast S256x128 254#32)) (broadcast S256x128 23#32)
  have v29 : IVec S256x128 1 := cmpf .ole (bitcastToFloat (F := Ideal) .f32 v26) (broadcastTo S256x128 a broadcasts_S1x128_S256x128)
  have v31 : IVec S256x128 32 := select v29 v26 (broadcast S256x128 0#32)
  shapeCast S1x128 (multiReductionI .maxsi [0] S128 v31 2147483648#32 reduces_S256x128_S128 rfl) shapeCasts_S128_S1x128

/-- The exponent words compared with a column of 128 numbers, the largest word kept. -/
def rowField (a : FVec Ideal S128x1 .f32) : IVec S128x1 32 :=
  have v26 : IVec S128x256 32 := shli (minsi (iota .tc S128x256 32 [1] iota_S128x256_d1_w32) (broadcast S128x256 254#32)) (broadcast S128x256 23#32)
  have v29 : IVec S128x256 1 := cmpf .ole (bitcastToFloat (F := Ideal) .f32 v26) (broadcastTo S128x256 a broadcasts_S128x1_S128x256)
  have v31 : IVec S128x256 32 := select v29 v26 (broadcast S128x256 0#32)
  shapeCast S128x1 (multiReductionI .maxsi [1] S128 v31 2147483648#32 reduces_S128x256_S128 rfl) shapeCasts_S128_S128x1

theorem colField_apply (a : FVec Ideal S1x128 .f32) (j : Fin 128) : colField a (ix2 0 j) = fieldOf (a (ix2 0 j)) := by
  unfold colField
  pointwise
  rfl

theorem rowField_apply (a : FVec Ideal S128x1 .f32) (j : Fin 128) : rowField a (ix2 j 0) = fieldOf (a (ix2 j 0)) := by
  unfold rowField
  pointwise
  rfl

/-- The largest magnitude of every column, and of every row. -/
def colMax (v : FVec Ideal S128x128 .f32) : FVec Ideal S1x128 .f32 :=
  shapeCast S1x128 (multiReduction .maximumf [0] S128 (absf v) 0xFF800000#32 reduces_S128x128_S128 (.inl rfl) rfl) shapeCasts_S128_S1x128
def rowMax (v : FVec Ideal S128x128 .f32) : FVec Ideal S128x1 .f32 :=
  shapeCast S128x1 (multiReduction .maximumf [1] S128 (absf v) 0xFF800000#32 reduces_S128x128_S128_2 (.inl rfl) rfl) shapeCasts_S128_S128x1

theorem colMax_apply (v : FVec Ideal S128x128 .f32) (j : Fin 128) : colMax v (ix2 0 j) = amax fun k : Fin 128 => v (ix2 k j) := by
  unfold colMax
  pointwise
  rfl
theorem rowMax_apply (v : FVec Ideal S128x128 .f32) (j : Fin 128) : rowMax v (ix2 j 0) = amax fun k : Fin 128 => v (ix2 j k) := by
  unfold rowMax
  pointwise
  rfl

/-- The scale words of the columns, and of the rows, from their largest magnitudes. -/
def colWord (v : FVec Ideal S1x128 .f32) (f : BitVec 32) : IVec S1x128 32 :=
  have q : IVec S1x128 32 := colField (mulf v (broadcast S1x128 (Scalar.ofBits .f32 f : Ideal .f32)))
  select (cmpi .eq q (broadcast S1x128 0#32)) (broadcast S1x128 1065353216#32) (addi q (broadcast S1x128 8388608#32))
def rowWord (v : FVec Ideal S128x1 .f32) (f : BitVec 32) : IVec S128x1 32 :=
  have q : IVec S128x1 32 := rowField (mulf v (broadcast S128x1 (Scalar.ofBits .f32 f : Ideal .f32)))
  select (cmpi .eq q (broadcast S128x1 0#32)) (broadcast S128x1 1065353216#32) (addi q (broadcast S128x1 8388608#32))

theorem colWord_apply (v : FVec Ideal S1x128 .f32) (f : BitVec 32) (j : Fin 128) :
    colWord v f (ix2 0 j) = wordOf (v (ix2 0 j) * Ideal.ofBits .f32 f) := by
  unfold colWord wordOf
  have h := colField_apply (mulf v (broadcast S1x128 (Scalar.ofBits .f32 f : Ideal .f32))) j
  revert h
  generalize colField _ = q
  intro h
  pointwise
  rw [h]
  rfl
theorem rowWord_apply (v : FVec Ideal S128x1 .f32) (f : BitVec 32) (j : Fin 128) :
    rowWord v f (ix2 j 0) = wordOf (v (ix2 j 0) * Ideal.ofBits .f32 f) := by
  unfold rowWord wordOf
  have h := rowField_apply (mulf v (broadcast S128x1 (Scalar.ofBits .f32 f : Ideal .f32))) j
  revert h
  generalize rowField _ = q
  intro h
  pointwise
  rw [h]
  rfl

/-- The codes of a block: the block times the inverse scales its words name, clipped to the format's range. -/
def colClip (v : FVec Ideal S128x128 .f32) (w : IVec S1x128 32) (lo hi : BitVec 32) : FVec Ideal S128x128 .f32 :=
  minimumf (broadcast S128x128 (Scalar.ofBits .f32 hi : Ideal .f32)) (maximumf (broadcast S128x128 (Scalar.ofBits .f32 lo : Ideal .f32))
    (mulf v (broadcastTo S128x128 (bitcastToFloat (F := Ideal) .f32 (subi (broadcast S1x128 2130706432#32) w)) broadcasts_S1x128_S128x128)))
def rowClip (v : FVec Ideal S128x128 .f32) (w : IVec S128x1 32) (lo hi : BitVec 32) : FVec Ideal S128x128 .f32 :=
  minimumf (broadcast S128x128 (Scalar.ofBits .f32 hi : Ideal .f32)) (maximumf (broadcast S128x128 (Scalar.ofBits .f32 lo : Ideal .f32))
    (mulf v (broadcastTo S128x128 (bitcastToFloat (F := Ideal) .f32 (subi (broadcast S128x1 2130706432#32) w)) broadcasts_S128x1_S128x128)))

theorem colClip_apply (v : FVec Ideal S128x128 .f32) (w : IVec S1x128 32) (lo hi : BitVec 32) (i j : Fin 128) (a : EReal) (h : w (ix2 0 j) = wordOf a) :
    colClip v w lo hi (ix2 i j) = clipOf lo hi (v (ix2 i j) * invOf a) := by
  unfold colClip clipOf
  rw [← ofBits_invWord, ← h]
  pointwise
theorem rowClip_apply (v : FVec Ideal S128x128 .f32) (w : IVec S128x1 32) (lo hi : BitVec 32) (i j : Fin 128) (a : EReal) (h : w (ix2 i 0) = wordOf a) :
    rowClip v w lo hi (ix2 i j) = clipOf lo hi (v (ix2 i j) * invOf a) := by
  unfold rowClip clipOf
  rw [← ofBits_invWord, ← h]
  pointwise

theorem idx128 (x : S128x128.Idx) : x = ix2 (x 0) (x 1) := idx_ext rfl rfl

section
variable {n w : Nat} (hn : 128 ∣ n) (hw : 128 ∣ w) (X : Mat n w) (v : FVec Ideal S128x128 .f32) (R C : Nat) (hR : 128 ∣ R) (hC : 128 ∣ C)
  (hv : ∀ (a b : Fin 128) (p : Fin n) (q : Fin w), (p : Nat) = R + a → (q : Nat) = C + b → v (ix2 a b) = X (ix2 p q))
  (f lo hi : BitVec 32)
include hR hC hv

theorem colWord_block (p : Fin n) (q : Fin w) (j : Fin 128) (hp : (p : Nat) / 128 = R / 128) (hq : (q : Nat) = C + j) :
    colWord (colMax v) f (ix2 0 j) = wordOf (colA hn X f p q) := by
  rw [colWord_apply, colMax_apply]
  unfold colA
  congr 3
  funext k
  exact hv k j _ _ (by have := k.isLt; simp only [grp]; omega) hq

theorem rowWord_block (p : Fin n) (q : Fin w) (i : Fin 128) (hp : (p : Nat) = R + i) (hq : (q : Nat) / 128 = C / 128) :
    rowWord (rowMax v) f (ix2 i 0) = wordOf (rowA hw X f p q) := by
  rw [rowWord_apply, rowMax_apply]
  unfold rowA
  congr 3
  funext k
  exact hv i k _ _ hp (by have := k.isLt; simp only [grp]; omega)

/-- The column codes of a block, read in the whole matrix. -/
theorem colCodes_block (y : (⟨2, ![n, w]⟩ : Shape).Idx) (x : S128x128.Idx) (h0 : (y 0 : Nat) = R + x 0) (h1 : (y 1 : Nat) = C + x 1) :
    colClip v (colWord (colMax v) f) lo hi x = clipOf lo hi (X y * invOf (colA hn X f (y 0) (y 1))) := by
  obtain ⟨i, j, rfl⟩ : ∃ (i j : Fin 128), x = ix2 i j := ⟨x 0, x 1, idx128 x⟩
  have h0' : (y 0 : Nat) = R + i := h0
  have h1' : (y 1 : Nat) = C + j := h1
  refine (colClip_apply v _ lo hi i j _ (colWord_block hn X v R C hR hC hv f (y 0) (y 1) j (by have := i.isLt; omega) h1')).trans ?_
  refine congrArg (fun z => clipOf lo hi (z * _)) ((hv i j (y 0) (y 1) h0' h1').trans (congrArg X (idx_ext rfl rfl)))

/-- The row codes of a block, read in the whole matrix. -/
theorem rowCodes_block (y : (⟨2, ![n, w]⟩ : Shape).Idx) (x : S128x128.Idx) (h0 : (y 0 : Nat) = R + x 0) (h1 : (y 1 : Nat) = C + x 1) :
    rowClip v (rowWord (rowMax v) f) lo hi x = clipOf lo hi (X y * invOf (rowA hw X f (y 0) (y 1))) := by
  obtain ⟨i, j, rfl⟩ : ∃ (i j : Fin 128), x = ix2 i j := ⟨x 0, x 1, idx128 x⟩
  have h0' : (y 0 : Nat) = R + i := h0
  have h1' : (y 1 : Nat) = C + j := h1
  refine (rowClip_apply v _ lo hi i j _ (rowWord_block hw X v R C hR hC hv f (y 0) (y 1) i h0' (by have := j.isLt; omega))).trans ?_
  refine congrArg (fun z => clipOf lo hi (z * _)) ((hv i j (y 0) (y 1) h0' h1').trans (congrArg X (idx_ext rfl rfl)))

/-- The column scales of a block. -/
theorem colScale_block (p : Fin n) (q : Fin w) (x : S1x128.Idx) (hp : (p : Nat) / 128 = R / 128) (hq : (q : Nat) = C + x 1) :
    bitcastToFloat (F := Ideal) .f32 (colWord (colMax v) f) x = scaleOf (colA hn X f p q) := by
  obtain ⟨i, j, rfl⟩ : ∃ (i : Fin 1) (j : Fin 128), x = ix2 i j := ⟨x 0, x 1, idx_ext rfl rfl⟩
  obtain rfl : i = 0 := Subsingleton.elim _ _
  exact (congrArg (Ideal.ofBits .f32) (colWord_block hn X v R C hR hC hv f p q j hp hq)).trans (ofBits_wordOf _)

/-- The row scales of a block. -/
theorem rowScale_block (p : Fin n) (q : Fin w) (i : Fin 128) (hp : (p : Nat) = R + i) (hq : (q : Nat) / 128 = C / 128) :
    bitcastToFloat (F := Ideal) .f32 (rowWord (rowMax v) f) (ix2 i 0) = scaleOf (rowA hw X f p q) := by
  rw [← ofBits_wordOf, ← rowWord_block hw X v R C hR hC hv f p q i hp hq]
  rfl

/-- The dequantised row codes of a block: code times scale. -/
theorem rowDeq_block (y : (⟨2, ![n, w]⟩ : Shape).Idx) (x : S128x128.Idx) (h0 : (y 0 : Nat) = R + x 0) (h1 : (y 1 : Nat) = C + x 1) :
    mulf (F := Ideal) (φ := .bf16) (rowClip v (rowWord (rowMax v) f) lo hi)
        (broadcastTo S128x128 (bitcastToFloat (F := Ideal) .f32 (rowWord (rowMax v) f) : FVec Ideal S128x1 .f32) broadcasts_S128x1_S128x128) x
      = clipOf lo hi (X y * invOf (rowA hw X f (y 0) (y 1))) * scaleOf (rowA hw X f (y 0) (y 1)) := by
  obtain ⟨i, j, rfl⟩ : ∃ (i j : Fin 128), x = ix2 i j := ⟨x 0, x 1, idx128 x⟩
  have h0' : (y 0 : Nat) = R + i := h0
  have h1' : (y 1 : Nat) = C + j := h1
  have h := rowCodes_block hw X v R C hR hC hv f lo hi y (ix2 i j) h0 h1
  have h' := rowScale_block hw X v R C hR hC hv f (y 0) (y 1) i h0' (by have := j.isLt; omega)
  revert h h'
  generalize rowClip v (rowWord (rowMax v) f) lo hi = A
  generalize (bitcastToFloat (F := Ideal) .f32 (rowWord (rowMax v) f) : FVec Ideal S128x1 .f32) = B
  intro h h'
  rw [← h, ← h']
  pointwise

end

/-- The block of the gradient read at (`R`, `C`), widened. -/
def dyBlk (x4 : Vec Ideal S2048x512 .bf16) (R C : Nat) (inb : ∀ a, ![R, C] a + ![128, 128] a ≤ S2048x512.size a) : FVec Ideal S128x128 .f32 :=
  extf .f32 (View.ld x4 (Rect.unit (s := S2048x512) ![R, C] ![128, 128] inb)) bitsLt_bf16_f32

theorem d2048 : 128 ∣ 2048 := by decide
theorem d512 : 128 ∣ 512 := by decide

theorem dyBlk_apply (x4 : Vec Ideal S2048x512 .bf16) (R C : Nat) (inb : ∀ a, ![R, C] a + ![128, 128] a ≤ S2048x512.size a)
    (a b : Fin 128) (p : Fin 2048) (q : Fin 512) (hp : (p : Nat) = R + a) (hq : (q : Nat) = C + b) :
    dyBlk x4 R C inb (ix2 a b) = x4 (ix2 p q) := by
  refine congrArg x4 (idx_ext ?_ ?_)
  · show R + 1 * (a : Nat) = p; omega
  · show C + 1 * (b : Nat) = q; omega

/-- The gradient's column code, row code, and dequantised row code at an entry of a block of 512 columns. -/
def dyColCode (x4 : Mat 2048 512) (y : (⟨2, ![2048, 512]⟩ : Shape).Idx) : EReal :=
  clipOf 0xC7600000#32 0x47600000#32 (x4 y * invOf (colA d2048 x4 0x37924925#32 (y 0) (y 1)))
def dyRowCode (x4 : Mat 2048 512) (y : (⟨2, ![2048, 512]⟩ : Shape).Idx) : EReal :=
  clipOf 0xC7600000#32 0x47600000#32 (x4 y * invOf (rowA d512 x4 0x37924925#32 (y 0) (y 1)))
def dyRowDeq (x4 : Mat 2048 512) (y : (⟨2, ![2048, 512]⟩ : Shape).Idx) : EReal :=
  dyRowCode x4 y * scaleOf (rowA d512 x4 0x37924925#32 (y 0) (y 1))

section
variable (x4 : Vec Ideal S2048x512 .bf16) (R C : Nat) (inb : ∀ a, ![R, C] a + ![128, 128] a ≤ S2048x512.size a)
  (hR : 128 ∣ R) (hC : 128 ∣ C)
include hR hC

theorem colCodes_ld (y : S2048x512.Idx) (x : S128x128.Idx) (h0 : (y 0 : Nat) = R + x 0) (h1 : (y 1 : Nat) = C + x 1) :
    truncf .fp8e5m2 (colClip (dyBlk x4 R C inb) (colWord (colMax (dyBlk x4 R C inb)) 0x37924925#32) 0xC7600000#32 0x47600000#32) bitsLt_fp8e5m2_f32 x
      = dyColCode x4 y :=
  colCodes_block d2048 x4 (dyBlk x4 R C inb) R C hR hC (dyBlk_apply x4 R C inb) _ _ _ y x h0 h1

theorem rowCodes_ld (y : S2048x512.Idx) (x : S128x128.Idx) (h0 : (y 0 : Nat) = R + x 0) (h1 : (y 1 : Nat) = C + x 1) :
    truncf .fp8e5m2 (rowClip (dyBlk x4 R C inb) (rowWord (rowMax (dyBlk x4 R C inb)) 0x37924925#32) 0xC7600000#32 0x47600000#32) bitsLt_fp8e5m2_f32 x
      = dyRowCode x4 y :=
  rowCodes_block d512 x4 (dyBlk x4 R C inb) R C hR hC (dyBlk_apply x4 R C inb) _ _ _ y x h0 h1

theorem rowDeq_ld (y : S2048x512.Idx) (x : S128x128.Idx) (h0 : (y 0 : Nat) = R + x 0) (h1 : (y 1 : Nat) = C + x 1) :
    shapeCast S128x128 (mulf (extf .bf16 (truncf .fp8e5m2 (rowClip (dyBlk x4 R C inb) (rowWord (rowMax (dyBlk x4 R C inb)) 0x37924925#32) 0xC7600000#32 0x47600000#32) bitsLt_fp8e5m2_f32) bitsLt_fp8e5m2_bf16)
      (broadcastTo S128x128 (truncf .bf16 (bitcastToFloat (F := Ideal) .f32 (rowWord (rowMax (dyBlk x4 R C inb)) 0x37924925#32)) bitsLt_bf16_f32) broadcasts_S128x1_S128x128)) shapeCasts_S128x128_S128x128 x
      = dyRowDeq x4 y := by
  refine Eq.trans ?_ (rowDeq_block d512 x4 (dyBlk x4 R C inb) R C hR hC (dyBlk_apply x4 R C inb) 0x37924925#32 0xC7600000#32 0x47600000#32 y x h0 h1)
  generalize rowClip (dyBlk x4 R C inb) _ _ _ = A
  generalize rowWord (rowMax (dyBlk x4 R C inb)) _ = B
  pointwise

theorem colScale_ld (y : S16x512.Idx) (x : S1x128.Idx) (h0 : (y 0 : Nat) = R / 128) (h1 : (y 1 : Nat) = C + x 1) :
    bitcastToFloat (F := Ideal) .f32 (colWord (colMax (dyBlk x4 R C inb)) 0x37924925#32) x
      = scaleOf (colA d2048 x4 0x37924925#32 ⟨128 * (y 0 : Nat), by have := (y 0).isLt; simp at this; omega⟩ (y 1)) :=
  colScale_block d2048 x4 (dyBlk x4 R C inb) R C hR hC (dyBlk_apply x4 R C inb) _ _ (y 1) x (by simp only []; omega) h1

end

end Cert.QuantiseIdeal.Value
end
-- ==== Proof.QuantiseDyA.lean ====
module

public import proofs.«01_k».proof.Proof.Pieces
public import proofs.«01_k».proof.Proof.Gen.QuantiseIdeal.Frame.RunA
public import Idealize.ShloMosaic.Lib.Pipeline.ValueKit

@[expose] public section
set_option maxRecDepth 16384
noncomputable section

/-! What the first point leaves in the windows of the gradient's codes and scales. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- The first point leaves the row codes of its blocks. -/
theorem out5_A (hc0 : cond0_0 i) (hc1 : ¬cond0_1 i) (y : S2048x512.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).1 y = dyRowCode x4 y := by
  unfold kernelRun0_A
  dsimp only
  sl_unfold_words
  canon_tiles x h
  all_goals simp only [View.readAt_eq_ld, harg5.read_unread]
  all_goals exact rowCodes_ld x4 _ _ _ (by decide) (by decide) y x (by omega) (by omega)

set_option maxHeartbeats 4000000 in
/-- The first point leaves the column codes of its blocks. -/
theorem out7_A (hc0 : cond0_0 i) (hc1 : ¬cond0_1 i) (y : S2048x512.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.1 y = dyColCode x4 y := by
  unfold kernelRun0_A
  dsimp only
  sl_unfold_words
  canon_tiles x h
  all_goals simp only [View.readAt_eq_ld, harg5.read_unread]
  all_goals exact colCodes_ld x4 _ _ _ (by decide) (by decide) y x (by omega) (by omega)

set_option maxHeartbeats 4000000 in
/-- The first point leaves the column scales of its blocks. -/
theorem out8_A (hc0 : cond0_0 i) (hc1 : ¬cond0_1 i) (y : S16x512.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.1 y = scaleOf (colA d2048 x4 0x37924925#32 ⟨128 * (y 0 : Nat), by have := (y 0).isLt; simp at this; omega⟩ (y 1)) := by
  unfold kernelRun0_A
  dsimp only
  sl_unfold_words
  canon_tiles x h
  all_goals simp only [View.readAt_eq_ld, harg5.read_unread]
  all_goals exact colScale_ld x4 _ _ _ (by decide) (by decide) y x (by omega) (by omega)

set_option maxHeartbeats 4000000 in
/-- The first point leaves the dequantised row codes in its scratch of its blocks. -/
theorem outS_A (hc0 : cond0_0 i) (hc1 : ¬cond0_1 i) (y : S2048x512.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.2.2.2.2.2.1 y = dyRowDeq x4 y := by
  unfold kernelRun0_A
  dsimp only
  sl_unfold_words
  canon_tiles x h
  all_goals simp only [View.readAt_eq_ld, harg5.read_unread]
  all_goals exact rowDeq_ld x4 _ _ _ (by decide) (by decide) y x (by omega) (by omega)

end Cert.QuantiseIdeal.Value
end
-- ==== Proof.QuantiseDyB.lean ====
module

public import proofs.«01_k».proof.Proof.Pieces
public import proofs.«01_k».proof.Proof.QuantiseIdealRun
public import Idealize.ShloMosaic.Lib.Pipeline.ValueKit

@[expose] public section
set_option maxRecDepth 16384
noncomputable section

/-! What a later point leaves in the windows of the gradient's codes and scales. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- A later point leaves the row codes of its blocks. -/
theorem out5_B (hc0 : ¬cond0_0 i) (hc1 : cond0_1 i) (y : S2048x512.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).1 y = dyRowCode x4 y := by
  unfold kernelRun0_B
  dsimp only
  sl_unfold_words
  canon_tiles x h
  all_goals simp only [View.readAt_eq_ld, harg5.read_unread]
  all_goals exact rowCodes_ld x4 _ _ _ (by decide) (by decide) y x (by omega) (by omega)

set_option maxHeartbeats 4000000 in
/-- A later point leaves the column codes of its blocks. -/
theorem out7_B (hc0 : ¬cond0_0 i) (hc1 : cond0_1 i) (y : S2048x512.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.1 y = dyColCode x4 y := by
  unfold kernelRun0_B
  dsimp only
  sl_unfold_words
  canon_tiles x h
  all_goals simp only [View.readAt_eq_ld, harg5.read_unread]
  all_goals exact colCodes_ld x4 _ _ _ (by decide) (by decide) y x (by omega) (by omega)

set_option maxHeartbeats 4000000 in
/-- A later point leaves the column scales of its blocks. -/
theorem out8_B (hc0 : ¬cond0_0 i) (hc1 : cond0_1 i) (y : S16x512.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.2.1 y = scaleOf (colA d2048 x4 0x37924925#32 ⟨128 * (y 0 : Nat), by have := (y 0).isLt; simp at this; omega⟩ (y 1)) := by
  unfold kernelRun0_B
  dsimp only
  sl_unfold_words
  canon_tiles x h
  all_goals simp only [View.readAt_eq_ld, harg5.read_unread]
  all_goals exact colScale_ld x4 _ _ _ (by decide) (by decide) y x (by omega) (by omega)

set_option maxHeartbeats 4000000 in
/-- A later point leaves the dequantised row codes in its scratch of its blocks. -/
theorem outS_B (hc0 : ¬cond0_0 i) (hc1 : cond0_1 i) (y : S2048x512.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.2.2.2.2.2.2.1 y = dyRowDeq x4 y := by
  unfold kernelRun0_B
  dsimp only
  sl_unfold_words
  canon_tiles x h
  all_goals simp only [View.readAt_eq_ld, harg5.read_unread]
  all_goals exact rowDeq_ld x4 _ _ _ (by decide) (by decide) y x (by omega) (by omega)

end Cert.QuantiseIdeal.Value
end
-- ==== Proof.XPieces.lean ====
module

public import proofs.«01_k».proof.Proof.Pieces
public import proofs.«01_k».proof.Proof.Spec
public import proofs.«01_k».proof.Proof.Gen.QuantiseIdeal.Skeleton
public import Idealize.ShloMosaic.Lib.Tactic

@[expose] public section
set_option maxRecDepth 16384
noncomputable section

/-!
The normalised input as the kernel quantises it: one block of 128 columns of 128 rows, and the columns of the row scales.
-/
namespace Cert.Spec
open Idealize.ShloMosaic

/-- The normalised input times the gain. -/
def xnMat {n : Nat} (X : Mat n 4096) (Γ : Mat 1 4096) : Mat n 4096 := fun i => xhat X (i 0) (i 1) * Γ (ix2 0 (i 1))

/-- Its code and its scale at row `p`, feature `q`, scaled per block of 128 rows. -/
def xCodeAt {n : Nat} (hn : 128 ∣ n) (X : Mat n 4096) (Γ : Mat 1 4096) (p : Fin n) (q : Fin 4096) : EReal :=
  clipOf 0xC3E00000#32 0x43E00000#32 (xnMat X Γ (ix2 p q) * invOf (colA hn (xnMat X Γ) 0x3B124925#32 p q))
def xScaleAt {n : Nat} (hn : 128 ∣ n) (X : Mat n 4096) (Γ : Mat 1 4096) (p : Fin n) (q : Fin 4096) : EReal :=
  scaleOf (colA hn (xnMat X Γ) 0x3B124925#32 p q)

/-- Column `j` of half `h` of the features. -/
def halfCol (h : Fin 2) (j : Fin 2048) : Fin 4096 := ⟨2048 * (h : Nat) + j, by omega⟩

theorem d128 : 128 ∣ 128 := by decide

end Cert.Spec

namespace Cert.QuantiseIdeal.Value
open Cert.QuantiseIdeal Cert.QuantiseIdeal.Gen Cert.Spec Idealize.ShloMosaic Idealize.ShloMosaic.TcCoe Idealize.SL.Sem

/-- The block of the normalised input times the gain read at column `C`. -/
def xnBlk (r : FVec Ideal S128x1 .f32) (x1 : Vec Ideal S128x4096 .bf16) (x2 : Vec Ideal S1x4096 .f32) (C : Nat)
    (inx : ∀ a, ![0, C] a + ![128, 128] a ≤ S128x4096.size a) (ing : ∀ a, ![0, C] a + ![1, 128] a ≤ S1x4096.size a) : FVec Ideal S128x128 .f32 :=
  mulf (mulf (extf .f32 (View.ld x1 (Rect.unit (s := S128x4096) ![0, C] ![128, 128] inx)) bitsLt_bf16_f32) (broadcastTo S128x128 r broadcasts_S128x1_S128x128))
    (broadcastTo S128x128 (View.ld x2 (Rect.unit (s := S1x4096) ![0, C] ![1, 128] ing)) broadcasts_S1x128_S128x128)

theorem xnBlk_apply (r : FVec Ideal S128x1 .f32) (x1 : Vec Ideal S128x4096 .bf16) (x2 : Vec Ideal S1x4096 .f32) (C : Nat)
    (inx : ∀ a, ![0, C] a + ![128, 128] a ≤ S128x4096.size a) (ing : ∀ a, ![0, C] a + ![1, 128] a ≤ S1x4096.size a)
    (hr : ∀ j, r (ix2 j 0) = rinv x1 j)
    (a b : Fin 128) (p : Fin 128) (q : Fin 4096) (hp : (p : Nat) = 0 + a) (hq : (q : Nat) = C + b) :
    xnBlk r x1 x2 C inx ing (ix2 a b) = xnMat x1 x2 (ix2 p q) := by
  obtain rfl : a = p := Fin.ext (by omega)
  have e1 : View.ld x1 (Rect.unit (s := S128x4096) ![0, C] ![128, 128] inx) (ix2 a b) = x1 (ix2 a q) :=
    congrArg x1 (idx_ext (by show 0 + 1 * (a : Nat) = a; omega) (by show C + 1 * (b : Nat) = q; omega))
  have e2 : View.ld x2 (Rect.unit (s := S1x4096) ![0, C] ![1, 128] ing) (ix2 0 b) = x2 (ix2 0 q) :=
    congrArg x2 (idx_ext (by show 0 + 1 * 0 = 0; omega) (by show C + 1 * (b : Nat) = q; omega))
  unfold xnBlk
  revert e1 e2
  generalize View.ld x1 _ = A
  generalize View.ld x2 _ = B
  intro e1 e2
  pointwise
  exact (congr (congrArg _ (congr (congrArg _ e1) (hr a))) e2)

/-- The reciprocal root mean square of the rows, as the kernel sums it: 32 chunks of 128 lanes, then the lanes. -/
def rVec (x1 : Vec Ideal S128x4096 .bf16) : FVec Ideal S128x1 .f32 :=
  k0_pay821 (k0_pay820 (k0_pay819 (k0_pay818 k0_pay817
   (View.ld x1 (Rect.unit ![0, 0] ![128, 128] inb_S128x4096_S128x128_0_0))
   (View.ld x1 (Rect.unit ![0, 128] ![128, 128] inb_S128x4096_S128x128_0_128))
   (View.ld x1 (Rect.unit ![0, 256] ![128, 128] inb_S128x4096_S128x128_0_256))
   (View.ld x1 (Rect.unit ![0, 384] ![128, 128] inb_S128x4096_S128x128_0_384))
   (View.ld x1 (Rect.unit ![0, 512] ![128, 128] inb_S128x4096_S128x128_0_512))
   (View.ld x1 (Rect.unit ![0, 640] ![128, 128] inb_S128x4096_S128x128_0_640))
   (View.ld x1 (Rect.unit ![0, 768] ![128, 128] inb_S128x4096_S128x128_0_768))
   (View.ld x1 (Rect.unit ![0, 896] ![128, 128] inb_S128x4096_S128x128_0_896))
   (View.ld x1 (Rect.unit ![0, 1024] ![128, 128] inb_S128x4096_S128x128_0_1024))
   (View.ld x1 (Rect.unit ![0, 1152] ![128, 128] inb_S128x4096_S128x128_0_1152)))
   (View.ld x1 (Rect.unit ![0, 1280] ![128, 128] inb_S128x4096_S128x128_0_1280))
   (View.ld x1 (Rect.unit ![0, 1408] ![128, 128] inb_S128x4096_S128x128_0_1408))
   (View.ld x1 (Rect.unit ![0, 1536] ![128, 128] inb_S128x4096_S128x128_0_1536))
   (View.ld x1 (Rect.unit ![0, 1664] ![128, 128] inb_S128x4096_S128x128_0_1664))
   (View.ld x1 (Rect.unit ![0, 1792] ![128, 128] inb_S128x4096_S128x128_0_1792))
   (View.ld x1 (Rect.unit ![0, 1920] ![128, 128] inb_S128x4096_S128x128_0_1920))
   (View.ld x1 (Rect.unit ![0, 2048] ![128, 128] inb_S128x4096_S128x128_0_2048))
   (View.ld x1 (Rect.unit ![0, 2176] ![128, 128] inb_S128x4096_S128x128_0_2176))
   (View.ld x1 (Rect.unit ![0, 2304] ![128, 128] inb_S128x4096_S128x128_0_2304))
   (View.ld x1 (Rect.unit ![0, 2432] ![128, 128] inb_S128x4096_S128x128_0_2432)))
   (View.ld x1 (Rect.unit ![0, 2560] ![128, 128] inb_S128x4096_S128x128_0_2560))
   (View.ld x1 (Rect.unit ![0, 2688] ![128, 128] inb_S128x4096_S128x128_0_2688))
   (View.ld x1 (Rect.unit ![0, 2816] ![128, 128] inb_S128x4096_S128x128_0_2816))
   (View.ld x1 (Rect.unit ![0, 2944] ![128, 128] inb_S128x4096_S128x128_0_2944))
   (View.ld x1 (Rect.unit ![0, 3072] ![128, 128] inb_S128x4096_S128x128_0_3072))
   (View.ld x1 (Rect.unit ![0, 3200] ![128, 128] inb_S128x4096_S128x128_0_3200))
   (View.ld x1 (Rect.unit ![0, 3328] ![128, 128] inb_S128x4096_S128x128_0_3328))
   (View.ld x1 (Rect.unit ![0, 3456] ![128, 128] inb_S128x4096_S128x128_0_3456))
   (View.ld x1 (Rect.unit ![0, 3584] ![128, 128] inb_S128x4096_S128x128_0_3584))
   (View.ld x1 (Rect.unit ![0, 3712] ![128, 128] inb_S128x4096_S128x128_0_3712)))
   (View.ld x1 (Rect.unit ![0, 3840] ![128, 128] inb_S128x4096_S128x128_0_3840))
   (View.ld x1 (Rect.unit ![0, 3968] ![128, 128] inb_S128x4096_S128x128_0_3968))

theorem rVec_apply (x1 : Vec Ideal S128x4096 .bf16) (j : Fin 128) : rVec x1 (ix2 j 0) = rinv x1 j := by
  unfold rVec
  unfold_payloads
  pointwise [rinv]
  rw [← mul_invWidth, sum_lanes]
  rfl

section
variable (x1 : Vec Ideal S128x4096 .bf16) (x2 : Vec Ideal S1x4096 .f32) (h : Fin 2) (C o : Nat)
  (inx : ∀ a, ![0, C] a + ![128, 128] a ≤ S128x4096.size a) (ing : ∀ a, ![0, C] a + ![1, 128] a ≤ S1x4096.size a)
  (hC : C = 2048 * (h : Nat) + o) (ho : 128 ∣ o)
include hC ho

theorem xnCodes_ld (y : S128x2048.Idx) (x : S128x128.Idx) (h0 : (y 0 : Nat) = x 0) (h1 : (y 1 : Nat) = o + x 1) :
    truncf .fp8e4m3 (colClip (xnBlk (rVec x1) x1 x2 C inx ing) (colWord (colMax (xnBlk (rVec x1) x1 x2 C inx ing)) 0x3B124925#32) 0xC3E00000#32 0x43E00000#32) bitsLt_fp8e4m3_f32 x
      = xCodeAt d128 x1 x2 (y 0) (halfCol h (y 1)) :=
  colCodes_block d128 (xnMat x1 x2) (xnBlk (rVec x1) x1 x2 C inx ing) 0 C (by decide) (by omega) (xnBlk_apply _ x1 x2 C inx ing (rVec_apply x1)) _ _ _
    (ix2 (y 0) (halfCol h (y 1))) x (by show (y 0 : Nat) = 0 + x 0; omega) (by show 2048 * (h : Nat) + (y 1 : Nat) = C + x 1; omega)

theorem xnScale_ld (y : S1x1x2048.Idx) (x : S1x1x128.Idx) (h1 : (y 2 : Nat) = o + x 2) :
    shapeCast S1x1x128 (bitcastToFloat (F := Ideal) .f32 (colWord (colMax (xnBlk (rVec x1) x1 x2 C inx ing)) 0x3B124925#32) : FVec Ideal S1x128 .f32) shapeCasts_S1x128_S1x1x128 x
      = xScaleAt d128 x1 x2 0 (halfCol h (y 2)) := by
  have e := colScale_block d128 (xnMat x1 x2) (xnBlk (rVec x1) x1 x2 C inx ing) 0 C (by decide) (by omega) (xnBlk_apply _ x1 x2 C inx ing (rVec_apply x1)) 0x3B124925#32
    0 (halfCol h (y 2)) (ix2 0 (x 2)) rfl (by show 2048 * (h : Nat) + (y 2 : Nat) = C + x 2; omega)
  revert e
  generalize (bitcastToFloat (F := Ideal) .f32 (colWord (colMax (xnBlk (rVec x1) x1 x2 C inx ing)) 0x3B124925#32) : FVec Ideal S1x128 .f32) = A
  intro e
  refine Eq.trans ?_ e
  pointwise

theorem xnDeqT_ld (y : S2048x128.Idx) (x : S128x128.Idx) (h0 : (y 0 : Nat) = o + x 0) (h1 : (y 1 : Nat) = x 1) :
    transpose S128x128 [1, 0] (mulf (extf .bf16 (truncf .fp8e4m3 (colClip (xnBlk (rVec x1) x1 x2 C inx ing) (colWord (colMax (xnBlk (rVec x1) x1 x2 C inx ing)) 0x3B124925#32) 0xC3E00000#32 0x43E00000#32) bitsLt_fp8e4m3_f32) bitsLt_fp8e4m3_bf16)
      (broadcastTo S128x128 (truncf .bf16 (bitcastToFloat (F := Ideal) .f32 (colWord (colMax (xnBlk (rVec x1) x1 x2 C inx ing)) 0x3B124925#32) : FVec Ideal S1x128 .f32) bitsLt_bf16_f32) broadcasts_S1x128_S128x128)) transposes_S128x128_p1_0_S128x128 x
      = xCodeAt d128 x1 x2 (y 1) (halfCol h (y 0)) * xScaleAt d128 x1 x2 (y 1) (halfCol h (y 0)) := by
  obtain ⟨i, j, rfl⟩ : ∃ (i j : Fin 128), x = ix2 i j := ⟨x 0, x 1, idx128 x⟩
  have h0' : (y 0 : Nat) = o + i := h0
  have h1' : (y 1 : Nat) = j := h1
  have e := colScale_block d128 (xnMat x1 x2) (xnBlk (rVec x1) x1 x2 C inx ing) 0 C (by decide) (by omega) (xnBlk_apply _ x1 x2 C inx ing (rVec_apply x1)) 0x3B124925#32
    (y 1) (halfCol h (y 0)) (ix2 0 i) (by have := (y 1).isLt; simp at this; omega) (by show 2048 * (h : Nat) + (y 0 : Nat) = C + i; omega)
  have e' := xnCodes_ld x1 x2 h C o inx ing hC ho (ix2 (y 1) (y 0)) (ix2 j i) h1' h0'
  revert e e'
  generalize truncf (F := Ideal) .fp8e4m3 (colClip (xnBlk (rVec x1) x1 x2 C inx ing) _ _ _) _ = A
  generalize (bitcastToFloat (F := Ideal) .f32 (colWord (colMax (xnBlk (rVec x1) x1 x2 C inx ing)) 0x3B124925#32) : FVec Ideal S1x128 .f32) = B
  intro e e'
  refine Eq.trans ?_ (congr (congrArg _ e') e)
  pointwise

end

/-- Which half of the features a point quantises. -/
def halfOf (k : Nat) : Fin 2 := ⟨min k 31 % 2, by omega⟩

/-- The word of a point's half, as the kernel takes it from the grid index. -/
theorem half_word (k : Fin 33) (o : Nat) (ho : o < 2048) :
    BitVec.toNat (Scalar.indexCast (Scalar.addi (Scalar.muli
      (Scalar.select
        (Scalar.andi
          (Scalar.xori
            (Scalar.cmpi .slt (Scalar.remsi (Scalar.minsi (BitVec.ofNat 32 k) 31#32) (Scalar.select (Scalar.cmpi .eq 2#32 0#32) 1#32 2#32)) 0#32)
            (Scalar.cmpi .slt (Scalar.select (Scalar.cmpi .eq 2#32 0#32) 1#32 2#32) 0#32))
          (Scalar.cmpi .ne (Scalar.remsi (Scalar.minsi (BitVec.ofNat 32 k) 31#32) (Scalar.select (Scalar.cmpi .eq 2#32 0#32) 1#32 2#32)) 0#32))
        (Scalar.addi (Scalar.remsi (Scalar.minsi (BitVec.ofNat 32 k) 31#32) (Scalar.select (Scalar.cmpi .eq 2#32 0#32) 1#32 2#32)) (Scalar.select (Scalar.cmpi .eq 2#32 0#32) 1#32 2#32))
        (Scalar.remsi (Scalar.minsi (BitVec.ofNat 32 k) 31#32) (Scalar.select (Scalar.cmpi .eq 2#32 0#32) 1#32 2#32)))
      2048#32) (BitVec.ofNat 32 o))) = 2048 * (halfOf k : Nat) + o := by
  have key : ∀ k : Fin 33, (Scalar.select
        (Scalar.andi
          (Scalar.xori
            (Scalar.cmpi .slt (Scalar.remsi (Scalar.minsi (BitVec.ofNat 32 k) 31#32) (Scalar.select (Scalar.cmpi .eq 2#32 0#32) 1#32 2#32)) 0#32)
            (Scalar.cmpi .slt (Scalar.select (Scalar.cmpi .eq 2#32 0#32) 1#32 2#32) 0#32))
          (Scalar.cmpi .ne (Scalar.remsi (Scalar.minsi (BitVec.ofNat 32 k) 31#32) (Scalar.select (Scalar.cmpi .eq 2#32 0#32) 1#32 2#32)) 0#32))
        (Scalar.addi (Scalar.remsi (Scalar.minsi (BitVec.ofNat 32 k) 31#32) (Scalar.select (Scalar.cmpi .eq 2#32 0#32) 1#32 2#32)) (Scalar.select (Scalar.cmpi .eq 2#32 0#32) 1#32 2#32))
        (Scalar.remsi (Scalar.minsi (BitVec.ofNat 32 k) 31#32) (Scalar.select (Scalar.cmpi .eq 2#32 0#32) 1#32 2#32)) : BitVec 32) = BitVec.ofNat 32 (halfOf k : Nat) := by
    decide +kernel
  rw [key k]
  have h1 := (halfOf k).isLt
  show ((BitVec.ofNat 32 (halfOf k : Nat) * 2048#32) + BitVec.ofNat 32 o).toNat = _
  simp only [BitVec.toNat_add, BitVec.toNat_mul, BitVec.toNat_ofNat]
  omega

end Cert.QuantiseIdeal.Value
end
-- ==== Proof.QuantiseXA.lean ====
module

public import proofs.«01_k».proof.Proof.XPieces
public import proofs.«01_k».proof.Proof.Gen.QuantiseIdeal.Frame.RunA
public import Idealize.ShloMosaic.Lib.Pipeline.ValueKit

@[expose] public section
set_option maxRecDepth 200000
noncomputable section

/-! What the first point leaves in the windows of the normalised input's codes and scales. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- The first point leaves the input's codes of its blocks. -/
theorem out9_A (hc0 : cond0_0 i) (hc1 : ¬cond0_1 i) (y : S128x2048.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.2.1 y = xCodeAt d128 x1 x2 (y 0) (halfCol (halfOf (i 0 : Nat)) (y 1)) := by
  unfold kernelRun0_A
  dsimp only
  sl_unfold_words
  canon_tiles x h
  all_goals simp only [View.readAt_eq_ld, harg2.read_unread, harg3.read_unread]
  rotate_left 15
  · exact (fun inx ing => xnCodes_ld x1 x2 (halfOf (i 0 : Nat)) _ 0 inx ing (half_word (i 0) _ (by decide)) (by decide) y x h0 (by omega)) _ _
  all_goals exact (fun inx ing => xnCodes_ld x1 x2 (halfOf (i 0 : Nat)) _ _ inx ing (half_word (i 0) _ (by decide)) (by decide) y x h0 h1) _ _

set_option maxHeartbeats 4000000 in
/-- The first point leaves the input's scales of its blocks. -/
theorem out10_A (hc0 : cond0_0 i) (hc1 : ¬cond0_1 i) (y : S1x1x2048.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.2.2.1 y = xScaleAt d128 x1 x2 0 (halfCol (halfOf (i 0 : Nat)) (y 2)) := by
  unfold kernelRun0_A
  dsimp only
  sl_unfold_words
  canon_tiles x h
  all_goals simp only [View.readAt_eq_ld, harg2.read_unread, harg3.read_unread]
  rotate_left 15
  · exact (fun inx ing => xnScale_ld x1 x2 (halfOf (i 0 : Nat)) _ 0 inx ing (half_word (i 0) _ (by decide)) (by decide) y x (by omega)) _ _
  all_goals exact (fun inx ing => xnScale_ld x1 x2 (halfOf (i 0 : Nat)) _ _ inx ing (half_word (i 0) _ (by decide)) (by decide) y x h2) _ _

set_option maxHeartbeats 4000000 in
/-- The first point leaves the dequantised, transposed input of its blocks. -/
theorem out11_A (hc0 : cond0_0 i) (hc1 : ¬cond0_1 i) (y : S2048x128.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.2.2.2.1 y = xCodeAt d128 x1 x2 (y 1) (halfCol (halfOf (i 0 : Nat)) (y 0)) * xScaleAt d128 x1 x2 (y 1) (halfCol (halfOf (i 0 : Nat)) (y 0)) := by
  unfold kernelRun0_A
  dsimp only
  sl_unfold_words
  canon_tiles x h
  all_goals simp only [View.readAt_eq_ld, harg2.read_unread, harg3.read_unread]
  rotate_left 15
  · exact (fun inx ing => xnDeqT_ld x1 x2 (halfOf (i 0 : Nat)) _ 0 inx ing (half_word (i 0) _ (by decide)) (by decide) y x (by omega) h1) _ _
  all_goals exact (fun inx ing => xnDeqT_ld x1 x2 (halfOf (i 0 : Nat)) _ _ inx ing (half_word (i 0) _ (by decide)) (by decide) y x h0 h1) _ _

end Cert.QuantiseIdeal.Value
end
-- ==== Proof.QuantiseXB.lean ====
module

public import proofs.«01_k».proof.Proof.XPieces
public import proofs.«01_k».proof.Proof.QuantiseIdealRun
public import Idealize.ShloMosaic.Lib.Pipeline.ValueKit

@[expose] public section
set_option maxRecDepth 16384
noncomputable section

/-! What a later point leaves in the windows of the normalised input's codes and scales. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- A later point leaves the input's codes of its blocks. -/
theorem out9_B (hc0 : ¬cond0_0 i) (hc1 : cond0_1 i) (y : S128x2048.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.2.2.1 y = xCodeAt d128 x1 x2 (y 0) (halfCol (halfOf (i 0 : Nat)) (y 1)) := by
  unfold kernelRun0_B
  dsimp only
  sl_unfold_words
  canon_tiles x h
  all_goals simp only [View.readAt_eq_ld, harg2.read_unread, harg3.read_unread]
  rotate_left 15
  · exact (fun inx ing => xnCodes_ld x1 x2 (halfOf (i 0 : Nat)) _ 0 inx ing (half_word (i 0) _ (by decide)) (by decide) y x h0 (by omega)) _ _
  all_goals exact (fun inx ing => xnCodes_ld x1 x2 (halfOf (i 0 : Nat)) _ _ inx ing (half_word (i 0) _ (by decide)) (by decide) y x h0 h1) _ _

set_option maxHeartbeats 4000000 in
/-- A later point leaves the input's scales of its blocks. -/
theorem out10_B (hc0 : ¬cond0_0 i) (hc1 : cond0_1 i) (y : S1x1x2048.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.2.2.2.1 y = xScaleAt d128 x1 x2 0 (halfCol (halfOf (i 0 : Nat)) (y 2)) := by
  unfold kernelRun0_B
  dsimp only
  sl_unfold_words
  canon_tiles x h
  all_goals simp only [View.readAt_eq_ld, harg2.read_unread, harg3.read_unread]
  rotate_left 15
  · exact (fun inx ing => xnScale_ld x1 x2 (halfOf (i 0 : Nat)) _ 0 inx ing (half_word (i 0) _ (by decide)) (by decide) y x (by omega)) _ _
  all_goals exact (fun inx ing => xnScale_ld x1 x2 (halfOf (i 0 : Nat)) _ _ inx ing (half_word (i 0) _ (by decide)) (by decide) y x h2) _ _

set_option maxHeartbeats 4000000 in
/-- A later point leaves the dequantised, transposed input of its blocks. -/
theorem out11_B (hc0 : ¬cond0_0 i) (hc1 : cond0_1 i) (y : S2048x128.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.2.2.2.2.1 y = xCodeAt d128 x1 x2 (y 1) (halfCol (halfOf (i 0 : Nat)) (y 0)) * xScaleAt d128 x1 x2 (y 1) (halfCol (halfOf (i 0 : Nat)) (y 0)) := by
  unfold kernelRun0_B
  dsimp only
  sl_unfold_words
  canon_tiles x h
  all_goals simp only [View.readAt_eq_ld, harg2.read_unread, harg3.read_unread]
  rotate_left 15
  · exact (fun inx ing => xnDeqT_ld x1 x2 (halfOf (i 0 : Nat)) _ 0 inx ing (half_word (i 0) _ (by decide)) (by decide) y x (by omega) h1) _ _
  all_goals exact (fun inx ing => xnDeqT_ld x1 x2 (halfOf (i 0 : Nat)) _ _ inx ing (half_word (i 0) _ (by decide)) (by decide) y x h0 h1) _ _

end Cert.QuantiseIdeal.Value
end
-- ==== Proof.QuantisePoints.lean ====
module

public import proofs.«01_k».proof.Proof.QuantiseDyA
public import proofs.«01_k».proof.Proof.QuantiseDyB
public import proofs.«01_k».proof.Proof.QuantiseXA
public import proofs.«01_k».proof.Proof.QuantiseXB
public import proofs.«01_k».proof.Proof.QuantiseIdealValue

@[expose] public section
set_option maxRecDepth 16384
noncomputable section

/-! What each grid point of the quantisers leaves in its output windows, in terms of the point's input blocks. -/
namespace Cert.QuantiseIdeal.Value
open Cert.QuantiseIdeal Cert.QuantiseIdeal.Gen Cert.Spec Idealize.ShloMosaic Idealize.ShloMosaic.TcCoe Idealize.SL.Sem

variable (m : (ℓ : Loc nD τ sig) → Buf (Elt Ideal) ℓ) (c : Dev nD)

/-- A point is the first one, or it is a later one. -/
theorem later (t : Fin cfg0.N) (h : ¬t.val % 33 = 0) : 1 ≤ t.val := by omega
theorem earlier (t : Fin cfg0.N) (h : t.val % 33 = 0) : ¬1 ≤ t.val := by
  have := lt_of_lt_of_eq t.isLt (show cfg0.N = 33 from N_0); omega

/-- Every point leaves in window 5 the row codes of its columns. -/
theorem point5 (t : Fin cfg0.N) (y : S2048x512.Idx) : (outsAt0 m c t.val t.isLt).1 y = dyRowCode (iblk m c 4 t) y := by
  by_cases h0 : t.val % 33 = 0
  · rw [outsAt0_A m c t h0 (earlier t h0)]
    dsimp only
    unfold out0_A_5
    rw [View.read_writes_eq_canon _ _ _ (cover0_A_5 c _ _ _ _ _ _ _ _ _ _ _ _ _ _ _ _ _ _ _ _ _ _ _ _ _ _ _ _ _ _ _ _ _ _ _ _ _ _)]
    exact out5_A c _ _ _ _ _ _ _ _ _ _ _ _ _ _ _ _ _ _ _ _ _ _ _ _ _ _ _ _ _ _ _ _ _ _ _ _ _ _ y
  · rw [outsAt0_B m c t h0 (later t h0)]
    dsimp only
    unfold out0_B_5
    rw [View.read_writes_eq_canon _ _ _ (cover0_B_5 c _ _ _ _ _ _ _ _ _ _ _ _ _ _ _ _ _ _ _ _ _ _ _ _ _ _ _ _ _ _ _ _ _ _ _ _ _ _ _ _ _)]
    exact out5_B c _ _ _ _ _ _ _ _ _ _ _ _ _ _ _ _ _ _ _ _ _ _ _ _ _ _ _ _ _ _ _ _ _ _ _ _ _ _ _ _ _ y

/-- Every point leaves in window 7 the column codes of its columns. -/
theorem point7 (t : Fin cfg0.N) (y : S2048x512.Idx) : (outsAt0 m c t.val t.isLt).2.2.1 y = dyColCode (iblk m c 4 t) y := by
  by_cases h0 : t.val % 33 = 0
  · rw [outsAt0_A m c t h0 (earlier t h0)]
    dsimp only
    unfold out0_A_7
    rw [View.read_writes_eq_canon _ _ _ (cover0_A_7 c _ _ _ _ _ _ _ _ _ _ _ _ _ _ _ _ _ _ _ _ _ _ _ _ _ _ _ _ _ _ _ _ _ _ _ _ _ _)]
    exact out7_A c _ _ _ _ _ _ _ _ _ _ _ _ _ _ _ _ _ _ _ _ _ _ _ _ _ _ _ _ _ _ _ _ _ _ _ _ _ _ y
  · rw [outsAt0_B m c t h0 (later t h0)]
    dsimp only
    unfold out0_B_7
    rw [View.read_writes_eq_canon _ _ _ (cover0_B_7 c _ _ _ _ _ _ _ _ _ _ _ _ _ _ _ _ _ _ _ _ _ _ _ _ _ _ _ _ _ _ _ _ _ _ _ _ _ _ _ _ _)]
    exact out7_B c _ _ _ _ _ _ _ _ _ _ _ _ _ _ _ _ _ _ _ _ _ _ _ _ _ _ _ _ _ _ _ _ _ _ _ _ _ _ _ _ _ y

/-- Every point leaves in window 8 the column scales of its columns. -/
theorem point8 (t : Fin cfg0.N) (y : S16x512.Idx) : (outsAt0 m c t.val t.isLt).2.2.2.1 y = scaleOf (colA d2048 (iblk m c 4 t) 0x37924925#32 ⟨128 * (y 0 : Nat), by have := (y 0).isLt; simp at this; omega⟩ (y 1)) := by
  by_cases h0 : t.val % 33 = 0
  · rw [outsAt0_A m c t h0 (earlier t h0)]
    dsimp only
    unfold out0_A_8
    rw [View.read_writes_eq_canon _ _ _ (cover0_A_8 c _ _ _ _ _ _ _ _ _ _ _ _ _ _ _ _ _ _ _ _ _ _ _ _ _ _ _ _ _ _ _ _ _ _ _ _ _ _)]
    exact out8_A c _ _ _ _ _ _ _ _ _ _ _ _ _ _ _ _ _ _ _ _ _ _ _ _ _ _ _ _ _ _ _ _ _ _ _ _ _ _ y
  · rw [outsAt0_B m c t h0 (later t h0)]
    dsimp only
    unfold out0_B_8
    rw [View.read_writes_eq_canon _ _ _ (cover0_B_8 c _ _ _ _ _ _ _ _ _ _ _ _ _ _ _ _ _ _ _ _ _ _ _ _ _ _ _ _ _ _ _ _ _ _ _ _ _ _ _ _ _)]
    exact out8_B c _ _ _ _ _ _ _ _ _ _ _ _ _ _ _ _ _ _ _ _ _ _ _ _ _ _ _ _ _ _ _ _ _ _ _ _ _ _ _ _ _ y

/-- Every point leaves in window 9 the codes of its rows and features of the normalised input. -/
theorem point9 (t : Fin cfg0.N) (y : S128x2048.Idx) : (outsAt0 m c t.val t.isLt).2.2.2.2.1 y = xCodeAt d128 (iblk m c 1 t) (iblk m c 2 t) (y 0) (halfCol (halfOf (grid0.coords t 0 : Nat)) (y 1)) := by
  by_cases h0 : t.val % 33 = 0
  · rw [outsAt0_A m c t h0 (earlier t h0)]
    dsimp only
    unfold out0_A_9
    rw [View.read_writes_eq_canon _ _ _ (cover0_A_9 c _ _ _ _ _ _ _ _ _ _ _ _ _ _ _ _ _ _ _ _ _ _ _ _ _ _ _ _ _ _ _ _ _ _ _ _ _ _)]
    exact out9_A c _ _ _ _ _ _ _ _ _ _ _ _ _ _ _ _ _ _ _ _ _ _ _ _ _ _ _ _ _ _ _ _ _ _ _ _ _ _ y
  · rw [outsAt0_B m c t h0 (later t h0)]
    dsimp only
    unfold out0_B_9
    rw [View.read_writes_eq_canon _ _ _ (cover0_B_9 c _ _ _ _ _ _ _ _ _ _ _ _ _ _ _ _ _ _ _ _ _ _ _ _ _ _ _ _ _ _ _ _ _ _ _ _ _ _ _ _ _)]
    exact out9_B c _ _ _ _ _ _ _ _ _ _ _ _ _ _ _ _ _ _ _ _ _ _ _ _ _ _ _ _ _ _ _ _ _ _ _ _ _ _ _ _ _ y

/-- Every point leaves in window 10 the scales of its rows and features of the normalised input. -/
theorem point10 (t : Fin cfg0.N) (y : S1x1x2048.Idx) : (outsAt0 m c t.val t.isLt).2.2.2.2.2.1 y = xScaleAt d128 (iblk m c 1 t) (iblk m c 2 t) 0 (halfCol (halfOf (grid0.coords t 0 : Nat)) (y 2)) := by
  by_cases h0 : t.val % 33 = 0
  · rw [outsAt0_A m c t h0 (earlier t h0)]
    dsimp only
    unfold out0_A_10
    rw [View.read_writes_eq_canon _ _ _ (cover0_A_10 c _ _ _ _ _ _ _ _ _ _ _ _ _ _ _ _ _ _ _ _ _ _ _ _ _ _ _ _ _ _ _ _ _ _ _ _ _ _)]
    exact out10_A c _ _ _ _ _ _ _ _ _ _ _ _ _ _ _ _ _ _ _ _ _ _ _ _ _ _ _ _ _ _ _ _ _ _ _ _ _ _ y
  · rw [outsAt0_B m c t h0 (later t h0)]
    dsimp only
    unfold out0_B_10
    rw [View.read_writes_eq_canon _ _ _ (cover0_B_10 c _ _ _ _ _ _ _ _ _ _ _ _ _ _ _ _ _ _ _ _ _ _ _ _ _ _ _ _ _ _ _ _ _ _ _ _ _ _ _ _ _)]
    exact out10_B c _ _ _ _ _ _ _ _ _ _ _ _ _ _ _ _ _ _ _ _ _ _ _ _ _ _ _ _ _ _ _ _ _ _ _ _ _ _ _ _ _ y

/-- Every point leaves in window 11 the dequantised, transposed input of its rows and features. -/
theorem point11 (t : Fin cfg0.N) (y : S2048x128.Idx) : (outsAt0 m c t.val t.isLt).2.2.2.2.2.2.1 y = xCodeAt d128 (iblk m c 1 t) (iblk m c 2 t) (y 1) (halfCol (halfOf (grid0.coords t 0 : Nat)) (y 0)) * xScaleAt d128 (iblk m c 1 t) (iblk m c 2 t) (y 1) (halfCol (halfOf (grid0.coords t 0 : Nat)) (y 0)) := by
  by_cases h0 : t.val % 33 = 0
  · rw [outsAt0_A m c t h0 (earlier t h0)]
    dsimp only
    unfold out0_A_11
    rw [View.read_writes_eq_canon _ _ _ (cover0_A_11 c _ _ _ _ _ _ _ _ _ _ _ _ _ _ _ _ _ _ _ _ _ _ _ _ _ _ _ _ _ _ _ _ _ _ _ _ _ _)]
    exact out11_A c _ _ _ _ _ _ _ _ _ _ _ _ _ _ _ _ _ _ _ _ _ _ _ _ _ _ _ _ _ _ _ _ _ _ _ _ _ _ y
  · rw [outsAt0_B m c t h0 (later t h0)]
    dsimp only
    unfold out0_B_11
    rw [View.read_writes_eq_canon _ _ _ (cover0_B_11 c _ _ _ _ _ _ _ _ _ _ _ _ _ _ _ _ _ _ _ _ _ _ _ _ _ _ _ _ _ _ _ _ _ _ _ _ _ _ _ _ _)]
    exact out11_B c _ _ _ _ _ _ _ _ _ _ _ _ _ _ _ _ _ _ _ _ _ _ _ _ _ _ _ _ _ _ _ _ _ _ _ _ _ _ _ _ _ y

end Cert.QuantiseIdeal.Value
end
-- ==== Proof.QuantiseSpec.lean ====
module

public import proofs.«01_k».proof.Proof.XPieces

@[expose] public section
set_option maxRecDepth 16384
noncomputable section

/-! The quantisers' results on the whole arrays. -/
namespace Cert.Spec
open Idealize.ShloMosaic Idealize.ShloMosaic.TcCoe Idealize.SL.Sem Cert.QuantiseIdeal.Value

theorem d16384 : 128 ∣ 16384 := by decide

/-- The first row, or column, of group `g`. -/
def first {n N : Nat} (h : 128 * n = N) (g : Fin n) : Fin N := ⟨128 * (g : Nat), by omega⟩

/-- The gradient's code and scale at row `p`, column `q`, scaled per row and group of 128 columns. -/
def rowCodeAt (X : Mat 2048 16384) (p : Fin 2048) (q : Fin 16384) : EReal :=
  clipOf 0xC7600000#32 0x47600000#32 (X (ix2 p q) * invOf (rowA d16384 X 0x37924925#32 p q))
def rowScaleAt (X : Mat 2048 16384) (p : Fin 2048) (q : Fin 16384) : EReal := scaleOf (rowA d16384 X 0x37924925#32 p q)

/-- The same, scaled per column and group of 128 rows. -/
def colCodeAt (X : Mat 2048 16384) (p : Fin 2048) (q : Fin 16384) : EReal :=
  clipOf 0xC7600000#32 0x47600000#32 (X (ix2 p q) * invOf (colA d2048 X 0x37924925#32 p q))
def colScaleAt (X : Mat 2048 16384) (p : Fin 2048) (q : Fin 16384) : EReal := scaleOf (colA d2048 X 0x37924925#32 p q)

/-- The group of 128 in which a row, or column, lies. -/
def inGrp {n N : Nat} (h : 128 * n = N) (t : Fin N) : Fin n := ⟨(t : Nat) / 128, by omega⟩

/-- The gradient of the normalised input: the dequantised gradient against the dequantised weight. -/
def dxnAt (S : Mat 32 128) (W : Mat 4096 16384) (X : Mat 2048 16384) (p : Fin 2048) (k : Fin 4096) : EReal :=
  ∑ q : Fin 16384, rowCodeAt X p q * rowScaleAt X p q *
    (W (ix2 k q) * S (ix2 (inGrp (n := 32) rfl k) (inGrp (n := 128) rfl q)))

end Cert.Spec
end
-- ==== Proof.QuantiseArrays.lean ====
module

public import proofs.«01_k».proof.Proof.QuantisePoints
public import proofs.«01_k».proof.Proof.QuantiseSpec

@[expose] public section
set_option maxRecDepth 16384
noncomputable section

/-! What the quantisers' result arrays hold after the run: each point's blocks are its columns or rows of the arrays, and the
blocks written back cover the arrays. -/
namespace Cert.QuantiseIdeal.Value
open Cert.QuantiseIdeal Cert.QuantiseIdeal.Gen Cert.Spec Idealize.ShloMosaic Idealize.ShloMosaic.TcCoe Idealize.SL.Sem

variable (m : (ℓ : Loc nD τ sig) → Buf (Elt Ideal) ℓ) (c : Dev nD)

/-- The block of columns that a point quantises: its own, and the last one's once more at the last point. -/
def cur (t : Fin cfg0.N) : Fin 32 := ⟨min t.val 31, by omega⟩

/-- Columns `512 b … 512 b + 511` of a matrix of 16384 columns. -/
def colBlk {r : Nat} (M : Mat r 16384) (b : Fin 32) : Mat r 512 :=
  fun j => M (ix2 (j 0) ⟨512 * (b : Nat) + (j 1 : Nat), by have : (j 1).val < 512 := (j 1).isLt; omega⟩)

/-- Rows `128 b … 128 b + 127` of a matrix of 2048 rows. -/
def rowBlk (M : Mat 2048 4096) (b : Fin 16) : Mat 128 4096 :=
  fun j => M (ix2 ⟨128 * (b : Nat) + (j 0 : Nat), by have : (j 0).val < 128 := (j 0).isLt; omega⟩ (j 1))

/-- The block of rows of the input that goes with a block of columns of the gradient. -/
def half (b : Fin 32) : Fin 16 := ⟨(b : Nat) / 2, by omega⟩

/-- The grid's coordinate is the point's number. -/
theorem coord_eq : ∀ t : Fin cfg0.N, (grid0.coords t 0 : Nat) = t.val :=
  (by decide +kernel : ∀ t : Fin grid0.N, _)

theorem halfOf_eq (t : Fin cfg0.N) : (halfOf (grid0.coords t 0 : Nat) : Nat) = (cur t : Nat) % 2 := by
  rw [coord_eq]; rfl

/-- Which blocks the windows stage or write at a point. -/
theorem idx1 : ∀ t : Fin cfg0.N, win0_1.index t (0 : Fin 2) = (cur t : Nat) / 2 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx4 : ∀ t : Fin cfg0.N, win0_4.index t (0 : Fin 2) = 0 ∧ win0_4.index t (1 : Fin 2) = (cur t : Nat) :=
  (by decide +kernel : ∀ t : Fin grid0.N, _)
theorem idx5 : ∀ t : Fin cfg0.N, win0_5.index t (0 : Fin 2) = 0 ∧ win0_5.index t (1 : Fin 2) = (cur t : Nat) :=
  (by decide +kernel : ∀ t : Fin grid0.N, _)
theorem idx7 : ∀ t : Fin cfg0.N, win0_7.index t (0 : Fin 2) = 0 ∧ win0_7.index t (1 : Fin 2) = (cur t : Nat) :=
  (by decide +kernel : ∀ t : Fin grid0.N, _)
theorem idx8 : ∀ t : Fin cfg0.N, win0_8.index t (0 : Fin 2) = 0 ∧ win0_8.index t (1 : Fin 2) = (cur t : Nat) :=
  (by decide +kernel : ∀ t : Fin grid0.N, _)
theorem idx9 : ∀ t : Fin cfg0.N, win0_9.index t (0 : Fin 2) = (cur t : Nat) / 2 ∧ win0_9.index t (1 : Fin 2) = (cur t : Nat) % 2 :=
  (by decide +kernel : ∀ t : Fin grid0.N, _)
theorem idx10 : ∀ t : Fin cfg0.N, win0_10.index t (0 : Fin 3) = (cur t : Nat) / 2 ∧ win0_10.index t (1 : Fin 3) = 0 ∧ win0_10.index t (2 : Fin 3) = (cur t : Nat) % 2 :=
  (by decide +kernel : ∀ t : Fin grid0.N, _)
theorem idx11 : ∀ t : Fin cfg0.N, win0_11.index t (0 : Fin 2) = (cur t : Nat) % 2 ∧ win0_11.index t (1 : Fin 2) = (cur t : Nat) / 2 :=
  (by decide +kernel : ∀ t : Fin grid0.N, _)

/-- The point after which a block is written back. -/
def lastOf (b : Fin 32) : Fin cfg0.N := ⟨if (b : Nat) = 31 then 32 else b, by rw [show cfg0.N = 33 from N_0]; split <;> omega⟩
theorem cur_lastOf (b : Fin 32) : cur (lastOf b) = b := by
  refine Fin.ext ?_
  show min (if (b : Nat) = 31 then 32 else (b : Nat)) 31 = b
  split <;> omega
theorem flush5 : ∀ b : Fin 32, (cfg0.win 5).flush (lastOf b) = true := (by decide +kernel : ∀ b : Fin 32, win0_5.flush (lastOf b) = true)
theorem flush7 : ∀ b : Fin 32, (cfg0.win 7).flush (lastOf b) = true := (by decide +kernel : ∀ b : Fin 32, win0_7.flush (lastOf b) = true)
theorem flush8 : ∀ b : Fin 32, (cfg0.win 8).flush (lastOf b) = true := (by decide +kernel : ∀ b : Fin 32, win0_8.flush (lastOf b) = true)
theorem flush9 : ∀ b : Fin 32, (cfg0.win 9).flush (lastOf b) = true := (by decide +kernel : ∀ b : Fin 32, win0_9.flush (lastOf b) = true)
theorem flush10 : ∀ b : Fin 32, (cfg0.win 10).flush (lastOf b) = true := (by decide +kernel : ∀ b : Fin 32, win0_10.flush (lastOf b) = true)
theorem flush11 : ∀ b : Fin 32, (cfg0.win 11).flush (lastOf b) = true := (by decide +kernel : ∀ b : Fin 32, win0_11.flush (lastOf b) = true)

/-- Window 1 stages 128 rows of the input. -/
theorem iblk1_eq (t : Fin cfg0.N) : iblk m c 1 t = rowBlk (V m c main_arg1) (half (cur t)) := by
  obtain ⟨e0, e1⟩ := idx1 t
  funext j; refine congrArg (V m c main_arg1) (idx_ext ?_ ?_)
  · show win0_1.index t (0 : Fin 2) * 128 + 1 * (j 0).val = 128 * ((cur t : Nat) / 2) + (j 0).val; omega
  · show win0_1.index t (1 : Fin 2) * 4096 + 1 * (j 1).val = (j 1).val; omega

/-- Window 2 stages the gain. -/
theorem iblk2_eq (t : Fin cfg0.N) : iblk m c 2 t = V m c main_arg2 := by
  obtain ⟨e0, e1⟩ := idx2 t
  funext j; refine congrArg (V m c main_arg2) (idx_ext ?_ ?_)
  · show win0_2.index t (0 : Fin 2) * 1 + 1 * (j 0).val = (j 0).val; omega
  · show win0_2.index t (1 : Fin 2) * 4096 + 1 * (j 1).val = (j 1).val; omega

/-- Window 4 stages 512 columns of the gradient. -/
theorem iblk4_eq (t : Fin cfg0.N) : iblk m c 4 t = colBlk (V m c main_arg4) (cur t) := by
  obtain ⟨e0, e1⟩ := idx4 t
  funext j; refine congrArg (V m c main_arg4) (idx_ext ?_ ?_)
  · show win0_4.index t (0 : Fin 2) * 2048 + 1 * (j 0).val = (j 0).val; omega
  · show win0_4.index t (1 : Fin 2) * 512 + 1 * (j 1).val = 512 * (cur t : Nat) + (j 1).val; omega

/-- The quantiser of a block of columns is that of the whole at those columns. -/
theorem rowA_blk (X : Mat 2048 16384) (f : BitVec 32) (b : Fin 32) (p : Fin 2048) (q : Fin 512) :
    rowA d512 (colBlk X b) f p q = rowA d16384 X f p ⟨512 * (b : Nat) + q, by omega⟩ := by
  refine congrArg (fun g => amax g * Ideal.ofBits .f32 f) (funext fun k => congrArg (fun z => X (ix2 p z)) (Fin.ext ?_))
  show 512 * (b : Nat) + (128 * ((q : Nat) / 128) + k) = 128 * ((512 * (b : Nat) + q) / 128) + k
  omega
theorem colA_blk (X : Mat 2048 16384) (f : BitVec 32) (b : Fin 32) (p : Fin 2048) (q : Fin 512) :
    colA d2048 (colBlk X b) f p q = colA d2048 X f p ⟨512 * (b : Nat) + q, by omega⟩ := rfl

theorem dyRowCode_blk (X : Mat 2048 16384) (b : Fin 32) (y : S2048x512.Idx) :
    dyRowCode (colBlk X b) y = rowCodeAt X (y 0) ⟨512 * (b : Nat) + (y 1 : Nat), by have : (y 1).val < 512 := (y 1).isLt; omega⟩ := by
  exact congrArg (fun z => clipOf 0xC7600000#32 0x47600000#32 (colBlk X b y * invOf z)) (rowA_blk X 0x37924925#32 b (y 0) (y 1))

/-- The quantiser of 128 rows of the normalised input is that of the whole at those rows. -/
theorem colA_rows (X : Mat 2048 4096) (Γ : Mat 1 4096) (f : BitVec 32) (b : Fin 16) (p : Fin 128) (q : Fin 4096) :
    colA d128 (xnMat (rowBlk X b) Γ) f p q = colA d2048 (xnMat X Γ) f ⟨128 * (b : Nat) + p, by omega⟩ q := by
  refine congrArg (fun g => amax g * Ideal.ofBits .f32 f) (funext fun k => ?_)
  show xnMat X Γ (ix2 ⟨128 * (b : Nat) + (grp d128 p k : Nat), _⟩ q) = _
  refine congrArg (fun z => xnMat X Γ (ix2 z q)) (Fin.ext ?_)
  show 128 * (b : Nat) + (128 * ((p : Nat) / 128) + k) = 128 * ((128 * (b : Nat) + p) / 128) + k
  omega
theorem xCode_rows (X : Mat 2048 4096) (Γ : Mat 1 4096) (b : Fin 16) (p : Fin 128) (q : Fin 4096) :
    xCodeAt d128 (rowBlk X b) Γ p q = xCodeAt d2048 X Γ ⟨128 * (b : Nat) + p, by omega⟩ q := by
  unfold xCodeAt
  rw [colA_rows]
  rfl
theorem xScale_rows (X : Mat 2048 4096) (Γ : Mat 1 4096) (b : Fin 16) (p : Fin 128) (q : Fin 4096) :
    xScaleAt d128 (rowBlk X b) Γ p q = xScaleAt d2048 X Γ ⟨128 * (b : Nat) + p, by omega⟩ q := by
  unfold xScaleAt
  rw [colA_rows]

/-- The result arrays. -/
def W5 : S2048x16384.Idx → EReal := fun y => rowCodeAt (V m c main_arg4) (y 0) (y 1)
def W7 : S2048x16384.Idx → EReal := fun y => colCodeAt (V m c main_arg4) (y 0) (y 1)
def W8 : S16x16384.Idx → EReal := fun y => colScaleAt (V m c main_arg4) (first (n := 16) (N := 2048) rfl (y 0)) (y 1)
def W9 : S2048x4096.Idx → EReal := fun y => xCodeAt d2048 (V m c main_arg1) (V m c main_arg2) (y 0) (y 1)
def W10 : S16x1x4096.Idx → EReal := fun y => xScaleAt d2048 (V m c main_arg1) (V m c main_arg2) (first (n := 16) (N := 2048) rfl (y 0)) (y 2)
def W11 : S4096x2048.Idx → EReal := fun y =>
  xCodeAt d2048 (V m c main_arg1) (V m c main_arg2) (y 1) (y 0) * xScaleAt d2048 (V m c main_arg1) (V m c main_arg2) (y 1) (y 0)

/-- Two indices of a cube with equal numbers are equal. -/
theorem idx_ext3 {r s k : Nat} {i j : (⟨3, ![r, s, k]⟩ : Shape).Idx} (h0 : (i 0 : Nat) = j 0) (h1 : (i 1 : Nat) = j 1) (h2 : (i 2 : Nat) = j 2) : i = j := by
  funext a
  refine Fin.ext ?_
  fin_cases a
  · exact h0
  · exact h1
  · exact h2

/-- Where window 5's block at a point lies in the array. -/
theorem emb5 (t : Fin cfg0.N) (j : S2048x512.Idx) (h : 512 * (cur t : Nat) + (j 1).val < 16384) :
    ((cfg0.win 5).blk t).view.emb j = (ix2 (j 0) ⟨512 * (cur t : Nat) + (j 1).val, h⟩ : S2048x16384.Idx) := by
  obtain ⟨e0, e1⟩ := idx5 t
  refine idx_ext ?_ ?_
  · show win0_5.index t (0 : Fin 2) * 2048 + 1 * (j 0).val = (j 0).val; omega
  · show win0_5.index t (1 : Fin 2) * 512 + 1 * (j 1).val = 512 * (cur t : Nat) + (j 1).val; omega

/-- What a point writes back through window 5 is its block of the row codes. -/
theorem back5 (t : Fin cfg0.N) : (dats m 0 c).flushed 5 t = ((cfg0.win 5).blk t).view.read (Elt Ideal) (W5 m c) := by
  show (cfg0.win 5).cut (grid0.coords t) ((dats m 0 c).after 5 t) = _
  rw [after0_5]
  funext j
  have ht := (cur t).isLt
  have hj : (j 1).val < 512 := (j 1).isLt
  show (outsAt0 m c t.val t.isLt).1 j = W5 m c (((cfg0.win 5).blk t).view.emb j)
  rw [emb5 t j (by omega), point5, iblk4_eq]
  exact dyRowCode_blk _ _ _

/-- Every entry of the row codes lies in some block that is written back. -/
theorem covered5 (i : S2048x16384.Idx) : ∃ t : Fin cfg0.N, (cfg0.win 5).flush t = true ∧ i ∈ ((cfg0.win 5).blk t).view.set := by
  have hi : (i 1).val < 16384 := (i 1).isLt
  let b : Fin 32 := ⟨(i 1).val / 512, by omega⟩
  let j : S2048x512.Idx := ix2 (i 0) ⟨(i 1).val % 512, by omega⟩
  have hc : (cur (lastOf b) : Nat) = (i 1).val / 512 := congrArg Fin.val (cur_lastOf b)
  have e : ((cfg0.win 5).blk (lastOf b)).view.emb j = i :=
    (emb5 (lastOf b) j (by show 512 * (cur (lastOf b) : Nat) + (i 1).val % 512 < 16384; omega)).trans
      (idx_ext rfl (by show 512 * (cur (lastOf b) : Nat) + (i 1).val % 512 = (i 1).val; omega))
  have h := ((cfg0.win 5).blk (lastOf b)).view.emb_mem_set j
  rw [e] at h
  exact ⟨lastOf b, flush5 b, h⟩

/-- The row codes after the run. -/
theorem final5 : (dats m 0 c).arrAt 5 cfg0.N = W5 m c :=
  (dats m 0 c).arrAt_eq_of_cover 5 (W5 m c) (fun t _ => back5 m c t) covered5

/-- Where window 7's block at a point lies in the array. -/
theorem emb7 (t : Fin cfg0.N) (j : S2048x512.Idx) (h : 512 * (cur t : Nat) + (j 1).val < 16384) :
    ((cfg0.win 7).blk t).view.emb j = (ix2 (j 0) ⟨512 * (cur t : Nat) + (j 1).val, h⟩ : S2048x16384.Idx) := by
  obtain ⟨e0, e1⟩ := idx7 t
  refine idx_ext ?_ ?_
  · show win0_7.index t (0 : Fin 2) * 2048 + 1 * (j 0).val = (j 0).val; omega
  · show win0_7.index t (1 : Fin 2) * 512 + 1 * (j 1).val = 512 * (cur t : Nat) + (j 1).val; omega

/-- What a point writes back through window 7 is its block of the column codes. -/
theorem back7 (t : Fin cfg0.N) : (dats m 0 c).flushed 7 t = ((cfg0.win 7).blk t).view.read (Elt Ideal) (W7 m c) := by
  show (cfg0.win 7).cut (grid0.coords t) ((dats m 0 c).after 7 t) = _
  rw [after0_7]
  funext j
  have ht := (cur t).isLt
  have hj : (j 1).val < 512 := (j 1).isLt
  show (outsAt0 m c t.val t.isLt).2.2.1 j = W7 m c (((cfg0.win 7).blk t).view.emb j)
  rw [emb7 t j (by omega), point7, iblk4_eq]
  rfl

/-- Every entry of the column codes lies in some block that is written back. -/
theorem covered7 (i : S2048x16384.Idx) : ∃ t : Fin cfg0.N, (cfg0.win 7).flush t = true ∧ i ∈ ((cfg0.win 7).blk t).view.set := by
  have hi : (i 1).val < 16384 := (i 1).isLt
  let b : Fin 32 := ⟨(i 1).val / 512, by omega⟩
  let j : S2048x512.Idx := ix2 (i 0) ⟨(i 1).val % 512, by omega⟩
  have hc : (cur (lastOf b) : Nat) = (i 1).val / 512 := congrArg Fin.val (cur_lastOf b)
  have e : ((cfg0.win 7).blk (lastOf b)).view.emb j = i :=
    (emb7 (lastOf b) j (by show 512 * (cur (lastOf b) : Nat) + (i 1).val % 512 < 16384; omega)).trans
      (idx_ext rfl (by show 512 * (cur (lastOf b) : Nat) + (i 1).val % 512 = (i 1).val; omega))
  have h := ((cfg0.win 7).blk (lastOf b)).view.emb_mem_set j
  rw [e] at h
  exact ⟨lastOf b, flush7 b, h⟩

/-- The column codes after the run. -/
theorem final7 : (dats m 0 c).arrAt 7 cfg0.N = W7 m c :=
  (dats m 0 c).arrAt_eq_of_cover 7 (W7 m c) (fun t _ => back7 m c t) covered7

/-- Where window 8's block at a point lies in the array. -/
theorem emb8 (t : Fin cfg0.N) (j : S16x512.Idx) (h : 512 * (cur t : Nat) + (j 1).val < 16384) :
    ((cfg0.win 8).blk t).view.emb j = (ix2 (j 0) ⟨512 * (cur t : Nat) + (j 1).val, h⟩ : S16x16384.Idx) := by
  obtain ⟨e0, e1⟩ := idx8 t
  refine idx_ext ?_ ?_
  · show win0_8.index t (0 : Fin 2) * 16 + 1 * (j 0).val = (j 0).val; omega
  · show win0_8.index t (1 : Fin 2) * 512 + 1 * (j 1).val = 512 * (cur t : Nat) + (j 1).val; omega

/-- What a point writes back through window 8 is its block of the column scales. -/
theorem back8 (t : Fin cfg0.N) : (dats m 0 c).flushed 8 t = ((cfg0.win 8).blk t).view.read (Elt Ideal) (W8 m c) := by
  show (cfg0.win 8).cut (grid0.coords t) ((dats m 0 c).after 8 t) = _
  rw [after0_8]
  funext j
  have ht := (cur t).isLt
  have hj : (j 1).val < 512 := (j 1).isLt
  show (outsAt0 m c t.val t.isLt).2.2.2.1 j = W8 m c (((cfg0.win 8).blk t).view.emb j)
  rw [emb8 t j (by omega), point8, iblk4_eq]
  rfl

/-- Every entry of the column scales lies in some block that is written back. -/
theorem covered8 (i : S16x16384.Idx) : ∃ t : Fin cfg0.N, (cfg0.win 8).flush t = true ∧ i ∈ ((cfg0.win 8).blk t).view.set := by
  have hi : (i 1).val < 16384 := (i 1).isLt
  let b : Fin 32 := ⟨(i 1).val / 512, by omega⟩
  let j : S16x512.Idx := ix2 (i 0) ⟨(i 1).val % 512, by omega⟩
  have hc : (cur (lastOf b) : Nat) = (i 1).val / 512 := congrArg Fin.val (cur_lastOf b)
  have e : ((cfg0.win 8).blk (lastOf b)).view.emb j = i :=
    (emb8 (lastOf b) j (by show 512 * (cur (lastOf b) : Nat) + (i 1).val % 512 < 16384; omega)).trans
      (idx_ext rfl (by show 512 * (cur (lastOf b) : Nat) + (i 1).val % 512 = (i 1).val; omega))
  have h := ((cfg0.win 8).blk (lastOf b)).view.emb_mem_set j
  rw [e] at h
  exact ⟨lastOf b, flush8 b, h⟩

/-- The column scales after the run. -/
theorem final8 : (dats m 0 c).arrAt 8 cfg0.N = W8 m c :=
  (dats m 0 c).arrAt_eq_of_cover 8 (W8 m c) (fun t _ => back8 m c t) covered8

/-- The feature of a half that a point treats. -/
theorem halfCol_eq (t : Fin cfg0.N) (k : Fin 2048) (h : 2048 * ((cur t : Nat) % 2) + (k : Nat) < 4096) :
    halfCol (halfOf (grid0.coords t 0 : Nat)) k = ⟨2048 * ((cur t : Nat) % 2) + k, h⟩ :=
  Fin.ext (by show 2048 * (halfOf (grid0.coords t 0 : Nat) : Nat) + (k : Nat) = _; rw [halfOf_eq])

/-- A point's codes and scales of the normalised input are those of the whole at its rows and features. -/
theorem xCode_point (t : Fin cfg0.N) (X : Mat 2048 4096) (Γ : Mat 1 4096) (p : Fin 128) (k : Fin 2048)
    (h0 : 128 * ((cur t : Nat) / 2) + (p : Nat) < 2048) (h1 : 2048 * ((cur t : Nat) % 2) + (k : Nat) < 4096) :
    xCodeAt d128 (rowBlk X (half (cur t))) Γ p (halfCol (halfOf (grid0.coords t 0 : Nat)) k) = xCodeAt d2048 X Γ ⟨128 * ((cur t : Nat) / 2) + p, h0⟩ ⟨2048 * ((cur t : Nat) % 2) + k, h1⟩ := by
  rw [xCode_rows, halfCol_eq t k h1]
  rfl
theorem xScale_point (t : Fin cfg0.N) (X : Mat 2048 4096) (Γ : Mat 1 4096) (p : Fin 128) (k : Fin 2048)
    (h0 : 128 * ((cur t : Nat) / 2) + (p : Nat) < 2048) (h1 : 2048 * ((cur t : Nat) % 2) + (k : Nat) < 4096) :
    xScaleAt d128 (rowBlk X (half (cur t))) Γ p (halfCol (halfOf (grid0.coords t 0 : Nat)) k) = xScaleAt d2048 X Γ ⟨128 * ((cur t : Nat) / 2) + p, h0⟩ ⟨2048 * ((cur t : Nat) % 2) + k, h1⟩ := by
  rw [xScale_rows, halfCol_eq t k h1]
  rfl

/-- Where window 9's block at a point lies in the array. -/
theorem emb9 (t : Fin cfg0.N) (j : S128x2048.Idx) (h0 : 128 * ((cur t : Nat) / 2) + (j 0).val < 2048) (h1 : 2048 * ((cur t : Nat) % 2) + (j 1).val < 4096) :
    ((cfg0.win 9).blk t).view.emb j = (ix2 ⟨128 * ((cur t : Nat) / 2) + (j 0).val, h0⟩ ⟨2048 * ((cur t : Nat) % 2) + (j 1).val, h1⟩ : S2048x4096.Idx) := by
  obtain ⟨e0, e1⟩ := idx9 t
  refine idx_ext ?_ ?_
  · show win0_9.index t (0 : Fin 2) * 128 + 1 * (j 0).val = 128 * ((cur t : Nat) / 2) + (j 0).val; omega
  · show win0_9.index t (1 : Fin 2) * 2048 + 1 * (j 1).val = 2048 * ((cur t : Nat) % 2) + (j 1).val; omega

/-- What a point writes back through window 9 is its block of the codes of the normalised input. -/
theorem back9 (t : Fin cfg0.N) : (dats m 0 c).flushed 9 t = ((cfg0.win 9).blk t).view.read (Elt Ideal) (W9 m c) := by
  show (cfg0.win 9).cut (grid0.coords t) ((dats m 0 c).after 9 t) = _
  rw [after0_9]
  funext j
  have ht := (cur t).isLt
  have hj0 : (j 0).val < 128 := (j 0).isLt
  have hj1 : (j 1).val < 2048 := (j 1).isLt
  show (outsAt0 m c t.val t.isLt).2.2.2.2.1 j = W9 m c (((cfg0.win 9).blk t).view.emb j)
  rw [emb9 t j (by omega) (by omega), point9, iblk1_eq, iblk2_eq]
  exact xCode_point t _ _ (j 0) (j 1) _ _

/-- Every entry of the codes of the normalised input lies in some block that is written back. -/
theorem covered9 (i : S2048x4096.Idx) : ∃ t : Fin cfg0.N, (cfg0.win 9).flush t = true ∧ i ∈ ((cfg0.win 9).blk t).view.set := by
  have hi0 : (i 0).val < 2048 := (i 0).isLt
  have hi1 : (i 1).val < 4096 := (i 1).isLt
  let b : Fin 32 := ⟨2 * ((i 0).val / 128) + (i 1).val / 2048, by omega⟩
  let j : S128x2048.Idx := ix2 ⟨(i 0).val % 128, by omega⟩ ⟨(i 1).val % 2048, by omega⟩
  have hb := cur_lastOf b
  have e : ((cfg0.win 9).blk (lastOf b)).view.emb j = i :=
    (emb9 (lastOf b) j (by rw [hb]; show 128 * ((2 * ((i 0).val / 128) + (i 1).val / 2048) / 2) + (i 0).val % 128 < 2048; omega)
      (by rw [hb]; show 2048 * ((2 * ((i 0).val / 128) + (i 1).val / 2048) % 2) + (i 1).val % 2048 < 4096; omega)).trans
      (idx_ext (by show 128 * ((cur (lastOf b) : Nat) / 2) + (i 0).val % 128 = _; rw [hb]; show 128 * ((2 * ((i 0).val / 128) + (i 1).val / 2048) / 2) + (i 0).val % 128 = (i 0).val; omega)
        (by show 2048 * ((cur (lastOf b) : Nat) % 2) + (i 1).val % 2048 = _; rw [hb]; show 2048 * ((2 * ((i 0).val / 128) + (i 1).val / 2048) % 2) + (i 1).val % 2048 = (i 1).val; omega))
  have h := ((cfg0.win 9).blk (lastOf b)).view.emb_mem_set j
  rw [e] at h
  exact ⟨lastOf b, flush9 b, h⟩

/-- The codes of the normalised input after the run. -/
theorem final9 : (dats m 0 c).arrAt 9 cfg0.N = W9 m c :=
  (dats m 0 c).arrAt_eq_of_cover 9 (W9 m c) (fun t _ => back9 m c t) covered9

/-- Where window 10's block at a point lies in the array. -/
theorem emb10 (t : Fin cfg0.N) (j : S1x1x2048.Idx) (h0 : (cur t : Nat) / 2 < 16) (h1 : 2048 * ((cur t : Nat) % 2) + (j 2).val < 4096) :
    ((cfg0.win 10).blk t).view.emb j = (ix3 ⟨(cur t : Nat) / 2, h0⟩ 0 ⟨2048 * ((cur t : Nat) % 2) + (j 2).val, h1⟩ : S16x1x4096.Idx) := by
  obtain ⟨e0, e1, e2⟩ := idx10 t
  have hj0 : (j 0).val < 1 := (j 0).isLt
  have hj1 : (j 1).val < 1 := (j 1).isLt
  refine idx_ext3 ?_ ?_ ?_
  · show win0_10.index t (0 : Fin 3) * 1 + 1 * (j 0).val = (cur t : Nat) / 2; omega
  · show win0_10.index t (1 : Fin 3) * 1 + 1 * (j 1).val = 0; omega
  · show win0_10.index t (2 : Fin 3) * 2048 + 1 * (j 2).val = 2048 * ((cur t : Nat) % 2) + (j 2).val; omega

/-- What a point writes back through window 10 is its block of the scales of the normalised input. -/
theorem back10 (t : Fin cfg0.N) : (dats m 0 c).flushed 10 t = ((cfg0.win 10).blk t).view.read (Elt Ideal) (W10 m c) := by
  show (cfg0.win 10).cut (grid0.coords t) ((dats m 0 c).after 10 t) = _
  rw [after0_10]
  funext j
  have ht := (cur t).isLt
  have hj2 : (j 2).val < 2048 := (j 2).isLt
  show (outsAt0 m c t.val t.isLt).2.2.2.2.2.1 j = W10 m c (((cfg0.win 10).blk t).view.emb j)
  rw [emb10 t j (by omega) (by omega), point10, iblk1_eq, iblk2_eq, xScale_rows, halfCol_eq t (j 2) (by omega)]
  rfl

/-- Every entry of the scales of the normalised input lies in some block that is written back. -/
theorem covered10 (i : S16x1x4096.Idx) : ∃ t : Fin cfg0.N, (cfg0.win 10).flush t = true ∧ i ∈ ((cfg0.win 10).blk t).view.set := by
  have hi0 : (i 0).val < 16 := (i 0).isLt
  have hi1 : (i 1).val < 1 := (i 1).isLt
  have hi2 : (i 2).val < 4096 := (i 2).isLt
  let b : Fin 32 := ⟨2 * (i 0).val + (i 2).val / 2048, by omega⟩
  let j : S1x1x2048.Idx := ix3 0 0 ⟨(i 2).val % 2048, by omega⟩
  have hb := cur_lastOf b
  have e : ((cfg0.win 10).blk (lastOf b)).view.emb j = i :=
    (emb10 (lastOf b) j (by rw [hb]; show (2 * (i 0).val + (i 2).val / 2048) / 2 < 16; omega)
      (by rw [hb]; show 2048 * ((2 * (i 0).val + (i 2).val / 2048) % 2) + (i 2).val % 2048 < 4096; omega)).trans
      (idx_ext3 (by show (cur (lastOf b) : Nat) / 2 = _; rw [hb]; show (2 * (i 0).val + (i 2).val / 2048) / 2 = (i 0).val; omega)
        (by show 0 = (i 1).val; omega)
        (by show 2048 * ((cur (lastOf b) : Nat) % 2) + (i 2).val % 2048 = _; rw [hb]; show 2048 * ((2 * (i 0).val + (i 2).val / 2048) % 2) + (i 2).val % 2048 = (i 2).val; omega))
  have h := ((cfg0.win 10).blk (lastOf b)).view.emb_mem_set j
  rw [e] at h
  exact ⟨lastOf b, flush10 b, h⟩

/-- The scales of the normalised input after the run. -/
theorem final10 : (dats m 0 c).arrAt 10 cfg0.N = W10 m c :=
  (dats m 0 c).arrAt_eq_of_cover 10 (W10 m c) (fun t _ => back10 m c t) covered10

/-- Where window 11's block at a point lies in the array. -/
theorem emb11 (t : Fin cfg0.N) (j : S2048x128.Idx) (h0 : 2048 * ((cur t : Nat) % 2) + (j 0).val < 4096) (h1 : 128 * ((cur t : Nat) / 2) + (j 1).val < 2048) :
    ((cfg0.win 11).blk t).view.emb j = (ix2 ⟨2048 * ((cur t : Nat) % 2) + (j 0).val, h0⟩ ⟨128 * ((cur t : Nat) / 2) + (j 1).val, h1⟩ : S4096x2048.Idx) := by
  obtain ⟨e0, e1⟩ := idx11 t
  refine idx_ext ?_ ?_
  · show win0_11.index t (0 : Fin 2) * 2048 + 1 * (j 0).val = 2048 * ((cur t : Nat) % 2) + (j 0).val; omega
  · show win0_11.index t (1 : Fin 2) * 128 + 1 * (j 1).val = 128 * ((cur t : Nat) / 2) + (j 1).val; omega

/-- What a point writes back through window 11 is its block of the dequantised, transposed input. -/
theorem back11 (t : Fin cfg0.N) : (dats m 0 c).flushed 11 t = ((cfg0.win 11).blk t).view.read (Elt Ideal) (W11 m c) := by
  show (cfg0.win 11).cut (grid0.coords t) ((dats m 0 c).after 11 t) = _
  rw [after0_11]
  funext j
  have ht := (cur t).isLt
  have hj0 : (j 0).val < 2048 := (j 0).isLt
  have hj1 : (j 1).val < 128 := (j 1).isLt
  show (outsAt0 m c t.val t.isLt).2.2.2.2.2.2.1 j = W11 m c (((cfg0.win 11).blk t).view.emb j)
  rw [emb11 t j (by omega) (by omega), point11, iblk1_eq, iblk2_eq]
  exact congrArg₂ (fun a b : EReal => a * b) (xCode_point t _ _ (j 1) (j 0) _ _) (xScale_point t _ _ (j 1) (j 0) _ _)

/-- Every entry of the dequantised, transposed input lies in some block that is written back. -/
theorem covered11 (i : S4096x2048.Idx) : ∃ t : Fin cfg0.N, (cfg0.win 11).flush t = true ∧ i ∈ ((cfg0.win 11).blk t).view.set := by
  have hi0 : (i 0).val < 4096 := (i 0).isLt
  have hi1 : (i 1).val < 2048 := (i 1).isLt
  let b : Fin 32 := ⟨2 * ((i 1).val / 128) + (i 0).val / 2048, by omega⟩
  let j : S2048x128.Idx := ix2 ⟨(i 0).val % 2048, by omega⟩ ⟨(i 1).val % 128, by omega⟩
  have hb := cur_lastOf b
  have e : ((cfg0.win 11).blk (lastOf b)).view.emb j = i :=
    (emb11 (lastOf b) j (by rw [hb]; show 2048 * ((2 * ((i 1).val / 128) + (i 0).val / 2048) % 2) + (i 0).val % 2048 < 4096; omega)
      (by rw [hb]; show 128 * ((2 * ((i 1).val / 128) + (i 0).val / 2048) / 2) + (i 1).val % 128 < 2048; omega)).trans
      (idx_ext (by show 2048 * ((cur (lastOf b) : Nat) % 2) + (i 0).val % 2048 = _; rw [hb]; show 2048 * ((2 * ((i 1).val / 128) + (i 0).val / 2048) % 2) + (i 0).val % 2048 = (i 0).val; omega)
        (by show 128 * ((cur (lastOf b) : Nat) / 2) + (i 1).val % 128 = _; rw [hb]; show 128 * ((2 * ((i 1).val / 128) + (i 0).val / 2048) / 2) + (i 1).val % 128 = (i 1).val; omega))
  have h := ((cfg0.win 11).blk (lastOf b)).view.emb_mem_set j
  rw [e] at h
  exact ⟨lastOf b, flush11 b, h⟩

/-- The dequantised, transposed input after the run. -/
theorem final11 : (dats m 0 c).arrAt 11 cfg0.N = W11 m c :=
  (dats m 0 c).arrAt_eq_of_cover 11 (W11 m c) (fun t _ => back11 m c t) covered11

end Cert.QuantiseIdeal.Value
end
-- ==== Proof.RowPieces.lean ====
module

public import proofs.«01_k».proof.Proof.Pieces

@[expose] public section
set_option maxRecDepth 16384
noncomputable section

/-! The row scales of the gradient: a point puts the scales of its four groups into four columns of the array of scales. -/
namespace Cert.QuantiseIdeal.Value
open Cert.QuantiseIdeal Cert.QuantiseIdeal.Gen Cert.Spec Idealize.ShloMosaic Idealize.ShloMosaic.TcCoe Idealize.SL.Sem

/-- The word of column `4 min(k, 31) + c`. -/
def colNo (k : Nat) (c : BitVec 32) : BitVec 32 := Scalar.addi (Scalar.muli (Scalar.minsi (BitVec.ofNat 32 k) 31#32) 4#32) c

theorem colNo_eq : ∀ (k : Fin 33) (c : Fin 4), colNo (k : Nat) (BitVec.ofNat 32 (c : Nat)) = BitVec.ofNat 32 (4 * min (k : Nat) 31 + c) := by
  decide +kernel

/-- A block with a column of scales put into one of its columns. -/
def put (k : Nat) (c : BitVec 32) (s : FVec Ideal S128x1 .f32) (prev : FVec Ideal S128x128 .f32) : FVec Ideal S128x128 .f32 :=
  select (cmpi .eq (iota .tc S128x128 32 [1] iota_S128x128_d1_w32) (broadcast S128x128 (colNo k c)))
    (broadcastTo S128x128 (shapeCast S128x1 s shapeCasts_S128x1_S128x1) broadcasts_S128x1_S128x128) prev

theorem put_apply (k : Fin 33) (c : Fin 4) (s : FVec Ideal S128x1 .f32) (prev : FVec Ideal S128x128 .f32) (p q : Fin 128) :
    put (k : Nat) (BitVec.ofNat 32 (c : Nat)) s prev (ix2 p q) = if (q : Nat) = 4 * min (k : Nat) 31 + c then s (ix2 p 0) else prev (ix2 p q) := by
  unfold put
  rw [colNo_eq]
  pointwise
  by_cases h : (q : Nat) = 4 * min (k : Nat) 31 + c
  · rw [if_pos h, h]
    simp [Scalar.select, IntOp.cmpi]
  · rw [if_neg h]
    have hne : BitVec.ofNat 32 (q : Nat) ≠ BitVec.ofNat 32 (4 * min (k : Nat) 31 + c) := by
      intro e
      have e' := congrArg BitVec.toNat e
      have := q.isLt; have := c.isLt
      simp only [BitVec.toNat_ofNat] at e'
      omega
    have hb : (BitVec.ofNat 32 (q : Nat) == BitVec.ofNat 32 (4 * min (k : Nat) 31 + c)) = false := beq_eq_false_iff_ne.mpr hne
    show (if BitVec.ofBool (BitVec.ofNat 32 (q : Nat) == BitVec.ofNat 32 (4 * min (k : Nat) 31 + c)) = 1#1 then _ else _) = _
    rw [hb]
    rfl

/-- The scales of a block of 128 rows and 128 columns of the gradient. -/
def scaleVec (x4 : Vec Ideal S2048x512 .bf16) (R C : Nat) (inb : ∀ a, ![R, C] a + ![128, 128] a ≤ S2048x512.size a) : FVec Ideal S128x1 .f32 :=
  bitcastToFloat (F := Ideal) .f32 (rowWord (rowMax (dyBlk x4 R C inb)) 0x37924925#32)

/-- The array of row scales after a point that treats block `k` of the columns. -/
def rowsAfter (x4 : Mat 2048 512) (k : Nat) (y : S2048x128.Idx) (prev : EReal) : EReal :=
  if h : 4 * k ≤ (y 1 : Nat) ∧ (y 1 : Nat) < 4 * k + 4 then scaleOf (rowA d512 x4 0x37924925#32 (y 0) ⟨128 * ((y 1 : Nat) - 4 * k), by omega⟩)
  else prev

theorem rows_ld (x4 : Vec Ideal S2048x512 .bf16) (R : Nat) (hR : 128 ∣ R) (k : Fin 33)
    (i0 : ∀ a, ![R, 0] a + ![128, 128] a ≤ S2048x512.size a) (i1 : ∀ a, ![R, 128] a + ![128, 128] a ≤ S2048x512.size a)
    (i2 : ∀ a, ![R, 256] a + ![128, 128] a ≤ S2048x512.size a) (i3 : ∀ a, ![R, 384] a + ![128, 128] a ≤ S2048x512.size a)
    (base : FVec Ideal S128x128 .f32) (y : S2048x128.Idx) (x : S128x128.Idx) (h0 : (y 0 : Nat) = R + x 0) (h1 : (y 1 : Nat) = 0 + x 1) :
    put (k : Nat) 3#32 (scaleVec x4 R 384 i3) (put (k : Nat) 2#32 (scaleVec x4 R 256 i2) (put (k : Nat) 1#32 (scaleVec x4 R 128 i1)
      (put (k : Nat) 0#32 (scaleVec x4 R 0 i0) base))) x = rowsAfter x4 (min (k : Nat) 31) y (base x) := by
  obtain ⟨p, q, rfl⟩ : ∃ (p q : Fin 128), x = ix2 p q := ⟨x 0, x 1, idx128 x⟩
  have h0' : (y 0 : Nat) = R + p := h0
  have h1' : (y 1 : Nat) = q := by have : (y 1 : Nat) = 0 + q := h1; omega
  have sc : ∀ (C : Nat) (inb : ∀ a, ![R, C] a + ![128, 128] a ≤ S2048x512.size a) (z : Fin 512), 128 ∣ C → (z : Nat) = C →
      scaleVec x4 R C inb (ix2 p 0) = scaleOf (rowA d512 x4 0x37924925#32 (y 0) z) := fun C inb z hC hz =>
    rowScale_block d512 x4 (dyBlk x4 R C inb) R C hR hC (dyBlk_apply x4 R C inb) 0x37924925#32 (y 0) z p h0' (by omega)
  have e0 := put_apply k 0 (scaleVec x4 R 0 i0) base p q
  have e1 := put_apply k 1 (scaleVec x4 R 128 i1) (put (k : Nat) 0#32 (scaleVec x4 R 0 i0) base) p q
  have e2 := put_apply k 2 (scaleVec x4 R 256 i2) (put (k : Nat) 1#32 (scaleVec x4 R 128 i1) (put (k : Nat) 0#32 (scaleVec x4 R 0 i0) base)) p q
  have e3 := put_apply k 3 (scaleVec x4 R 384 i3) (put (k : Nat) 2#32 (scaleVec x4 R 256 i2) (put (k : Nat) 1#32 (scaleVec x4 R 128 i1)
      (put (k : Nat) 0#32 (scaleVec x4 R 0 i0) base))) p q
  refine e3.trans ?_
  unfold rowsAfter
  by_cases c3 : (q : Nat) = 4 * min (k : Nat) 31 + ((3 : Fin 4) : Nat)
  · have c3' : (q : Nat) = 4 * min (k : Nat) 31 + 3 := c3
    rw [if_pos c3, dif_pos ⟨by omega, by omega⟩]
    exact sc 384 i3 _ (by decide) (by show 128 * ((y 1 : Nat) - 4 * min (k : Nat) 31) = 384; omega)
  rw [if_neg c3]
  refine e2.trans ?_
  by_cases c2 : (q : Nat) = 4 * min (k : Nat) 31 + ((2 : Fin 4) : Nat)
  · have c2' : (q : Nat) = 4 * min (k : Nat) 31 + 2 := c2
    rw [if_pos c2, dif_pos ⟨by omega, by omega⟩]
    exact sc 256 i2 _ (by decide) (by show 128 * ((y 1 : Nat) - 4 * min (k : Nat) 31) = 256; omega)
  rw [if_neg c2]
  refine e1.trans ?_
  by_cases c1 : (q : Nat) = 4 * min (k : Nat) 31 + ((1 : Fin 4) : Nat)
  · have c1' : (q : Nat) = 4 * min (k : Nat) 31 + 1 := c1
    rw [if_pos c1, dif_pos ⟨by omega, by omega⟩]
    exact sc 128 i1 _ (by decide) (by show 128 * ((y 1 : Nat) - 4 * min (k : Nat) 31) = 128; omega)
  rw [if_neg c1]
  refine e0.trans ?_
  by_cases c0 : (q : Nat) = 4 * min (k : Nat) 31 + ((0 : Fin 4) : Nat)
  · have c0' : (q : Nat) = 4 * min (k : Nat) 31 + 0 := c0
    rw [if_pos c0, dif_pos ⟨by omega, by omega⟩]
    exact sc 0 i0 _ (by decide) (by show 128 * ((y 1 : Nat) - 4 * min (k : Nat) 31) = 0; omega)
  rw [if_neg c0, dif_neg]
  have c3' : ¬(q : Nat) = 4 * min (k : Nat) 31 + 3 := c3
  have c2' : ¬(q : Nat) = 4 * min (k : Nat) 31 + 2 := c2
  have c1' : ¬(q : Nat) = 4 * min (k : Nat) 31 + 1 := c1
  have c0' : ¬(q : Nat) = 4 * min (k : Nat) 31 + 0 := c0
  omega

/-- The array's block before the point. -/
def prevBlk (xo6 : Vec Ideal S2048x128 .f32) (R : Nat) (inb : ∀ a, ![R, 0] a + ![128, 128] a ≤ S2048x128.size a) : FVec Ideal S128x128 .f32 :=
  shapeCast S128x128 (View.ld xo6 (Rect.unit (s := S2048x128) ![R, 0] ![128, 128] inb)) shapeCasts_S128x128_S128x128

theorem prevBlk_apply (xo6 : Vec Ideal S2048x128 .f32) (R : Nat) (inb : ∀ a, ![R, 0] a + ![128, 128] a ≤ S2048x128.size a)
    (y : S2048x128.Idx) (x : S128x128.Idx) (h0 : (y 0 : Nat) = R + x 0) (h1 : (y 1 : Nat) = 0 + x 1) : prevBlk xo6 R inb x = xo6 y := by
  obtain ⟨p, q, rfl⟩ : ∃ (p q : Fin 128), x = ix2 p q := ⟨x 0, x 1, idx128 x⟩
  have h0' : (y 0 : Nat) = R + p := h0
  have h1' : (y 1 : Nat) = 0 + q := h1
  have e : prevBlk xo6 R inb (ix2 p q) = (View.ld xo6 (Rect.unit (s := S2048x128) ![R, 0] ![128, 128] inb)) (ix2 p q) := by
    unfold prevBlk
    generalize View.ld xo6 (Rect.unit (s := S2048x128) ![R, 0] ![128, 128] inb) = v
    pointwise
  refine e.trans (congrArg xo6 (idx_ext ?_ ?_))
  · show R + 1 * (p : Nat) = y 0; omega
  · show 0 + 1 * (q : Nat) = y 1; omega

theorem rowsB_ld (x4 : Vec Ideal S2048x512 .bf16) (xo6 : Vec Ideal S2048x128 .f32) (R : Nat) (hR : 128 ∣ R) (k : Fin 33)
    (i0 : ∀ a, ![R, 0] a + ![128, 128] a ≤ S2048x512.size a) (i1 : ∀ a, ![R, 128] a + ![128, 128] a ≤ S2048x512.size a)
    (i2 : ∀ a, ![R, 256] a + ![128, 128] a ≤ S2048x512.size a) (i3 : ∀ a, ![R, 384] a + ![128, 128] a ≤ S2048x512.size a)
    (ip : ∀ a, ![R, 0] a + ![128, 128] a ≤ S2048x128.size a) (y : S2048x128.Idx) (x : S128x128.Idx) (h0 : (y 0 : Nat) = R + x 0) (h1 : (y 1 : Nat) = 0 + x 1) :
    put (k : Nat) 3#32 (scaleVec x4 R 384 i3) (put (k : Nat) 2#32 (scaleVec x4 R 256 i2) (put (k : Nat) 1#32 (scaleVec x4 R 128 i1)
      (put (k : Nat) 0#32 (scaleVec x4 R 0 i0) (prevBlk xo6 R ip)))) x = rowsAfter x4 (min (k : Nat) 31) y (xo6 y) := by
  rw [rows_ld x4 R hR k i0 i1 i2 i3 _ y x h0 h1, prevBlk_apply xo6 R ip y x h0 h1]

/-- The last store of 128 rows decides the entries of its rows; the others keep what the earlier stores left. -/
theorem row_step {R : Nat} {inb : ∀ a, (![R, 0] : Fin 2 → Nat) a + (![128, 128] : Fin 2 → Nat) a ≤ S2048x128.size a}
    {w : (Rect.unit (s := S2048x128) ![R, 0] ![128, 128] inb).shape.Idx → EReal} {L : List (View.Piece (Elt Ideal) S2048x128 .f32)}
    {y : S2048x128.Idx} {v : EReal}
    (h : ∀ x : S128x128.Idx, (y 0 : Nat) = R + x 0 → (y 1 : Nat) = 0 + x 1 → w x = v)
    (hL : ¬(R ≤ (y 0 : Nat) ∧ (y 0 : Nat) < R + 128) → View.canon L y = v) :
    View.canon ((⟨Rect.unit ![R, 0] ![128, 128] inb, w⟩ : View.Piece (Elt Ideal) S2048x128 .f32) :: L) y = v := by
  by_cases hm : y ∈ (Rect.unit (s := S2048x128) ![R, 0] ![128, 128] inb).set
  · obtain ⟨x, rfl⟩ := (Rect.unit (s := S2048x128) ![R, 0] ![128, 128] inb).exists_idx_of_mem hm
    have e := View.canon_cons_emb (Val := Elt Ideal) (Rect.unit (s := S2048x128) ![R, 0] ![128, 128] inb) w L x
    refine Eq.trans e (h x ?_ ?_)
    · show R + 1 * ((x 0 : Fin 128) : Nat) = R + ((x 0 : Fin 128) : Nat); omega
    · show 0 + 1 * ((x 1 : Fin 128) : Nat) = 0 + ((x 1 : Fin 128) : Nat); omega
  · refine (View.canon_cons_of_not_mem (Val := Elt Ideal) ⟨Rect.unit (s := S2048x128) ![R, 0] ![128, 128] inb, w⟩ L hm).trans (hL fun hr => hm ?_)
    have h1 : (y 1 : Nat) < 128 := (y 1).isLt
    refine Rect.mem_set_unit.mpr fun a => ?_
    match a with
    | ⟨0, _⟩ => exact hr
    | ⟨1, _⟩ => exact ⟨Nat.zero_le _, by simpa using h1⟩

/-- The columns the first point fills do not depend on what was there. -/
theorem rowsA_ld (x4 : Vec Ideal S2048x512 .bf16) (R : Nat) (hR : 128 ∣ R) (k : Fin 33) (hk : (k : Nat) = 0)
    (i0 : ∀ a, ![R, 0] a + ![128, 128] a ≤ S2048x512.size a) (i1 : ∀ a, ![R, 128] a + ![128, 128] a ≤ S2048x512.size a)
    (i2 : ∀ a, ![R, 256] a + ![128, 128] a ≤ S2048x512.size a) (i3 : ∀ a, ![R, 384] a + ![128, 128] a ≤ S2048x512.size a)
    (base : FVec Ideal S128x128 .f32) (y : S2048x128.Idx) (x : S128x128.Idx) (h0 : (y 0 : Nat) = R + x 0) (h1 : (y 1 : Nat) = 0 + x 1)
    (hy : (y 1 : Nat) < 4) :
    put (k : Nat) 3#32 (scaleVec x4 R 384 i3) (put (k : Nat) 2#32 (scaleVec x4 R 256 i2) (put (k : Nat) 1#32 (scaleVec x4 R 128 i1)
      (put (k : Nat) 0#32 (scaleVec x4 R 0 i0) base))) x = rowsAfter x4 0 y 0 := by
  rw [rows_ld x4 R hR k i0 i1 i2 i3 base y x h0 h1, hk]
  unfold rowsAfter
  rw [dif_pos ⟨by omega, by omega⟩, dif_pos ⟨by omega, by omega⟩]
  rfl

end Cert.QuantiseIdeal.Value
end
-- ==== Proof.QuantiseRowsA.lean ====
module

public import proofs.«01_k».proof.Proof.RowPieces
public import proofs.«01_k».proof.Proof.Gen.QuantiseIdeal.Frame.RunA
public import Idealize.ShloMosaic.Lib.Pipeline.ValueKit

@[expose] public section
set_option maxRecDepth 400000
noncomputable section

/-! The row scales of the gradient: what the first point leaves in the array of scales. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- The first point puts the row scales of its four groups into the first columns of the array of row scales. -/
theorem out6_A (hc0 : cond0_0 i) (hc1 : ¬cond0_1 i) (hi : (i 0 : Nat) = 0) (y : S2048x128.Idx) (hy : (y 1 : Nat) < 4) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.1 y = rowsAfter x4 0 y 0 := by
  unfold kernelRun0_A
  dsimp only
  sl_unfold_words
  have hlt : (y 0 : Nat) < 2048 := (y 0).isLt
  iterate 16
    refine row_step ?_ ?_
    on_goal 2 => intro hn
    rotate_left 1
  · exfalso
    omega
  all_goals intro x h0 h1
  all_goals simp only [View.readAt_eq_ld, harg5.read_unread]
  all_goals exact rowsA_ld x4 _ (by decide) (i 0) hi _ _ _ _ _ y x h0 h1 hy

end Cert.QuantiseIdeal.Value
end
-- ==== Proof.QuantiseRowsB.lean ====
module

public import proofs.«01_k».proof.Proof.RowPieces
public import proofs.«01_k».proof.Proof.QuantiseIdealRun
public import Idealize.ShloMosaic.Lib.Pipeline.ValueKit

@[expose] public section
set_option maxRecDepth 400000
noncomputable section

/-! The row scales of the gradient: what a later point leaves in the array of scales. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- A later point puts the row scales of its four groups into the array of row scales. -/
theorem out6_B (hc0 : ¬cond0_0 i) (hc1 : cond0_1 i) (y : S2048x128.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.1 y = rowsAfter x4 (min (i 0 : Nat) 31) y (xo6 y) := by
  unfold kernelRun0_B
  dsimp only
  sl_unfold_words
  canon_tiles x h
  all_goals simp only [View.readAt_eq_ld, harg5.read_unread, harg7.read_unread]
  all_goals exact rowsB_ld x4 xo6 _ (by decide) (i 0) _ _ _ _ _ y x (by omega) (by omega)

end Cert.QuantiseIdeal.Value
end
-- ==== Proof.QuantiseRowArray.lean ====
module

public import proofs.«01_k».proof.Proof.QuantiseArrays
public import proofs.«01_k».proof.Proof.QuantiseRowsA
public import proofs.«01_k».proof.Proof.QuantiseRowsB

@[expose] public section
set_option maxRecDepth 16384
noncomputable section

/-! The array of row scales of the gradient stays in place over the whole grid; every point fills four of its columns. -/
namespace Cert.QuantiseIdeal.Value
open Cert.QuantiseIdeal Cert.QuantiseIdeal.Gen Cert.Spec Idealize.ShloMosaic Idealize.ShloMosaic.TcCoe Idealize.SL.Sem

variable (m : (ℓ : Loc nD τ sig) → Buf (Elt Ideal) ℓ) (c : Dev nD)

theorem idx6 : ∀ t : Fin cfg0.N, win0_6.index t (0 : Fin 2) = 0 ∧ win0_6.index t (1 : Fin 2) = 0 :=
  (by decide +kernel : ∀ t : Fin grid0.N, _)
theorem flush6 : ∀ t : Fin cfg0.N, (cfg0.win 6).flush t = true → t.val = 32 :=
  (by decide +kernel : ∀ t : Fin grid0.N, win0_6.flush t = true → t.val = 32)
theorem flushed_last6 : ∀ t : Fin cfg0.N, t.val = 32 → (cfg0.win 6).flush t = true :=
  (by decide +kernel : ∀ t : Fin grid0.N, t.val = 32 → win0_6.flush t = true)

def W6 : S2048x128.Idx → EReal := fun y => rowScaleAt (V m c main_arg4) (y 0) (first (n := 128) (N := 16384) rfl (y 1))

/-- The columns a point fills hold the row scales of the whole gradient. -/
theorem rowsAfter_in (X : Mat 2048 16384) (b : Fin 32) (y : S2048x128.Idx) (z : EReal) (h : 4 * (b : Nat) ≤ (y 1 : Nat) ∧ (y 1 : Nat) < 4 * b + 4) :
    rowsAfter (colBlk X b) b y z = rowScaleAt X (y 0) (first (n := 128) (N := 16384) rfl (y 1)) := by
  unfold rowsAfter
  refine (dif_pos h).trans ((congrArg scaleOf (rowA_blk X 0x37924925#32 b (y 0) ⟨128 * ((y 1 : Nat) - 4 * b), by omega⟩)).trans ?_)
  refine congrArg (fun q => scaleOf (rowA d16384 X 0x37924925#32 (y 0) q)) (Fin.ext ?_)
  show 512 * (b : Nat) + 128 * ((y 1 : Nat) - 4 * b) = 128 * (y 1 : Nat)
  omega
theorem rowsAfter_out (X : Mat 2048 512) (k : Nat) (y : S2048x128.Idx) (z : EReal) (h : ¬(4 * k ≤ (y 1 : Nat) ∧ (y 1 : Nat) < 4 * k + 4)) :
    rowsAfter X k y z = z := by
  unfold rowsAfter
  rw [dif_neg h]

/-- What the first point leaves in window 6, in its first four columns. -/
theorem point6_A (t : Fin cfg0.N) (h0 : t.val % 33 = 0) (y : S2048x128.Idx) (hy : (y 1 : Nat) < 4) :
    (outsAt0 m c t.val t.isLt).2.1 y = rowsAfter (iblk m c 4 t) 0 y 0 := by
  rw [outsAt0_A m c t h0 (earlier t h0)]
  dsimp only
  unfold out0_A_6
  rw [View.read_writes_eq_canon _ _ _ (cover0_A_6 c _ _ _ _ _ _ _ _ _ _ _ _ _ _ _ _ _ _ _ _ _ _ _ _ _ _ _ _ _ _ _ _ _ _ _ _ _ _)]
  exact out6_A c _ _ _ _ _ _ _ _ _ _ _ _ _ _ _ _ _ _ _ _ _ _ _ _ _ _ _ _ _ _ _ _ _ _ _ _ _ _ (by have := earlier t h0; rw [coord_eq]; omega) y hy

/-- What a later point leaves in window 6. -/
theorem point6_B (t : Fin cfg0.N) (h0 : ¬t.val % 33 = 0) (y : S2048x128.Idx) :
    (outsAt0 m c t.val t.isLt).2.1 y = rowsAfter (iblk m c 4 t) (min (grid0.coords t 0 : Nat) 31) y
      ((outsAt0 m c (t.val - 1) (Nat.lt_of_le_of_lt (Nat.sub_le _ _) t.isLt)).2.1 y) := by
  rw [outsAt0_B m c t h0 (later t h0)]
  dsimp only
  unfold out0_B_6
  rw [View.read_writes_eq_canon _ _ _ (cover0_B_6 c _ _ _ _ _ _ _ _ _ _ _ _ _ _ _ _ _ _ _ _ _ _ _ _ _ _ _ _ _ _ _ _ _ _ _ _ _ _ _ _ _)]
  exact out6_B c _ _ _ _ _ _ _ _ _ _ _ _ _ _ _ _ _ _ _ _ _ _ _ _ _ _ _ _ _ _ _ _ _ _ _ _ _ _ _ _ _ y

/-- After a point the columns filled so far hold the row scales. -/
theorem after6 (n : Nat) (hn : n < cfg0.N) (y : S2048x128.Idx) (hy : (y 1 : Nat) < 4 * min n 31 + 4) :
    (outsAt0 m c n hn).2.1 y = W6 m c y := by
  induction n with
  | zero =>
    have e := point6_A m c ⟨0, hn⟩ rfl y (by omega)
    rw [iblk4_eq] at e
    exact e.trans (rowsAfter_in (V m c main_arg4) (cur ⟨0, hn⟩) y 0 ⟨Nat.zero_le _, hy⟩)
  | succ n ih =>
    have hN : n + 1 < 33 := lt_of_lt_of_eq hn (show cfg0.N = 33 from N_0)
    have e := point6_B m c ⟨n + 1, hn⟩ (by show ¬(n + 1) % 33 = 0; omega) y
    rw [iblk4_eq, coord_eq] at e
    refine e.trans ?_
    by_cases h : 4 * min (n + 1) 31 ≤ (y 1 : Nat)
    · exact rowsAfter_in (V m c main_arg4) (cur ⟨n + 1, hn⟩) y _ ⟨h, hy⟩
    · refine (rowsAfter_out _ _ y _ fun h' => h h'.1).trans ?_
      exact ih (Nat.lt_of_succ_lt hn) (by omega)

theorem emb6 (t : Fin cfg0.N) (j : S2048x128.Idx) : ((cfg0.win 6).blk t).view.emb j = (j : S2048x128.Idx) := by
  obtain ⟨e0, e1⟩ := idx6 t
  refine idx_ext ?_ ?_
  · show win0_6.index t (0 : Fin 2) * 2048 + 1 * (j 0).val = (j 0).val; omega
  · show win0_6.index t (1 : Fin 2) * 128 + 1 * (j 1).val = (j 1).val; omega

/-- What the last point writes back through window 6 is the array of row scales. -/
theorem back6 (t : Fin cfg0.N) (hf : (cfg0.win 6).flush t = true) : (dats m 0 c).flushed 6 t = ((cfg0.win 6).blk t).view.read (Elt Ideal) (W6 m c) := by
  show (cfg0.win 6).cut (grid0.coords t) ((dats m 0 c).after 6 t) = _
  rw [after0_6]
  funext j
  have ht := flush6 t hf
  have hj : (j 1).val < 128 := (j 1).isLt
  show (outsAt0 m c t.val t.isLt).2.1 j = W6 m c (((cfg0.win 6).blk t).view.emb j)
  rw [emb6 t j]
  exact after6 m c t.val t.isLt j (by rw [ht]; show (j 1).val < _; omega)

/-- Every entry of the row scales lies in the block that is written back. -/
theorem covered6 (i : S2048x128.Idx) : ∃ t : Fin cfg0.N, (cfg0.win 6).flush t = true ∧ i ∈ ((cfg0.win 6).blk t).view.set := by
  have hN : 32 < cfg0.N := lt_of_lt_of_eq (by decide) (show cfg0.N = 33 from N_0).symm
  have h := ((cfg0.win 6).blk ⟨32, hN⟩).view.emb_mem_set i
  rw [emb6 ⟨32, hN⟩ i] at h
  exact ⟨⟨32, hN⟩, flushed_last6 _ rfl, h⟩

/-- The row scales after the run. -/
theorem final6 : (dats m 0 c).arrAt 6 cfg0.N = W6 m c :=
  (dats m 0 c).arrAt_eq_of_cover 6 (W6 m c) (fun t hf => back6 m c t hf) covered6

end Cert.QuantiseIdeal.Value
end
-- ==== Proof.DxnPieces.lean ====
module

public import proofs.«01_k».proof.Proof.Pieces
public import Idealize.ShloMosaic.Lib.Pointwise

@[expose] public section
set_option maxRecDepth 16384
noncomputable section

/-! The gradient of the normalised input: a later point adds, into each tile of 512 columns, the product of the dequantised
gradient of the previous point's columns with the dequantised weight. -/
namespace Cert.QuantiseIdeal.Value
open Cert.QuantiseIdeal Cert.QuantiseIdeal.Gen Cert.Spec Idealize.ShloMosaic Idealize.ShloMosaic.TcCoe Idealize.SL.Sem

/-- The column of the weight's scales for group `o` of the block before block `k`. -/
def wcol (k : Nat) (o : BitVec 32) : Nat :=
  BitVec.toNat (Scalar.indexCast (Scalar.addi (Scalar.muli (Scalar.subi (BitVec.ofNat 32 k) 1#32) 4#32) o))

theorem wcol_eq : ∀ (k : Fin 33) (o : Fin 4), 1 ≤ (k : Nat) → wcol (k : Nat) (BitVec.ofNat 32 (o : Nat)) = 4 * ((k : Nat) - 1) + o := by
  decide +kernel

/-- An entry of the weight's scales. -/
def wScale (x0 : Vec Ideal S32x128 .f32) (r c : Nat) : Elt Ideal .f32 :=
  if h : r < 32 ∧ c < 128 then x0 (ix2 ⟨r, h.1⟩ ⟨c, h.2⟩) else (0 : EReal)
/-- A block of 128 rows and columns of the weight's codes. -/
def wCodes (x3 : Vec Ideal S4096x512 .fp8e4m3) (R C : Nat) : Vec Ideal S128x128 .fp8e4m3 := fun j =>
  if h : R + (j 0).val < 4096 ∧ C + (j 1).val < 512 then x3 (ix2 ⟨R + (j 0).val, h.1⟩ ⟨C + (j 1).val, h.2⟩) else (0 : EReal)

theorem wScale_ld (x0 : Vec Ideal S32x128 .f32) (r c : Nat) (inb : ∀ a, ![r, c] a + ![1, 1] a ≤ S32x128.size a) (z : (Rect.unit (s := S32x128) ![r, c] ![1, 1] inb).toLoadRect.shape.Idx) :
    View.ld x0 (Rect.unit (s := S32x128) ![r, c] ![1, 1] inb) z = wScale x0 r c := by
  have h0 : r + 1 ≤ 32 := inb 0
  have h1 : c + 1 ≤ 128 := inb 1
  have z0 : ((z : (⟨2, ![1, 1]⟩ : Shape).Idx) 0).val < 1 := (z 0).isLt
  have z1 : ((z : (⟨2, ![1, 1]⟩ : Shape).Idx) 1).val < 1 := (z 1).isLt
  refine Eq.trans ?_ (dif_pos ⟨by omega, by omega⟩).symm
  refine congrArg x0 (idx_ext ?_ ?_)
  · show r + 1 * ((z : (⟨2, ![1, 1]⟩ : Shape).Idx) 0).val = r; omega
  · show c + 1 * ((z : (⟨2, ![1, 1]⟩ : Shape).Idx) 1).val = c; omega

theorem wCodes_ld (x3 : Vec Ideal S4096x512 .fp8e4m3) (R C : Nat) (inb : ∀ a, ![R, C] a + ![128, 128] a ≤ S4096x512.size a) :
    View.ld x3 (Rect.unit (s := S4096x512) ![R, C] ![128, 128] inb) = wCodes x3 R C := by
  have h0 : R + 128 ≤ 4096 := inb 0
  have h1 : C + 128 ≤ 512 := inb 1
  funext j
  have j0 : (j 0).val < 128 := (j 0).isLt
  have j1 : (j 1).val < 128 := (j 1).isLt
  refine Eq.trans ?_ (dif_pos ⟨by omega, by omega⟩).symm
  refine congrArg x3 (idx_ext ?_ ?_)
  · show R + 1 * (j 0).val = R + (j 0).val; omega
  · show C + 1 * (j 1).val = C + (j 1).val; omega

/-- A block of the weight, dequantised. -/
def wTile (s : Elt Ideal .f32) (w : Vec Ideal S128x128 .fp8e4m3) : FVec Ideal S128x128 .bf16 :=
  mulf (extf .bf16 w bitsLt_fp8e4m3_bf16) (truncf .bf16 (broadcast S128x128 s) bitsLt_bf16_f32)
theorem wTile_apply (s : Elt Ideal .f32) (w : Vec Ideal S128x128 .fp8e4m3) (p q : Fin 128) : wTile s w (ix2 p q) = w (ix2 p q) * s := by
  unfold wTile
  pointwise

/-- Four blocks beside each other. -/
def wRow (f : Fin 4 → FVec Ideal S128x128 .bf16) : FVec Ideal S128x512 .bf16 :=
  concatenate S128x512 1 [⟨S128x128, f 0⟩, ⟨S128x128, f 1⟩, ⟨S128x128, f 2⟩, ⟨S128x128, f 3⟩] concatenates_S128x128_S128x128_S128x128_S128x128_S128x512_d1
theorem wRow_apply (f : Fin 4 → FVec Ideal S128x128 .bf16) (p : Fin 128) (q : Fin 512) :
    wRow f (ix2 p q) = f ⟨(q : Nat) / 128, by omega⟩ (ix2 p ⟨(q : Nat) % 128, by omega⟩) :=
  concatenate_ofFn_apply (t := S128x512) (s₁ := S128x128) 1 f concatenates_S128x128_S128x128_S128x128_S128x128_S128x512_d1 rfl 128 rfl (ix2 p q)
    ⟨(q : Nat) / 128, by omega⟩ rfl (ix2 p ⟨(q : Nat) % 128, by omega⟩) rfl
    (fun b hb => by
      match b with
      | ⟨0, _⟩ => rfl
      | ⟨1, _⟩ => exact absurd rfl hb)

/-- Four rows of blocks below each other. -/
def wBlk (g : Fin 4 → FVec Ideal S128x512 .bf16) : FVec Ideal S512x512 .bf16 :=
  concatenate S512x512 0 [⟨S128x512, g 0⟩, ⟨S128x512, g 1⟩, ⟨S128x512, g 2⟩, ⟨S128x512, g 3⟩] concatenates_S128x512_S128x512_S128x512_S128x512_S512x512_d0
theorem wBlk_apply (g : Fin 4 → FVec Ideal S128x512 .bf16) (p q : Fin 512) :
    wBlk g (ix2 p q) = g ⟨(p : Nat) / 128, by omega⟩ (ix2 ⟨(p : Nat) % 128, by omega⟩ q) :=
  concatenate_ofFn_apply (t := S512x512) (s₁ := S128x512) 0 g concatenates_S128x512_S128x512_S128x512_S128x512_S512x512_d0 rfl 128 rfl (ix2 p q)
    ⟨(p : Nat) / 128, by omega⟩ rfl (ix2 ⟨(p : Nat) % 128, by omega⟩ q) rfl
    (fun b hb => by
      match b with
      | ⟨0, _⟩ => exact absurd rfl hb
      | ⟨1, _⟩ => rfl)

/-- Four blocks of the weight beside each other, dequantised: rows `R … R + 127`, whose scales stand in row `r`. -/
def wRows (x0 : Vec Ideal S32x128 .f32) (x3 : Vec Ideal S4096x512 .fp8e4m3) (k r R : Nat) : FVec Ideal S128x512 .bf16 :=
  wRow fun b => wTile (wScale x0 r (wcol k (BitVec.ofNat 32 (b : Nat)))) (wCodes x3 R (128 * b))
/-- The tile of the weight that feeds columns `C … C + 511`, dequantised. -/
def wTiles (x0 : Vec Ideal S32x128 .f32) (x3 : Vec Ideal S4096x512 .fp8e4m3) (k C : Nat) : FVec Ideal S512x512 .bf16 :=
  wBlk fun a => wRows x0 x3 k (C / 128 + a) (C + 128 * a)

theorem wRows_of {x0 : Vec Ideal S32x128 .f32} {x3 : Vec Ideal S4096x512 .fp8e4m3} {k r R : Nat} {s0 s1 s2 s3 : Elt Ideal .f32}
    (e0 : s0 = wScale x0 r (wcol k 0#32)) (e1 : s1 = wScale x0 r (wcol k 1#32)) (e2 : s2 = wScale x0 r (wcol k 2#32)) (e3 : s3 = wScale x0 r (wcol k 3#32)) :
    concatenate S128x512 1 [⟨S128x128, wTile s0 (wCodes x3 R 0)⟩, ⟨S128x128, wTile s1 (wCodes x3 R 128)⟩, ⟨S128x128, wTile s2 (wCodes x3 R 256)⟩,
      ⟨S128x128, wTile s3 (wCodes x3 R 384)⟩] concatenates_S128x128_S128x128_S128x128_S128x128_S128x512_d1 = wRows x0 x3 k r R := by
  subst e0 e1 e2 e3
  rfl

theorem wTiles_of {x0 : Vec Ideal S32x128 .f32} {x3 : Vec Ideal S4096x512 .fp8e4m3} {k C : Nat} {A0 A1 A2 A3 : FVec Ideal S128x512 .bf16}
    (e0 : A0 = wRows x0 x3 k (C / 128) C) (e1 : A1 = wRows x0 x3 k (C / 128 + 1) (C + 128)) (e2 : A2 = wRows x0 x3 k (C / 128 + 2) (C + 256))
    (e3 : A3 = wRows x0 x3 k (C / 128 + 3) (C + 384)) :
    concatenate S512x512 0 [⟨S128x512, A0⟩, ⟨S128x512, A1⟩, ⟨S128x512, A2⟩, ⟨S128x512, A3⟩] concatenates_S128x512_S128x512_S128x512_S128x512_S512x512_d0
      = wTiles x0 x3 k C := by
  subst e0 e1 e2 e3
  rfl

theorem wTiles_apply (x0 : Vec Ideal S32x128 .f32) (x3 : Vec Ideal S4096x512 .fp8e4m3) (k : Fin 33) (hk : 1 ≤ (k : Nat)) (C : Nat) (hC : 512 ∣ C)
    (p q : Fin 512) (z : Fin 4096) (hz : (z : Nat) = C + p) :
    wTiles x0 x3 (k : Nat) C (ix2 p q) = x3 (ix2 z q) * x0 (ix2 ⟨(z : Nat) / 128, by omega⟩ ⟨4 * ((k : Nat) - 1) + (q : Nat) / 128, by omega⟩) := by
  unfold wTiles
  rw [wBlk_apply]
  unfold wRows
  rw [wRow_apply, wTile_apply, wcol_eq k _ hk]
  have hp := p.isLt
  have hq := q.isLt
  have hk' := k.isLt
  obtain ⟨n, rfl⟩ := hC
  refine congrArg₂ (fun a b : EReal => a * b) ?_ ?_
  · refine (dif_pos (show 512 * n + 128 * ((p : Nat) / 128) + (p : Nat) % 128 < 4096 ∧ 128 * ((q : Nat) / 128) + (q : Nat) % 128 < 512 by omega)).trans ?_
    refine congrArg x3 (idx_ext ?_ ?_)
    · show 512 * n + 128 * ((p : Nat) / 128) + (p : Nat) % 128 = z; omega
    · show 128 * ((q : Nat) / 128) + (q : Nat) % 128 = q; omega
  · refine (dif_pos (show 512 * n / 128 + (p : Nat) / 128 < 32 ∧ 4 * ((k : Nat) - 1) + (q : Nat) / 128 < 128 by omega)).trans ?_
    refine congrArg x0 (idx_ext ?_ ?_)
    · show 512 * n / 128 + (p : Nat) / 128 = (z : Nat) / 128; omega
    · rfl

/-- What a later point adds to an entry of the gradient of the normalised input. -/
def dxnStep (x0 : Mat 32 128) (x3 : Mat 4096 512) (S : Mat 2048 512) (k : Fin 33) (hk : 1 ≤ (k : Nat)) (y : (⟨2, ![2048, 4096]⟩ : Shape).Idx) : EReal :=
  ∑ q : Fin 512, S (ix2 (y 0) q) * (x3 (ix2 (y 1) q) * x0 (ix2 ⟨(y 1 : Nat) / 128, by have : (y 1).val < 4096 := (y 1).isLt; omega⟩ ⟨4 * ((k : Nat) - 1) + (q : Nat) / 128, by omega⟩))

theorem tile_form (W : FVec Ideal S512x512 .bf16) (old : Vec Ideal S2048x512 .f32) (S : Vec Ideal S2048x512 .bf16) (p : Fin 2048) (q : Fin 512) :
    addf (F := Ideal) (shapeCast S2048x512 old shapeCasts_S2048x512_S2048x512)
      (matmul (F := Ideal) (φ₁ := .bf16) dot_S2048x512_S512x512_S2048x512_1_1_0_0_n_n none S W (constant S2048x512 .f32 0x00000000#32)) (ix2 p q)
      = old (ix2 p q) + ∑ l : Fin 512, S (ix2 p l) * W (ix2 q l) := by
  pointwise

/-- A point first copies the gradient the previous point left, then reads it back. -/
theorem copied (v : View sig .tc .vmem S2048x512 .bf16) (S : Vec Ideal S2048x512 .bf16) (inb inb' inb'' : ∀ a, (![0, 0] : Fin 2 → Nat) a + S2048x512.size a ≤ S2048x512.size a) :
    v.readCov [(⟨Rect.unit (s := S2048x512) ![0, 0] S2048x512.size inb,
      shapeCast S2048x512 (View.ld S (Rect.unit (s := S2048x512) ![0, 0] S2048x512.size inb')) shapeCasts_S2048x512_S2048x512⟩ : View.Piece (Elt Ideal) S2048x512 .bf16)]
      (Rect.unit (s := S2048x512) ![0, 0] S2048x512.size inb'').toLoadRect = S := by
  have hz : (![0, 0] : Fin 2 → Nat) = fun _ => 0 := by funext a; fin_cases a <;> rfl
  refine (View.readCov_unit_zero v hz inb _).trans ?_
  refine (shapeCast_self (s := S2048x512) (View.ld S (Rect.unit (s := S2048x512) ![0, 0] S2048x512.size inb')) _).trans ?_
  exact View.ld_unit_zero hz inb' S

theorem dxn_ld (x0 : Vec Ideal S32x128 .f32) (x3 : Vec Ideal S4096x512 .fp8e4m3) (xo12 : Vec Ideal S2048x4096 .f32) (S : Vec Ideal S2048x512 .bf16)
    (C : Nat) (hC : 512 ∣ C) (k : Fin 33) (hk : 1 ≤ (k : Nat)) (inb : ∀ a, ![0, C] a + ![2048, 512] a ≤ S2048x4096.size a)
    (y : S2048x4096.Idx) (x : S2048x512.Idx) (h0 : (y 0 : Nat) = 0 + x 0) (h1 : (y 1 : Nat) = C + x 1)
    (W : FVec Ideal S512x512 .bf16) (hW : W = wTiles x0 x3 (k : Nat) C)
    (T : FVec Ideal S2048x512 .bf16) (hT : T = S) :
    addf (F := Ideal) (shapeCast S2048x512 (View.ld xo12 (Rect.unit (s := S2048x4096) ![0, C] ![2048, 512] inb)) shapeCasts_S2048x512_S2048x512)
      (matmul (F := Ideal) (φ₁ := .bf16) dot_S2048x512_S512x512_S2048x512_1_1_0_0_n_n none T W (constant S2048x512 .f32 0x00000000#32)) x
      = xo12 y + dxnStep x0 x3 S k hk y := by
  obtain ⟨p, q, rfl⟩ : ∃ (p : Fin 2048) (q : Fin 512), x = ix2 p q := ⟨x 0, x 1, idx_ext rfl rfl⟩
  have h0' : (y 0 : Nat) = 0 + p := h0
  have h1' : (y 1 : Nat) = C + q := h1
  rw [tile_form, hW, hT]
  refine congrArg₂ (fun a b : EReal => a + b) (congrArg xo12 (idx_ext ?_ ?_)) (Finset.sum_congr rfl fun l _ => ?_)
  · show 0 + 1 * (p : Nat) = y 0; omega
  · show C + 1 * (q : Nat) = y 1; omega
  refine congrArg₂ (fun a b : EReal => a * b) (congrArg (fun z => S (ix2 z l)) (Fin.ext (by show (p : Nat) = y 0; omega))) ?_
  exact wTiles_apply x0 x3 k hk C hC q l (y 1) h1'

end Cert.QuantiseIdeal.Value
end
-- ==== Proof.QuantiseDxnA.lean ====
module

public import proofs.«01_k».proof.Proof.DxnPieces
public import proofs.«01_k».proof.Proof.Gen.QuantiseIdeal.Frame.RunA
public import Idealize.ShloMosaic.Lib.Pipeline.ValueKit

@[expose] public section
set_option maxRecDepth 400000
noncomputable section

/-! The gradient of the normalised input: the first point clears it. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- The first point clears the gradient of the normalised input. -/
theorem out12_A (hc0 : cond0_0 i) (hc1 : ¬cond0_1 i) (y : S2048x4096.Idx) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.2.2.2.2.1 y = 0 := by
  unfold kernelRun0_A
  dsimp only
  sl_unfold_words
  canon_tiles x h
  unfold_payloads
  pointwise
  try exact zero_word

end Cert.QuantiseIdeal.Value
end
-- ==== Proof.QuantiseDxnB.lean ====
module

public import proofs.«01_k».proof.Proof.DxnPieces
public import proofs.«01_k».proof.Proof.QuantiseIdealRun
public import Idealize.ShloMosaic.Lib.Pipeline.ValueKit

@[expose] public section
set_option maxRecDepth 400000
noncomputable section

/-! The gradient of the normalised input: what a later point leaves in it. -/
namespace Cert.QuantiseIdeal.Value
open Cert.QuantiseIdeal Cert.QuantiseIdeal.Gen Cert.Spec Idealize.ShloMosaic Idealize.ShloMosaic.TcCoe Idealize.SL.Sem
variable (c : Dev nD) (i : grid0.Coords)
  (arg1 : Memref sig .tc .smem S32x128 .f32) (harg1 : arg1.IsWhole)
  (arg2 : Memref sig .tc .vmem S128x4096 .bf16) (harg2 : arg2.IsWhole)
  (arg3 : Memref sig .tc .vmem S1x4096 .f32) (harg3 : arg3.IsWhole)
  (arg4 : Memref sig .tc .vmem S4096x512 .fp8e4m3) (harg4 : arg4.IsWhole)
  (arg5 : Memref sig .tc .vmem S2048x512 .bf16) (harg5 : arg5.IsWhole)
  (arg6 : Memref sig .tc .vmem S2048x512 .fp8e5m2) (harg6 : arg6.IsWhole)
  (arg7 : Memref sig .tc .vmem S2048x128 .f32) (harg7 : arg7.IsWhole)
  (arg8 : Memref sig .tc .vmem S2048x512 .fp8e5m2) (harg8 : arg8.IsWhole)
  (arg9 : Memref sig .tc .vmem S16x512 .f32) (harg9 : arg9.IsWhole)
  (arg10 : Memref sig .tc .vmem S128x2048 .fp8e4m3) (harg10 : arg10.IsWhole)
  (arg11 : Memref sig .tc .vmem S1x1x2048 .f32) (harg11 : arg11.IsWhole)
  (arg12 : Memref sig .tc .vmem S2048x128 .bf16) (harg12 : arg12.IsWhole)
  (arg13 : Memref sig .tc .vmem S2048x4096 .f32) (harg13 : arg13.IsWhole)
  (arg14 : Memref sig .tc .vmem S2048x512 .bf16) (harg14 : arg14.IsWhole)
  (arg15 : Memref sig .tc .vmem S2048x512 .bf16) (harg15 : arg15.IsWhole)
  (x0 : Vec Ideal S32x128 .f32) (x1 : Vec Ideal S128x4096 .bf16) (x2 : Vec Ideal S1x4096 .f32) (x3 : Vec Ideal S4096x512 .fp8e4m3)
  (x4 : Vec Ideal S2048x512 .bf16) (xo6 : Vec Ideal S2048x128 .f32) (xo12 : Vec Ideal S2048x4096 .f32) (xs0 : Vec Ideal S2048x512 .bf16)

set_option maxHeartbeats 4000000 in
/-- A later point adds to the gradient of the normalised input the product of its previous block. -/
theorem out12_B (hc0 : ¬cond0_0 i) (hc1 : cond0_1 i) (hk : 1 ≤ (i 0 : Nat)) (y : S2048x4096.Idx) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xo6 xo12 xs0).2.2.2.2.2.2.2.1 y = xo12 y + dxnStep x0 x3 xs0 (i 0) hk y := by
  have e := wScale_ld x0
  unfold kernelRun0_B
  dsimp only
  sl_unfold_words
  canon_tiles x h
  all_goals simp only [View.readAt_eq_ld, harg1.read_unread, harg4.read_unread, harg13.read_unread, harg14.read_unread, wCodes_ld]
  all_goals refine dxn_ld x0 x3 xo12 xs0 _ ?_ (i 0) hk _ y x ?_ ?_ _ ?_ _ (copied _ xs0 _ _ _)
  all_goals first
    | decide
    | omega
    | exact wTiles_of (wRows_of (e _ _ _ _) (e _ _ _ _) (e _ _ _ _) (e _ _ _ _)) (wRows_of (e _ _ _ _) (e _ _ _ _) (e _ _ _ _) (e _ _ _ _))
        (wRows_of (e _ _ _ _) (e _ _ _ _) (e _ _ _ _) (e _ _ _ _)) (wRows_of (e _ _ _ _) (e _ _ _ _) (e _ _ _ _) (e _ _ _ _))

end Cert.QuantiseIdeal.Value
end
-- ==== Proof.QuantiseDxnArray.lean ====
module

public import proofs.«01_k».proof.Proof.QuantiseArrays
public import proofs.«01_k».proof.Proof.QuantiseDxnA
public import proofs.«01_k».proof.Proof.QuantiseDxnB

@[expose] public section
set_option maxRecDepth 16384
noncomputable section

/-! The gradient of the normalised input stays in place over the whole grid; every point after the first adds the product over
512 columns of the gradient. -/
namespace Cert.QuantiseIdeal.Value
open Cert.QuantiseIdeal Cert.QuantiseIdeal.Gen Cert.Spec Idealize.ShloMosaic Idealize.ShloMosaic.TcCoe Idealize.SL.Sem

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)
theorem idx3 : ∀ t : Fin cfg0.N, win0_3.index t (0 : Fin 2) = 0 ∧ win0_3.index t (1 : Fin 2) = t.val - 1 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem flush12 : ∀ t : Fin cfg0.N, (cfg0.win 12).flush t = true → t.val = 32 :=
  (by decide +kernel : ∀ t : Fin grid0.N, win0_12.flush t = true → t.val = 32)
theorem flushed_last12 : ∀ t : Fin cfg0.N, t.val = 32 → (cfg0.win 12).flush t = true :=
  (by decide +kernel : ∀ t : Fin grid0.N, t.val = 32 → win0_12.flush t = true)

/-- Window 0 stages the weight's scales. -/
theorem iblk0_eq (t : Fin cfg0.N) : iblk m c 0 t = V m c main_arg0 := by
  obtain ⟨e0, e1⟩ := idx0 t
  funext j; refine congrArg (V m c main_arg0) (idx_ext ?_ ?_)
  · show win0_0.index t (0 : Fin 2) * 32 + 1 * (j 0).val = (j 0).val; omega
  · show win0_0.index t (1 : Fin 2) * 128 + 1 * (j 1).val = (j 1).val; omega

/-- Window 3 stages the weight's columns that go with the previous point's columns of the gradient. -/
theorem iblk3_eq (t : Fin cfg0.N) (b : Fin 32) (hb : t.val = b + 1) : iblk m c 3 t = colBlk (V m c main_arg3) b := by
  obtain ⟨e0, e1⟩ := idx3 t
  funext j; refine congrArg (V m c main_arg3) (idx_ext ?_ ?_)
  · show win0_3.index t (0 : Fin 2) * 4096 + 1 * (j 0).val = (j 0).val; omega
  · show win0_3.index t (1 : Fin 2) * 512 + 1 * (j 1).val = 512 * (b : Nat) + (j 1).val; omega

/-- Every point leaves in the scratch the dequantised gradient of its columns. -/
theorem pointS (t : Fin cfg0.N) (y : S2048x512.Idx) : (outsAt0 m c t.val t.isLt).2.2.2.2.2.2.2.2 y = dyRowDeq (iblk m c 4 t) y := by
  by_cases h0 : t.val % 33 = 0
  · rw [outsAt0_A m c t h0 (earlier t h0)]
    dsimp only
    unfold sout0_A_0
    rw [View.read_writes_eq_canon _ _ _ (scover0_A_0 c _ _ _ _ _ _ _ _ _ _ _ _ _ _ _ _ _ _ _ _ _ _ _ _ _ _ _ _ _ _ _ _ _ _ _ _ _ _)]
    exact outS_A c _ _ _ _ _ _ _ _ _ _ _ _ _ _ _ _ _ _ _ _ _ _ _ _ _ _ _ _ _ _ _ _ _ _ _ _ _ _ y
  · rw [outsAt0_B m c t h0 (later t h0)]
    dsimp only
    unfold sout0_B_0
    rw [View.read_writes_eq_canon _ _ _ (scover0_B_0 c _ _ _ _ _ _ _ _ _ _ _ _ _ _ _ _ _ _ _ _ _ _ _ _ _ _ _ _ _ _ _ _ _ _ _ _ _ _ _ _ _)]
    exact outS_B c _ _ _ _ _ _ _ _ _ _ _ _ _ _ _ _ _ _ _ _ _ _ _ _ _ _ _ _ _ _ _ _ _ _ _ _ _ _ _ _ _ y

/-- The first point leaves zero in window 12. -/
theorem point12_A (t : Fin cfg0.N) (h0 : t.val % 33 = 0) (y : S2048x4096.Idx) : (outsAt0 m c t.val t.isLt).2.2.2.2.2.2.2.1 y = 0 := by
  rw [outsAt0_A m c t h0 (earlier t h0)]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _)]
  exact out12_A c _ _ _ _ _ _ _ _ _ _ _ _ _ _ _ _ _ _ _ _ _ _ _ _ _ _ _ _ _ _ _ _ _ _ _ _ _ _ y

/-- A later point adds its product to window 12. -/
theorem point12_B (t : Fin cfg0.N) (h0 : ¬t.val % 33 = 0) (hk : 1 ≤ (grid0.coords t 0 : Nat)) (y : S2048x4096.Idx) :
    (outsAt0 m c t.val t.isLt).2.2.2.2.2.2.2.1 y = (outsAt0 m c (t.val - 1) (Nat.lt_of_le_of_lt (Nat.sub_le _ _) t.isLt)).2.2.2.2.2.2.2.1 y
      + dxnStep (iblk m c 0 t) (iblk m c 3 t) ((outsAt0 m c (t.val - 1) (Nat.lt_of_le_of_lt (Nat.sub_le _ _) t.isLt)).2.2.2.2.2.2.2.2) (grid0.coords t 0) hk y := by
  rw [outsAt0_B m c t h0 (later t h0)]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _)]
  exact out12_B c _ _ _ _ _ _ _ _ _ _ _ _ _ _ _ _ _ _ _ _ _ _ _ _ _ _ _ _ _ _ _ _ _ _ _ _ _ _ _ _ _ hk y

/-- The part of an entry of the gradient that comes from block `b` of 512 columns. -/
def dxnPart (S : Mat 32 128) (W : Mat 4096 16384) (X : Mat 2048 16384) (p : Fin 2048) (k : Fin 4096) (b : Fin 32) : EReal :=
  ∑ q : Fin 512, rowCodeAt X p ⟨512 * (b : Nat) + q, by omega⟩ * rowScaleAt X p ⟨512 * (b : Nat) + q, by omega⟩ *
    (W (ix2 k ⟨512 * (b : Nat) + q, by omega⟩) * S (ix2 (inGrp (n := 32) rfl k) (inGrp (n := 128) rfl ⟨512 * (b : Nat) + q, by omega⟩)))

/-- The parts add up to the entry. -/
theorem dxn_parts (S : Mat 32 128) (W : Mat 4096 16384) (X : Mat 2048 16384) (p : Fin 2048) (k : Fin 4096) :
    ∑ b : Fin 32, dxnPart S W X p k b = dxnAt S W X p k := by
  unfold dxnPart dxnAt
  rw [Finset.sum_comm]
  exact (sum_chunks (a := 32) (b := 512) rfl (fun q : Fin 16384 => rowCodeAt X p q * rowScaleAt X p q *
    (W (ix2 k q) * S (ix2 (inGrp (n := 32) rfl k) (inGrp (n := 128) rfl q))))).symm

/-- The product that the point after block `b` adds is the part of block `b`. -/
theorem step_part (S : Mat 32 128) (W : Mat 4096 16384) (X : Mat 2048 16384) (D : Mat 2048 512) (b : Fin 32) (k : Fin 33) (hk : 1 ≤ (k : Nat))
    (hb : (k : Nat) = b + 1) (hD : ∀ y, D y = dyRowDeq (colBlk X b) y) (p : Fin 2048) (q : Fin 4096) :
    dxnStep S (colBlk W b) D k hk (ix2 p q) = dxnPart S W X p q b := by
  refine Finset.sum_congr rfl fun l _ => ?_
  refine congrArg₂ (fun u v : EReal => u * v) ((hD (ix2 p l)).trans ?_) (congrArg₂ (fun u v : EReal => u * v) rfl (congrArg S (idx_ext rfl ?_)))
  · refine congrArg₂ (fun u v : EReal => u * v) (dyRowCode_blk X b (ix2 p l)) (congrArg scaleOf (rowA_blk X 0x37924925#32 b p l))
  · show 4 * ((k : Nat) - 1) + (l : Nat) / 128 = (512 * (b : Nat) + l) / 128
    omega

/-- The part of block `b`, zero beyond the last block. -/
def partOf (p : Fin 2048) (q : Fin 4096) (b : Nat) : EReal :=
  if h : b < 32 then dxnPart (V m c main_arg0) (V m c main_arg3) (V m c main_arg4) p q ⟨b, h⟩ else 0

/-- After a point window 12 holds the parts of the blocks before it. -/
theorem after12 (n : Nat) (hn : n < cfg0.N) (p : Fin 2048) (q : Fin 4096) :
    (outsAt0 m c n hn).2.2.2.2.2.2.2.1 (ix2 p q) = ∑ b ∈ Finset.range n, partOf m c p q b := by
  induction n with
  | zero => exact (point12_A m c ⟨0, hn⟩ rfl (ix2 p q)).trans (Finset.sum_range_zero _).symm
  | succ n ih =>
    have hN : n + 1 < 33 := lt_of_lt_of_eq hn (show cfg0.N = 33 from N_0)
    have hco := coord_eq ⟨n + 1, hn⟩
    have hk : 1 ≤ (grid0.coords ⟨n + 1, hn⟩ 0 : Nat) := by rw [hco]; show 1 ≤ n + 1; omega
    have e := point12_B m c ⟨n + 1, hn⟩ (by show ¬(n + 1) % 33 = 0; omega) hk (ix2 p q)
    have hn' : n < cfg0.N := Nat.lt_of_succ_lt hn
    have hc : cur ⟨n, hn'⟩ = ⟨n, by omega⟩ := Fin.ext (by show min n 31 = n; omega)
    rw [iblk0_eq, iblk3_eq m c ⟨n + 1, hn⟩ ⟨n, by omega⟩ rfl] at e
    rw [Finset.sum_range_succ, ← ih hn']
    refine e.trans (congrArg₂ (fun u v : EReal => u + v) rfl ?_)
    refine (step_part (V m c main_arg0) (V m c main_arg3) (V m c main_arg4) _ ⟨n, by omega⟩ (grid0.coords ⟨n + 1, hn⟩ 0) hk hco (fun y => ?_) p q).trans ?_
    · refine (pointS m c ⟨n, hn'⟩ y).trans ?_
      rw [iblk4_eq, hc]
    · unfold partOf
      rw [dif_pos (show n < 32 by omega)]

def W12 : S2048x4096.Idx → EReal := fun y => dxnAt (V m c main_arg0) (V m c main_arg3) (V m c main_arg4) (y 0) (y 1)

theorem last12 (n : Nat) (hn : n < cfg0.N) (h32 : n = 32) (y : S2048x4096.Idx) : (outsAt0 m c n hn).2.2.2.2.2.2.2.1 y = W12 m c y := by
  subst h32
  obtain ⟨p, q, rfl⟩ : ∃ (p : Fin 2048) (q : Fin 4096), y = ix2 p q := ⟨y 0, y 1, idx_ext rfl rfl⟩
  refine (after12 m c 32 hn p q).trans ((Finset.sum_range _).trans ?_)
  refine Eq.trans (Finset.sum_congr rfl fun b _ => ?_) (dxn_parts (V m c main_arg0) (V m c main_arg3) (V m c main_arg4) p q)
  exact dif_pos b.isLt

theorem emb12 (t : Fin cfg0.N) (j : S2048x4096.Idx) : ((cfg0.win 12).blk t).view.emb j = (j : S2048x4096.Idx) := by
  obtain ⟨e0, e1⟩ := idx12 t
  refine idx_ext ?_ ?_
  · show win0_12.index t (0 : Fin 2) * 2048 + 1 * (j 0).val = (j 0).val; omega
  · show win0_12.index t (1 : Fin 2) * 4096 + 1 * (j 1).val = (j 1).val; omega

/-- What the last point writes back through window 12 is the gradient of the normalised input. -/
theorem back12 (t : Fin cfg0.N) (hf : (cfg0.win 12).flush t = true) : (dats m 0 c).flushed 12 t = ((cfg0.win 12).blk t).view.read (Elt Ideal) (W12 m c) := by
  show (cfg0.win 12).cut (grid0.coords t) ((dats m 0 c).after 12 t) = _
  rw [after0_12, show (outsAt0 m c t.val t.isLt).2.2.2.2.2.2.2.1 = W12 m c from funext (last12 m c t.val t.isLt (flush12 t hf))]
  generalize W12 m c = w
  funext j
  exact congrArg w (emb12 t j).symm

/-- Every entry of the gradient lies in the block that is written back. -/
theorem covered12 (i : S2048x4096.Idx) : ∃ t : Fin cfg0.N, (cfg0.win 12).flush t = true ∧ i ∈ ((cfg0.win 12).blk t).view.set := by
  have hN : 32 < cfg0.N := lt_of_lt_of_eq (by decide) (show cfg0.N = 33 from N_0).symm
  have h := ((cfg0.win 12).blk ⟨32, hN⟩).view.emb_mem_set i
  rw [emb12 ⟨32, hN⟩ i] at h
  exact ⟨⟨32, hN⟩, flushed_last12 _ rfl, h⟩

/-- The gradient of the normalised input after the run. -/
theorem final12 : (dats m 0 c).arrAt 12 cfg0.N = W12 m c :=
  (dats m 0 c).arrAt_eq_of_cover 12 (W12 m c) (fun t hf => back12 m c t hf) covered12

end Cert.QuantiseIdeal.Value
end
-- ==== Proof.QuantiseReference.lean ====
module

public import proofs.«01_k».proof.Proof.QuantiseSpec
public import proofs.«01_k».proof.Proof.Gen.QuantiseRefIdeal.Value

@[expose] public section
set_option maxRecDepth 16384
noncomputable section

/-! What the reference of the quantisers leaves in its results, entry by entry. -/
namespace Cert.QuantiseRefIdeal.Value
open Cert.QuantiseRefIdeal Cert.QuantiseRefIdeal.Gen Cert.Spec Cert.QuantiseIdeal.Value Idealize.ShloMosaic Idealize.ShloMosaic.TcCoe Idealize.SL.Sem

variable (a0 : Vec Ideal S32x128 .f32) (a1 : Vec Ideal S2048x4096 .bf16) (a2 : Vec Ideal S1x4096 .f32)
  (a3 : Vec Ideal S4096x16384 .fp8e4m3) (a4 : Vec Ideal S2048x16384 .bf16)
/-- The reductions to the largest, or the least, of a group. -/
theorem red_row (v : FVec Ideal S2048x128x128 .f32) (p : Fin 2048) (q : Fin 128) :
    multiReduction .maximumf [2] S2048x128 v 0xFF800000#32 reduces_S2048x128x128_S2048x128 (.inl rfl) rfl (ix2 p q)
      = Finset.univ.fold max (Ideal.ofBits .f32 0xFF800000#32) fun k : Fin 128 => v (ix3 p q k) := by
  pointwise
theorem red_row2 (v : FVec Ideal S253x2048x128 .f32) (p : Fin 2048) (q : Fin 128) :
    multiReduction .minimumf [0] S2048x128 v 0x7F800000#32 reduces_S253x2048x128_S2048x128 (.inl rfl) rfl (ix2 p q)
      = Finset.univ.fold min (Ideal.ofBits .f32 0x7F800000#32) fun k : Fin 253 => v (ix3 k p q) := by
  pointwise
theorem red_col (v : FVec Ideal S16x128x16384 .f32) (p : Fin 16) (q : Fin 16384) :
    multiReduction .maximumf [1] S16x16384 v 0xFF800000#32 reduces_S16x128x16384_S16x16384 (.inl rfl) rfl (ix2 p q)
      = Finset.univ.fold max (Ideal.ofBits .f32 0xFF800000#32) fun k : Fin 128 => v (ix3 p k q) := by
  pointwise
theorem red_col2 (v : FVec Ideal S253x16x16384 .f32) (p : Fin 16) (q : Fin 16384) :
    multiReduction .minimumf [0] S16x16384 v 0x7F800000#32 reduces_S253x16x16384_S16x16384 (.inl rfl) rfl (ix2 p q)
      = Finset.univ.fold min (Ideal.ofBits .f32 0x7F800000#32) fun k : Fin 253 => v (ix3 k p q) := by
  pointwise
theorem red_x (v : FVec Ideal S16x128x4096 .f32) (p : Fin 16) (q : Fin 4096) :
    multiReduction .maximumf [1] S16x4096 v 0xFF800000#32 reduces_S16x128x4096_S16x4096 (.inl rfl) rfl (ix2 p q)
      = Finset.univ.fold max (Ideal.ofBits .f32 0xFF800000#32) fun k : Fin 128 => v (ix3 p k q) := by
  pointwise
theorem red_x2 (v : FVec Ideal S253x16x4096 .f32) (p : Fin 16) (q : Fin 4096) :
    multiReduction .minimumf [0] S16x4096 v 0x7F800000#32 reduces_S253x16x4096_S16x4096 (.inl rfl) rfl (ix2 p q)
      = Finset.univ.fold min (Ideal.ofBits .f32 0x7F800000#32) fun k : Fin 253 => v (ix3 k p q) := by
  pointwise

/-- A choice, entry by entry. -/
theorem sel {s : Shape} {α : Type} (A : IVec s 1) (B C : s.Idx → α) (i : s.Idx) : select A B C i = Scalar.select (A i) (B i) (C i) := rfl
theorem zero_word : Ideal.ofBits .f32 0x00000000#32 = 0 := by pointwise

/-- The scale, the reciprocal and the clipped quotient as the quantiser states them. -/
theorem rowScale_form (w : FVec Ideal S2048x128 .f32) (p : Fin 2048) (q : Fin 128) :
    select (cmpf .olt w (broadcast S2048x128 (Scalar.ofBits .f32 0x00800000#32 : Ideal .f32)))
      (broadcast S2048x128 (Scalar.ofBits .f32 0x3F800000#32 : Ideal .f32))
      (multiReduction .minimumf [0] S2048x128
        (select (cmpf .ogt (exp2 (subf (sitofp (F := Ideal) .f32 (iota .tc S253x2048x128 32 [0] iota_S253x2048x128_d0_w32)) (broadcast S253x2048x128 (Scalar.ofBits .f32 0x42FA0000#32 : Ideal .f32))))
            (broadcastTo S253x2048x128 (shapeCast S1x2048x128 w shapeCasts_S2048x128_S1x2048x128) broadcasts_S1x2048x128_S253x2048x128))
          (exp2 (subf (sitofp (F := Ideal) .f32 (iota .tc S253x2048x128 32 [0] iota_S253x2048x128_d0_w32)) (broadcast S253x2048x128 (Scalar.ofBits .f32 0x42FA0000#32 : Ideal .f32))))
          (broadcast S253x2048x128 (Scalar.ofBits .f32 0x7F800000#32 : Ideal .f32)))
        0x7F800000#32 reduces_S253x2048x128_S2048x128 (.inl rfl) rfl) (ix2 p q) = scaleOf (w (ix2 p q)) := by
  rw [sel, red_row2]
  pointwise
  rfl
theorem colScale_form (w : FVec Ideal S16x16384 .f32) (p : Fin 16) (q : Fin 16384) :
    select (cmpf .olt w (broadcast S16x16384 (Scalar.ofBits .f32 0x00800000#32 : Ideal .f32)))
      (broadcast S16x16384 (Scalar.ofBits .f32 0x3F800000#32 : Ideal .f32))
      (multiReduction .minimumf [0] S16x16384
        (select (cmpf .ogt (exp2 (subf (sitofp (F := Ideal) .f32 (iota .tc S253x16x16384 32 [0] iota_S253x16x16384_d0_w32)) (broadcast S253x16x16384 (Scalar.ofBits .f32 0x42FA0000#32 : Ideal .f32))))
            (broadcastTo S253x16x16384 (shapeCast S1x16x16384 w shapeCasts_S16x16384_S1x16x16384) broadcasts_S1x16x16384_S253x16x16384))
          (exp2 (subf (sitofp (F := Ideal) .f32 (iota .tc S253x16x16384 32 [0] iota_S253x16x16384_d0_w32)) (broadcast S253x16x16384 (Scalar.ofBits .f32 0x42FA0000#32 : Ideal .f32))))
          (broadcast S253x16x16384 (Scalar.ofBits .f32 0x7F800000#32 : Ideal .f32)))
        0x7F800000#32 reduces_S253x16x16384_S16x16384 (.inl rfl) rfl) (ix2 p q) = scaleOf (w (ix2 p q)) := by
  rw [sel, red_col2]
  pointwise
  rfl
theorem rowInv_form (w u : FVec Ideal S2048x128 .f32) (p : Fin 2048) (q : Fin 128) (h : u (ix2 p q) = scaleOf (w (ix2 p q))) :
    (select (cmpf .olt w (broadcast S2048x128 (Scalar.ofBits .f32 0x7F000000#32 : Ideal .f32)))
      (select (cmpf .olt w (broadcast S2048x128 (Scalar.ofBits .f32 0x7E800000#32 : Ideal .f32)))
        (divf (broadcast S2048x128 (Scalar.ofBits .f32 0x3F800000#32 : Ideal .f32)) u)
        (broadcast S2048x128 (Scalar.ofBits .f32 0x00000000#32 : Ideal .f32)))
      (broadcast S2048x128 (Scalar.ofBits .f32 0xFF800000#32 : Ideal .f32))) (ix2 p q) = invOf (w (ix2 p q)) := by
  pointwise
  rw [h]
  unfold invOf
  rw [zero_word]
theorem colInv_form (w u : FVec Ideal S16x16384 .f32) (p : Fin 16) (q : Fin 16384) (h : u (ix2 p q) = scaleOf (w (ix2 p q))) :
    (select (cmpf .olt w (broadcast S16x16384 (Scalar.ofBits .f32 0x7F000000#32 : Ideal .f32)))
      (select (cmpf .olt w (broadcast S16x16384 (Scalar.ofBits .f32 0x7E800000#32 : Ideal .f32)))
        (divf (broadcast S16x16384 (Scalar.ofBits .f32 0x3F800000#32 : Ideal .f32)) u)
        (broadcast S16x16384 (Scalar.ofBits .f32 0x00000000#32 : Ideal .f32)))
      (broadcast S16x16384 (Scalar.ofBits .f32 0xFF800000#32 : Ideal .f32))) (ix2 p q) = invOf (w (ix2 p q)) := by
  pointwise
  rw [h]
  unfold invOf
  rw [zero_word]
theorem rowClip_form (v : FVec Ideal S2048x128x128 .f32) (z : FVec Ideal S2048x128 .f32) (p : Fin 2048) (q k : Fin 128) :
    (truncf .fp8e5m2 (minimumf (broadcast S2048x128x128 (Scalar.ofBits .f32 0x47600000#32 : Ideal .f32))
      (maximumf (broadcast S2048x128x128 (Scalar.ofBits .f32 0xC7600000#32 : Ideal .f32))
        (mulf v (broadcastTo S2048x128x128 (shapeCast S2048x128x1 z shapeCasts_S2048x128_S2048x128x1) broadcasts_S2048x128x1_S2048x128x128)))) bitsLt_fp8e5m2_f32
      : FVec Ideal S2048x128x128 .fp8e5m2) (ix3 p q k) = clipOf 0xC7600000#32 0x47600000#32 (v (ix3 p q k) * z (ix2 p q)) := by
  pointwise
  rfl
theorem colClip_form (v : FVec Ideal S16x128x16384 .f32) (z : FVec Ideal S16x16384 .f32) (p : Fin 16) (k : Fin 128) (q : Fin 16384) :
    (maximumf (broadcast S16x128x16384 (Scalar.ofBits .f32 0xC7600000#32 : Ideal .f32))
        (mulf v (broadcastTo S16x128x16384 (shapeCast S16x1x16384 z shapeCasts_S16x16384_S16x1x16384) broadcasts_S16x1x16384_S16x128x16384)) : FVec Ideal S16x128x16384 .f32) (ix3 p k q)
      = max (Ideal.ofBits .f32 0xC7600000#32) (v (ix3 p k q) * z (ix2 p q)) := by
  pointwise

/-- What the largest magnitude of a group times the format's factor is. -/
theorem rowMax_eq (p : Fin 2048) (q : Fin 128) :
    k0_pay4 a4 (ix2 p q) = rowA d16384 a4 0x37924925#32 p (first (N := 16384) rfl q) := by
  unfold k0_pay4
  dsimp only
  rw [mulf_apply, red_row]
  unfold k0_pay3 k0_pay2
  pointwise
  refine congrArg (fun f => amax f * Ideal.ofBits .f32 0x37924925#32) (funext fun k => congrArg a4 (idx_ext rfl ?_))
  show (q : Nat) * 128 + k = 128 * (128 * (q : Nat) / 128) + k
  omega

theorem rowScale_eq (p : Fin 2048) (q : Fin 128) : k0_pay5 a4 (ix2 p q) = scaleOf (k0_pay4 a4 (ix2 p q)) :=
  rowScale_form (k0_pay4 a4) p q

theorem group_eq (p : Fin 2048) (q k : Fin 128) : k0_pay3 a4 (ix3 p q k) = a4 (ix2 p ⟨(q : Nat) * 128 + k, by omega⟩) := by
  unfold k0_pay3 k0_pay2
  pointwise

theorem rowInv_eq (p : Fin 2048) (q k : Fin 128) :
    k0_pay6 a4 (ix3 p q k) = clipOf 0xC7600000#32 0x47600000#32 (k0_pay3 a4 (ix3 p q k) * invOf (k0_pay4 a4 (ix2 p q))) :=
  (rowClip_form (k0_pay3 a4) _ p q k).trans (congrArg (fun z => clipOf 0xC7600000#32 0x47600000#32 (k0_pay3 a4 (ix3 p q k) * z))
    (rowInv_form (k0_pay4 a4) (k0_pay5 a4) p q (rowScale_eq a4 p q)))
theorem rowCode_eq (p : Fin 2048) (q k : Fin 128) :
    k0_pay6 a4 (ix3 p q k) = rowCodeAt a4 p ⟨(q : Nat) * 128 + k, by omega⟩ := by
  have e : rowA d16384 a4 0x37924925#32 p ⟨(q : Nat) * 128 + k, by omega⟩ = k0_pay4 a4 (ix2 p q) := by
    rw [rowMax_eq]
    refine congrArg (fun f => amax f * Ideal.ofBits .f32 0x37924925#32) (funext fun l => congrArg a4 (idx_ext rfl ?_))
    show 128 * (((q : Nat) * 128 + k) / 128) + l = 128 * (128 * (q : Nat) / 128) + l
    omega
  rw [rowInv_eq, group_eq]
  unfold rowCodeAt
  rw [e]

theorem colMax_eq (v : FVec Ideal S2048x16384 .f32) (p : Fin 16) (q : Fin 16384) :
    k0_pay10 v (ix2 p q) = colA d2048 v 0x37924925#32 (first (N := 2048) rfl p) q := by
  unfold k0_pay10
  dsimp only
  rw [mulf_apply, red_col]
  unfold k0_pay9
  pointwise
  refine congrArg (fun f => amax f * Ideal.ofBits .f32 0x37924925#32) (funext fun k => congrArg v (idx_ext ?_ rfl))
  show (p : Nat) * 128 + k = 128 * (128 * (p : Nat) / 128) + k
  omega

theorem colScale_eq (v : FVec Ideal S2048x16384 .f32) (p : Fin 16) (q : Fin 16384) :
    k0_pay11 v (ix2 p q) = scaleOf (k0_pay10 v (ix2 p q)) := colScale_form (k0_pay10 v) p q
theorem colGroup_eq (v : FVec Ideal S2048x16384 .f32) (p : Fin 16) (k : Fin 128) (q : Fin 16384) :
    k0_pay9 v (ix3 p k q) = v (ix2 ⟨(p : Nat) * 128 + k, by omega⟩ q) := by
  unfold k0_pay9
  pointwise
theorem colClip_eq (v : FVec Ideal S2048x16384 .f32) (p : Fin 16) (k : Fin 128) (q : Fin 16384) :
    k0_pay12 v (ix3 p k q) = max (Ideal.ofBits .f32 0xC7600000#32) (v (ix2 ⟨(p : Nat) * 128 + k, by omega⟩ q) * invOf (k0_pay10 v (ix2 p q))) := by
  rw [← colGroup_eq v p k q]
  exact (colClip_form (k0_pay9 v) _ p k q).trans (congrArg (fun z => max (Ideal.ofBits .f32 0xC7600000#32) (k0_pay9 v (ix3 p k q) * z))
    (colInv_form (k0_pay10 v) (k0_pay11 v) p q (colScale_eq v p q)))

theorem colCode_eq (v : FVec Ideal S2048x16384 .f32) (p : Fin 2048) (q : Fin 16384) :
    k0_pay13 (Scalar.ofBits .f32 0x47600000#32) (k0_pay12 v) (ix2 p q)
      = clipOf 0xC7600000#32 0x47600000#32 (v (ix2 p q) * invOf (colA d2048 v 0x37924925#32 p q)) := by
  have e : colA d2048 v 0x37924925#32 p q = k0_pay10 v (ix2 (inGrp (n := 16) rfl p) q) := by
    rw [colMax_eq]
    refine congrArg (fun f => amax f * Ideal.ofBits .f32 0x37924925#32) (funext fun l => congrArg v (idx_ext ?_ rfl))
    show 128 * ((p : Nat) / 128) + l = 128 * (128 * ((p : Nat) / 128) / 128) + l
    omega
  have h := colClip_eq v (inGrp (n := 16) rfl p) ⟨(p : Nat) % 128, by omega⟩ q
  have ep : (⟨(inGrp (n := 16) (N := 2048) rfl p : Nat) * 128 + (p : Nat) % 128, by have := p.isLt; show (p : Nat) / 128 * 128 + (p : Nat) % 128 < 2048; omega⟩ : Fin 2048) = p :=
    Fin.ext (by show (p : Nat) / 128 * 128 + (p : Nat) % 128 = p; omega)
  rw [show (ix2 (⟨(inGrp (n := 16) (N := 2048) rfl p : Nat) * 128 + ((⟨(p : Nat) % 128, by omega⟩ : Fin 128) : Nat), by have := p.isLt; show (p : Nat) / 128 * 128 + (p : Nat) % 128 < 2048; omega⟩ : Fin 2048) q : S2048x16384.Idx) = ix2 p q from congrArg (fun z => ix2 z q) ep] at h
  rw [e]
  unfold k0_pay13
  generalize k0_pay12 v = w at h ⊢
  pointwise
  exact congrArg (min _) h

theorem xMax_eq (p : Fin 16) (q : Fin 4096) :
    k0_pay16 a1 a2 (ix2 p q) = colA d2048 (xnMat a1 a2) 0x3B124925#32 (first (N := 2048) rfl p) q := by
  unfold k0_pay16
  dsimp only
  rw [mulf_apply, red_x]
  unfold k0_pay15
  pointwise
  refine congrArg (fun f => amax f * Ideal.ofBits .f32 0x3B124925#32) (funext fun k => congrArg (xnMat a1 a2) (?_ : ix2 (⟨(p : Nat) * 128 + k, by omega⟩ : Fin 2048) q = ix2 (grp d2048 (first (N := 2048) rfl p) k) q))
  refine congrArg (fun z => ix2 z q) (Fin.ext ?_)
  show (p : Nat) * 128 + k = 128 * (128 * (p : Nat) / 128) + k
  omega
theorem xScale_eq (w : FVec Ideal S16x4096 .f32) (p : Fin 16) (q : Fin 4096) :
    k0_pay17 w (ix2 p q) = scaleOf (w (ix2 p q)) := by
  unfold k0_pay17
  dsimp only
  rw [sel, red_x2]
  pointwise
  rfl
theorem xCode_eq (v : FVec Ideal S16x128x4096 .f32) (w : FVec Ideal S16x4096 .f32) (p : Fin 16) (k : Fin 128) (q : Fin 4096) :
    k0_pay18 v w (ix3 p k q) = clipOf 0xC3E00000#32 0x43E00000#32 (v (ix3 p k q) * invOf (w (ix2 p q))) := by
  have h := xScale_eq w p q
  unfold k0_pay18
  generalize k0_pay17 w = u at h ⊢
  pointwise
  rw [h]
  unfold clipOf invOf
  rw [zero_word]

/-- A number is its group times 128 plus its place in the group. -/
theorem place {n N : Nat} (h : 128 * n = N) (t : Fin N) (hb : (inGrp h t : Nat) * 128 + (t : Nat) % 128 < N) :
    (⟨(inGrp h t : Nat) * 128 + (t : Nat) % 128, hb⟩ : Fin N) = t :=
  Fin.ext (by show (t : Nat) / 128 * 128 + (t : Nat) % 128 = t; omega)

theorem first_grp {N w n : Nat} (h : 128 * n = N) (d : 128 ∣ N) (X : Mat N w) (f : BitVec 32) (p : Fin N) (q : Fin w) :
    colA d X f (first h (inGrp h p)) q = colA d X f p q := by
  refine congrArg (fun g => amax g * Ideal.ofBits .f32 f) (funext fun k => congrArg (fun z => X (ix2 z q)) (Fin.ext ?_))
  show 128 * (128 * ((p : Nat) / 128) / 128) + k = 128 * ((p : Nat) / 128) + k
  omega

theorem pay23_eq : k0_pay23 a0 a1 a2 a3 a4 = a4 := by
  unfold k0_pay23 k0_pay2
  rw [View.ld_unit_zero hz0]
  rfl

theorem pay24_eq : k0_pay24 a0 a1 a2 a3 a4 = k0_pay5 a4 := by
  unfold k0_pay24
  rw [View.ld_unit_zero hz0]

theorem pay25_eq : k0_pay25 a0 a1 a2 a3 a4 = k0_pay15 a1 a2 := by
  unfold k0_pay25
  rw [View.ld_unit_zero hz0, View.ld_unit_zero hz0]

theorem pay26_eq : k0_pay26 a0 a1 a2 a3 a4 = k0_pay16 a1 a2 := by
  unfold k0_pay26
  rw [View.ld_unit_zero hz0, View.ld_unit_zero hz0]

/-- The reference's row codes. -/
theorem G5_apply (p : Fin 2048) (q : Fin 16384) : G5 a0 a1 a2 a3 a4 (ix2 p q) = rowCodeAt a4 p q := by
  have h := rowCode_eq a4 p (inGrp (n := 128) rfl q) ⟨(q : Nat) % 128, by omega⟩
  show k0_pay7 a4 (ix2 p q) = _
  unfold k0_pay7
  generalize k0_pay6 a4 = w at h ⊢
  pointwise
  exact h.trans (congrArg (rowCodeAt a4 p) (place (n := 128) rfl q _))

/-- The reference's row scales. -/
theorem G6_apply (p : Fin 2048) (q : Fin 128) :
    G6 a0 a1 a2 a3 a4 (ix2 p q) = rowScaleAt a4 p (first (N := 16384) rfl q) := by
  show k0_pay24 a0 a1 a2 a3 a4 (ix2 p q) = _
  rw [pay24_eq, rowScale_eq, rowMax_eq]
  rfl

/-- The reference's column codes. -/
theorem G7_apply (p : Fin 2048) (q : Fin 16384) : G7 a0 a1 a2 a3 a4 (ix2 p q) = colCodeAt a4 p q := by
  show k0_pay13 _ (k0_pay12 (k0_pay23 a0 a1 a2 a3 a4)) (ix2 p q) = _
  rw [pay23_eq]
  exact colCode_eq a4 p q

/-- The reference's column scales. -/
theorem G8_apply (p : Fin 16) (q : Fin 16384) :
    G8 a0 a1 a2 a3 a4 (ix2 p q) = colScaleAt a4 (first (N := 2048) rfl p) q := by
  show k0_pay11 (k0_pay23 a0 a1 a2 a3 a4) (ix2 p q) = _
  rw [pay23_eq]
  rw [colScale_eq, colMax_eq]
  rfl

theorem xGroup_eq (p : Fin 16) (k : Fin 128) (q : Fin 4096) :
    k0_pay15 a1 a2 (ix3 p k q) = xnMat a1 a2 (ix2 ⟨(p : Nat) * 128 + k, by omega⟩ q) := by
  unfold k0_pay15
  pointwise
  rfl

/-- The normalised input's code, entry by entry of the grouped array. -/
theorem xEntry_eq (p : Fin 2048) (q : Fin 4096) :
    k0_pay18 (k0_pay15 a1 a2) (k0_pay16 a1 a2) (ix3 (inGrp (n := 16) rfl p) ⟨(p : Nat) % 128, by omega⟩ q) = xCodeAt d2048 a1 a2 p q := by
  rw [xCode_eq, xGroup_eq, xMax_eq, first_grp]
  show clipOf _ _ (xnMat a1 a2 (ix2 ⟨(inGrp (n := 16) (N := 2048) rfl p : Nat) * 128 + (p : Nat) % 128, _⟩ q) * _) = _
  rw [place]
  rfl

theorem xEntryScale_eq (p : Fin 2048) (q : Fin 4096) :
    k0_pay17 (k0_pay16 a1 a2) (ix2 (inGrp (n := 16) rfl p) q) = xScaleAt d2048 a1 a2 p q := by
  rw [xScale_eq, xMax_eq, first_grp]
  rfl

/-- The reference's codes of the normalised input. -/
theorem G9_apply (p : Fin 2048) (q : Fin 4096) : G9 a0 a1 a2 a3 a4 (ix2 p q) = xCodeAt d2048 a1 a2 p q := by
  have h := xEntry_eq a1 a2 p q
  show k0_pay19 (k0_pay25 a0 a1 a2 a3 a4) (k0_pay26 a0 a1 a2 a3 a4) (ix2 p q) = _
  rw [pay25_eq, pay26_eq]
  unfold k0_pay19
  generalize k0_pay18 (k0_pay15 a1 a2) (k0_pay16 a1 a2) = w at h ⊢
  pointwise
  exact h

/-- The reference's scales of the normalised input. -/
theorem G10_apply (p : Fin 16) (z : Fin 1) (q : Fin 4096) :
    G10 a0 a1 a2 a3 a4 (ix3 p z q) = xScaleAt d2048 a1 a2 (first (N := 2048) rfl p) q := by
  have h := xScale_eq (k0_pay16 a1 a2) p q
  rw [xMax_eq] at h
  show k0_pay20 (k0_pay26 a0 a1 a2 a3 a4) (ix3 p z q) = _
  rw [pay26_eq]
  unfold k0_pay20
  generalize k0_pay17 (k0_pay16 a1 a2) = w at h ⊢
  pointwise
  exact h

/-- The reference's dequantised, transposed input. -/
theorem G11_apply (q : Fin 4096) (p : Fin 2048) :
    G11 a0 a1 a2 a3 a4 (ix2 q p) = xCodeAt d2048 a1 a2 p q * xScaleAt d2048 a1 a2 p q := by
  have h := xEntry_eq a1 a2 p q
  have hs := xEntryScale_eq a1 a2 p q
  show k0_pay1 (k0_pay21 (k0_pay25 a0 a1 a2 a3 a4) (k0_pay26 a0 a1 a2 a3 a4)) (k0_pay22 (k0_pay26 a0 a1 a2 a3 a4)) (ix2 q p) = _
  rw [pay25_eq, pay26_eq]
  unfold k0_pay1 k0_pay21 k0_pay22
  generalize k0_pay18 (k0_pay15 a1 a2) (k0_pay16 a1 a2) = w at h ⊢
  generalize k0_pay17 (k0_pay16 a1 a2) = u at hs ⊢
  pointwise
  exact congrArg₂ (fun a b : EReal => a * b) h hs

theorem deq_eq (u : FVec Ideal S2048x128 .f32) (w : FVec Ideal S2048x128x128 .fp8e5m2) (p : Fin 2048) (q : Fin 16384) :
    k0_pay8 u w (ix2 p q) = w (ix3 p (inGrp (n := 128) rfl q) ⟨(q : Nat) % 128, by omega⟩) * u (ix2 p (inGrp (n := 128) rfl q)) := by
  unfold k0_pay8
  pointwise
  rfl

/-- The reference's gradient of the normalised input. -/
theorem G12_apply (p : Fin 2048) (k : Fin 4096) : G12 a0 a1 a2 a3 a4 (ix2 p k) = dxnAt a0 a3 a4 p k := by
  have hd : ∀ q, k0_pay8 (k0_pay5 a4) (k0_pay6 a4) (ix2 p q) = rowCodeAt a4 p q * rowScaleAt a4 p q := by
    intro q
    rw [deq_eq, rowCode_eq, rowScale_eq, rowMax_eq]
    refine congrArg₂ (fun a b : EReal => a * b) (congrArg (rowCodeAt a4 p) (place (n := 128) rfl q _)) (congrArg scaleOf ?_)
    refine congrArg (fun g => amax g * Ideal.ofBits .f32 0x37924925#32) (funext fun k => congrArg (fun z => a4 (ix2 p z)) (Fin.ext ?_))
    show 128 * (128 * ((q : Nat) / 128) / 128) + k = 128 * ((q : Nat) / 128) + k
    omega
  show k0_pay14 (k0_pay8 (k0_pay24 a0 a1 a2 a3 a4) (k0_pay6 a4)) a3 a0 (ix2 p k) = _
  rw [pay24_eq]
  unfold k0_pay14
  generalize k0_pay8 (k0_pay5 a4) (k0_pay6 a4) = w at hd ⊢
  pointwise
  unfold dxnAt
  refine Finset.sum_congr rfl fun q _ => ?_
  rw [hd]
  rfl

end Cert.QuantiseRefIdeal.Value
end
-- ==== Proof.QuantiseEquation.lean ====
module

public import proofs.«01_k».proof.Proof.QuantiseRowArray
public import proofs.«01_k».proof.Proof.QuantiseDxnArray
public import proofs.«01_k».proof.Proof.QuantiseReference
public import proofs.«01_k».proof.Defs

@[expose] public section
set_option maxRecDepth 16384
noncomputable section

/-! The equation for the first call: from memories that agree on the arguments the kernel and the reference end with equal
results. -/
namespace Cert.QuantiseEquation
open Cert.QuantiseIdeal Cert.Spec Idealize.ShloMosaic Idealize.ShloMosaic.TcCoe Idealize.SL.Sem

/-- An index of a matrix is the pair of its two numbers, and one of a cube the triple of its three. -/
theorem pair {r k : Nat} (y : (⟨2, ![r, k]⟩ : Shape).Idx) : ix2 (y 0) (y 1) = y := idx_ext rfl rfl
theorem triple {r s k : Nat} (y : (⟨3, ![r, s, k]⟩ : Shape).Idx) : ix3 (y 0) (y 1) (y 2) = y := Cert.QuantiseIdeal.Value.idx_ext3 rfl rfl rfl

variable (m : (ℓ : Loc nD τ sig) → Buf (Elt Ideal) ℓ) (c : Dev nD)
  (m' : (ℓ : Loc Cert.QuantiseRefIdeal.nD Cert.QuantiseRefIdeal.τ Cert.QuantiseRefIdeal.sig) → Buf (Elt Ideal) ℓ)

/-- The two memories hold the same arguments on device `c`. -/
def Agree : Prop :=
  m' ((c : Thread Cert.QuantiseRefIdeal.nD Cert.QuantiseRefIdeal.τ).loc Cert.QuantiseRefIdeal.main_arg0) = m ((c : Thread nD τ).loc main_arg0)
  ∧ m' ((c : Thread Cert.QuantiseRefIdeal.nD Cert.QuantiseRefIdeal.τ).loc Cert.QuantiseRefIdeal.main_arg1) = m ((c : Thread nD τ).loc main_arg1)
  ∧ m' ((c : Thread Cert.QuantiseRefIdeal.nD Cert.QuantiseRefIdeal.τ).loc Cert.QuantiseRefIdeal.main_arg2) = m ((c : Thread nD τ).loc main_arg2)
  ∧ m' ((c : Thread Cert.QuantiseRefIdeal.nD Cert.QuantiseRefIdeal.τ).loc Cert.QuantiseRefIdeal.main_arg3) = m ((c : Thread nD τ).loc main_arg3)
  ∧ m' ((c : Thread Cert.QuantiseRefIdeal.nD Cert.QuantiseRefIdeal.τ).loc Cert.QuantiseRefIdeal.main_arg4) = m ((c : Thread nD τ).loc main_arg4)

/-- The reference's row codes: the array that the kernel leaves. -/
theorem ref5 (h : Agree m c m') :
    Cert.QuantiseRefIdeal.Value.G5 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W5 m c := by
  obtain ⟨h0, h1, h2, h3, h4⟩ := h
  funext y
  refine (congrArg (Cert.QuantiseRefIdeal.Value.G5 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G5_apply _ _ _ _ _ (y 0) (y 1)).trans ?_)
  rw [h4]
  unfold Cert.QuantiseIdeal.Value.W5
  rw [Cert.QuantiseIdeal.Gen.V_main_arg4]

/-- The reference's row scales: the array that the kernel leaves. -/
theorem ref6 (h : Agree m c m') :
    Cert.QuantiseRefIdeal.Value.G6 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W6 m c := by
  obtain ⟨h0, h1, h2, h3, h4⟩ := h
  funext y
  refine (congrArg (Cert.QuantiseRefIdeal.Value.G6 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G6_apply _ _ _ _ _ (y 0) (y 1)).trans ?_)
  rw [h4]
  unfold Cert.QuantiseIdeal.Value.W6
  rw [Cert.QuantiseIdeal.Gen.V_main_arg4]

/-- The reference's column codes: the array that the kernel leaves. -/
theorem ref7 (h : Agree m c m') :
    Cert.QuantiseRefIdeal.Value.G7 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W7 m c := by
  obtain ⟨h0, h1, h2, h3, h4⟩ := h
  funext y
  refine (congrArg (Cert.QuantiseRefIdeal.Value.G7 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G7_apply _ _ _ _ _ (y 0) (y 1)).trans ?_)
  rw [h4]
  unfold Cert.QuantiseIdeal.Value.W7
  rw [Cert.QuantiseIdeal.Gen.V_main_arg4]

/-- The reference's column scales: the array that the kernel leaves. -/
theorem ref8 (h : Agree m c m') :
    Cert.QuantiseRefIdeal.Value.G8 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W8 m c := by
  obtain ⟨h0, h1, h2, h3, h4⟩ := h
  funext y
  refine (congrArg (Cert.QuantiseRefIdeal.Value.G8 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G8_apply _ _ _ _ _ (y 0) (y 1)).trans ?_)
  rw [h4]
  unfold Cert.QuantiseIdeal.Value.W8
  rw [Cert.QuantiseIdeal.Gen.V_main_arg4]

/-- The reference's codes of the normalised input: the array that the kernel leaves. -/
theorem ref9 (h : Agree m c m') :
    Cert.QuantiseRefIdeal.Value.G9 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W9 m c := by
  obtain ⟨h0, h1, h2, h3, h4⟩ := h
  funext y
  refine (congrArg (Cert.QuantiseRefIdeal.Value.G9 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G9_apply _ _ _ _ _ (y 0) (y 1)).trans ?_)
  rw [h1, h2]
  unfold Cert.QuantiseIdeal.Value.W9
  rw [Cert.QuantiseIdeal.Gen.V_main_arg1, Cert.QuantiseIdeal.Gen.V_main_arg2]

/-- The reference's scales of the normalised input: the array that the kernel leaves. -/
theorem ref10 (h : Agree m c m') :
    Cert.QuantiseRefIdeal.Value.G10 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W10 m c := by
  obtain ⟨h0, h1, h2, h3, h4⟩ := h
  funext y
  refine (congrArg (Cert.QuantiseRefIdeal.Value.G10 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (triple y).symm).trans ((Cert.QuantiseRefIdeal.Value.G10_apply _ _ _ _ _ (y 0) (y 1) (y 2)).trans ?_)
  rw [h1, h2]
  unfold Cert.QuantiseIdeal.Value.W10
  rw [Cert.QuantiseIdeal.Gen.V_main_arg1, Cert.QuantiseIdeal.Gen.V_main_arg2]

/-- The reference's dequantised normalised input: the array that the kernel leaves. -/
theorem ref11 (h : Agree m c m') :
    Cert.QuantiseRefIdeal.Value.G11 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W11 m c := by
  obtain ⟨h0, h1, h2, h3, h4⟩ := h
  funext y
  refine (congrArg (Cert.QuantiseRefIdeal.Value.G11 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G11_apply _ _ _ _ _ (y 0) (y 1)).trans ?_)
  rw [h1, h2]
  unfold Cert.QuantiseIdeal.Value.W11
  rw [Cert.QuantiseIdeal.Gen.V_main_arg1, Cert.QuantiseIdeal.Gen.V_main_arg2]

/-- The reference's gradient of the normalised input: the array that the kernel leaves. -/
theorem ref12 (h : Agree m c m') :
    Cert.QuantiseRefIdeal.Value.G12 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4)) = Cert.QuantiseIdeal.Value.W12 m c := by
  obtain ⟨h0, h1, h2, h3, h4⟩ := h
  funext y
  refine (congrArg (Cert.QuantiseRefIdeal.Value.G12 (m' ((c : Thread Cert.QuantiseRefIdeal.nD Cert.QuantiseRefIdeal.τ).loc Cert.QuantiseRefIdeal.main_arg0)) (m' ((c : Thread Cert.QuantiseRefIdeal.nD Cert.QuantiseRefIdeal.τ).loc Cert.QuantiseRefIdeal.main_arg1)) (m' ((c : Thread Cert.QuantiseRefIdeal.nD Cert.QuantiseRefIdeal.τ).loc Cert.QuantiseRefIdeal.main_arg2)) (m' ((c : Thread Cert.QuantiseRefIdeal.nD Cert.QuantiseRefIdeal.τ).loc Cert.QuantiseRefIdeal.main_arg3)) (m' ((c : Thread Cert.QuantiseRefIdeal.nD Cert.QuantiseRefIdeal.τ).loc Cert.QuantiseRefIdeal.main_arg4))) (pair y).symm).trans ((Cert.QuantiseRefIdeal.Value.G12_apply _ _ _ _ _ (y 0) (y 1)).trans ?_)
  rw [h0, h3, h4]
  unfold Cert.QuantiseIdeal.Value.W12
  rw [Cert.QuantiseIdeal.Gen.V_main_arg0, Cert.QuantiseIdeal.Gen.V_main_arg3, Cert.QuantiseIdeal.Gen.V_main_arg4]

end Cert.QuantiseEquation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.QuantiseFrame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.QuantiseIdealFrame
public import proofs.«01_k».proof.Proof.Gen.QuantiseRefIdeal
public import proofs.«01_k».proof.Proof.Gen.QuantiseRefIdeal.Skeleton
public import proofs.«01_k».proof.Proof.Gen.QuantiseRefIdeal.Launch
public import proofs.«01_k».proof.Proof.Gen.QuantiseRefIdeal.Points
public import proofs.«01_k».proof.Proof.Gen.QuantiseRefIdeal.Frame
public import proofs.«01_k».proof.Proof.QuantiseIdealValue
public import proofs.«01_k».proof.Proof.Gen.QuantiseRefIdeal.Value
public import proofs.«01_k».proof.Proof.Equation
public import proofs.«01_k».proof.Proof.QuantiseEquation
public import Idealize.ShloMosaic.Adequacy
public import Idealize.ShloMosaic.Init

@[expose] public section

noncomputable section

namespace Cert.Proof

open Idealize.ShloMosaic Idealize.SL.Sem Cert.Kernel

/-- Over the extended reals the kernel and the reference end with equal results: both leave the arrays of the
    specification. -/
theorem algebraic : Cert.algebraic_KernelIdeal_ReferenceIdeal (hKernelIdeal := Cert.KernelIdeal.Gen.facts) (hReferenceIdeal := Cert.ReferenceIdeal.Gen.facts) := by
  intro m g m' g' _ hA
  refine ⟨fun c => Cert.KernelIdeal.Value.W6 m c, fun c => Cert.KernelIdeal.Value.W7 m c, fun c => Cert.KernelIdeal.Value.W8 m c, ?_, ?_⟩
  · refine (θ_run _ _ _).mono (fun r h c => ?_) (Cert.KernelIdeal.Value.run_blocks m g)
    obtain ⟨h6, h7, h8, hk⟩ := h c
    exact ⟨h6.trans (Cert.KernelIdeal.Value.final6 m c), h7.trans (Cert.KernelIdeal.Value.final7 m c), h8.trans (Cert.KernelIdeal.Value.final8 m c), hk⟩
  · refine (θ_run _ _ _).mono (fun r h c => ?_) (Cert.ReferenceIdeal.Value.run m' g')
    obtain ⟨h6, h7, h8, hk⟩ := h c
    exact ⟨h6.trans (Cert.Equation.ref6 m c m' (hA c)), h7.trans (Cert.Equation.ref7 m c m' (hA c)), h8.trans (Cert.Equation.ref8 m c m' (hA c)), hk⟩

/-- The same for the first call. -/
theorem algebraic_quantise : Cert.algebraic_QuantiseIdeal_QuantiseRefIdeal (hQuantiseIdeal := Cert.QuantiseIdeal.Gen.facts) (hQuantiseRefIdeal := Cert.QuantiseRefIdeal.Gen.facts) := by
  intro m g m' g' _ hA
  refine ⟨fun c => Cert.QuantiseIdeal.Value.W5 m c, fun c => Cert.QuantiseIdeal.Value.W6 m c, fun c => Cert.QuantiseIdeal.Value.W7 m c, fun c => Cert.QuantiseIdeal.Value.W8 m c, fun c => Cert.QuantiseIdeal.Value.W9 m c, fun c => Cert.QuantiseIdeal.Value.W10 m c, fun c => Cert.QuantiseIdeal.Value.W11 m c, fun c => Cert.QuantiseIdeal.Value.W12 m c, ?_, ?_⟩
  · refine (θ_run _ _ _).mono (fun r h c => ?_) (Cert.QuantiseIdeal.Value.run_blocks m g)
    obtain ⟨h5, h6, h7, h8, h9, h10, h11, h12, hk⟩ := h c
    exact ⟨h5.trans (Cert.QuantiseIdeal.Value.final5 m c), h6.trans (Cert.QuantiseIdeal.Value.final6 m c), h7.trans (Cert.QuantiseIdeal.Value.final7 m c), h8.trans (Cert.QuantiseIdeal.Value.final8 m c), h9.trans (Cert.QuantiseIdeal.Value.final9 m c), h10.trans (Cert.QuantiseIdeal.Value.final10 m c), h11.trans (Cert.QuantiseIdeal.Value.final11 m c), h12.trans (Cert.QuantiseIdeal.Value.final12 m c), hk⟩
  · refine (θ_run _ _ _).mono (fun r h c => ?_) (Cert.QuantiseRefIdeal.Value.run m' g')
    obtain ⟨h5, h6, h7, h8, h9, h10, h11, h12, hk⟩ := h c
    exact ⟨h5.trans (Cert.QuantiseEquation.ref5 m c m' (hA c)), h6.trans (Cert.QuantiseEquation.ref6 m c m' (hA c)), h7.trans (Cert.QuantiseEquation.ref7 m c m' (hA c)), h8.trans (Cert.QuantiseEquation.ref8 m c m' (hA c)), h9.trans (Cert.QuantiseEquation.ref9 m c m' (hA c)), h10.trans (Cert.QuantiseEquation.ref10 m c m' (hA c)), h11.trans (Cert.QuantiseEquation.ref11 m c m' (hA c)), h12.trans (Cert.QuantiseEquation.ref12 m c m' (hA c)), hk⟩

/-- Everything the certificate claims: the six programs run and keep their arguments, the idealisations preserve the two
    calls, and the calls' results equal their references'. -/
theorem claim : Cert.Claim := ⟨Cert.Kernel.Gen.facts, Cert.KernelIdeal.Gen.facts, Cert.ReferenceIdeal.Gen.facts, Cert.Quantise.Gen.facts,
  Cert.QuantiseIdeal.Gen.facts, Cert.QuantiseRefIdeal.Gen.facts, by
  refine ⟨fun m ρ _ => Cert.Kernel.Gen.frame m ρ, fun m ρ _ => Cert.KernelIdeal.Gen.frame m ρ, fun m ρ _ => Cert.ReferenceIdeal.Gen.frame m ρ,
    fun m ρ _ => Cert.Quantise.Gen.frame m ρ, fun m ρ _ => Cert.QuantiseIdeal.Gen.frame m ρ, fun m ρ _ => Cert.QuantiseRefIdeal.Gen.frame m ρ,
    trivial, ?_, trivial, ?_⟩
  · exact algebraic
  · exact algebraic_quantise⟩

end Cert.Proof

end
